-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)) (v4 : (c : Dev Cert.KernelIdeal.nD) → Buf (Elt Ideal) ((c.tc : Thread Cert.KernelIdeal.nD Cert.KernelIdeal.τ).loc Cert.KernelIdeal.main_v46_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_v46_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
    ∧ algebraic_Kernel8Ideal_Reference8Ideal (hKernel8Ideal := hKernel8Ideal) (hReference8Ideal := hReference8Ideal)
    ∧ algebraic_Kernel9Ideal_Reference9Ideal (hKernel9Ideal := hKernel9Ideal) (hReference9Ideal := hReference9Ideal)
    ∧ algebraic_Kernel10Ideal_Reference10Ideal (hKernel10Ideal := hKernel10Ideal) (hReference10Ideal := hReference10Ideal)
    ∧ algebraic_Kernel11Ideal_Reference11Ideal (hKernel11Ideal := hKernel11Ideal) (hReference11Ideal := hReference11Ideal)
    ∧ algebraic_Kernel12Ideal_Reference12Ideal (hKernel12Ideal := hKernel12Ideal) (hReference12Ideal := hReference12Ideal)
    ∧ algebraic_Kernel13Ideal_Reference13Ideal (hKernel13Ideal := hKernel13Ideal) (hReference13Ideal := hReference13Ideal)
    ∧ algebraic_Kernel14Ideal_Reference14Ideal (hKernel14Ideal := hKernel14Ideal) (hReference14Ideal := hReference14Ideal)
-- ==== Pre_finite.lean ====
abbrev S2048x1536 : Shape := ⟨2, ![2048, 1536]⟩
abbrev S2048x2048 : Shape := ⟨2, ![2048, 2048]⟩
abbrev S2048x128 : Shape := ⟨2, ![2048, 128]⟩
abbrev S2048x1024 : Shape := ⟨2, ![2048, 1024]⟩
abbrev S_ : Shape := ⟨0, ![]⟩

class Facts : Prop where
  bitsLt_bf16_f32 : FTy.bits .bf16 < FTy.bits .f32
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x128 : S_.BroadcastsInDim S2048x128 (![] : Fin 0 → Fin S2048x128.rank)
  reducesTo_S2048x128_S_d0_1 : S2048x128.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v16 : IVec S_ 1) (main_v17 : FVec F S2048x1024 .f32) : IVec S_ 1 :=
  let main_cst_4 : FVec F S_ .f32 := constant S_ .f32 0x7F800000#32
  let main_v18 : FVec F S2048x1024 .f32 := broadcastInDim S2048x1024 ![] bcast_S_S2048x1024 main_cst_4
  let main_v19 : IVec S2048x1024 1 := cmpf .olt main_v17 main_v18
  let main_c_5 : IVec S_ 1 := constantI S_ 1 1#1
  let main_v20 : IVec S_ 1 := (fun x v => Host.reduce IntOp.andi x v reducesTo_S2048x1024_S_d0_1 h_S_) main_v19 main_c_5
  let main_v21 : IVec S_ 1 := andi main_v16 main_v20
  main_v21

def fn {F : FTy → Type} [FloatOps F] (main_arg0 : FVec F S2048x1536 .bf16) (main_arg1 : FVec F S2048x2048 .bf16) (main_arg2 : FVec F S2048x128 .bf16) (main_arg3 : FVec F S2048x1024 .f32) : IVec S_ 1 :=
  let main_v0 : FVec F S2048x1536 .f32 := (extf .f32 · bitsLt_bf16_f32) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v4 main_v9
  let main_v11 : FVec F S2048x128 .f32 := (extf .f32 · bitsLt_bf16_f32) main_arg2
  let main_v12 : FVec F S2048x128 .f32 := Host.absf main_v11
  let main_cst_2 : FVec F S_ .f32 := constant S_ .f32 0x7F800000#32
  let main_v13 : FVec F S2048x128 .f32 := broadcastInDim S2048x128 ![] bcast_S_S2048x128 main_cst_2
  let main_v14 : IVec S2048x128 1 := cmpf .olt main_v12 main_v13
  let main_c_3 : IVec S_ 1 := constantI S_ 1 1#1
  let main_v15 : IVec S_ 1 := (fun x v => Host.reduce IntOp.andi x v reducesTo_S2048x128_S_d0_1 h_S_) main_v14 main_c_3
  let main_v16 : IVec S_ 1 := andi main_v10 main_v15
  let main_v17 : FVec F S2048x1024 .f32 := Host.absf main_arg3
  fn_part1 (F := F) main_v16 main_v17
-- ==== Kernel.lean ====
abbrev S2048x1536 : Shape := ⟨2, ![2048, 1536]⟩
abbrev S2048x2048 : Shape := ⟨2, ![2048, 2048]⟩
abbrev S2048x128 : Shape := ⟨2, ![2048, 128]⟩
abbrev S2048x1024 : Shape := ⟨2, ![2048, 1024]⟩
abbrev S2048x512 : Shape := ⟨2, ![2048, 512]⟩
abbrev S2048x8x128 : Shape := ⟨3, ![2048, 8, 128]⟩
abbrev S8x2048x2048 : Shape := ⟨3, ![8, 2048, 2048]⟩
abbrev S2048x8x64 : Shape := ⟨3, ![2048, 8, 64]⟩
abbrev S2048x64 : Shape := ⟨2, ![2048, 64]⟩
abbrev S2048x2048x8 : Shape := ⟨3, ![2048, 2048, 8]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S4x2x2048 : Shape := ⟨3, ![4, 2, 2048]⟩
abbrev S4x2048x2 : Shape := ⟨3, ![4, 2048, 2]⟩
abbrev S4x2048x128 : Shape := ⟨3, ![4, 2048, 128]⟩
abbrev S512x256 : Shape := ⟨2, ![512, 256]⟩
abbrev S2048x256 : Shape := ⟨2, ![2048, 256]⟩
abbrev S1x512x128 : Shape := ⟨3, ![1, 512, 128]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S1x512x1 : Shape := ⟨3, ![1, 512, 1]⟩
abbrev S512x512 : Shape := ⟨2, ![512, 512]⟩

abbrev nBuf : Space → Nat
  | .hbm => 64
  | .vmem => 24
  | .smem => 0
  | _ => 0

abbrev bufTy : (tb : Table) → Fin (tcTables nBuf tb) → BufTy
  | .hbm, ⟨0, _⟩ => ⟨S2048x1536, .bf16⟩
  | .hbm, ⟨1, _⟩ => ⟨S2048x2048, .bf16⟩
  | .hbm, ⟨2, _⟩ => ⟨S2048x128, .bf16⟩
  | .hbm, ⟨3, _⟩ => ⟨S2048x1024, .f32⟩
  | .hbm, ⟨4, _⟩ => ⟨S2048x1024, .bf16⟩
  | .hbm, ⟨5, _⟩ => ⟨S2048x512, .bf16⟩
  | .hbm, ⟨6, _⟩ => ⟨S2048x1024, .bf16⟩
  | .hbm, ⟨7, _⟩ => ⟨S2048x1024, .f32⟩
  | .hbm, ⟨8, _⟩ => ⟨S2048x8x128, .f32⟩
  | .hbm, ⟨9, _⟩ => ⟨S2048x1024, .f32⟩
  | .hbm, ⟨10, _⟩ => ⟨S2048x8x128, .f32⟩
  | .hbm, ⟨11, _⟩ => ⟨S8x2048x2048, .f32⟩
  | .hbm, ⟨12, _⟩ => ⟨S2048x512, .f32⟩
  | .hbm, ⟨13, _⟩ => ⟨S2048x8x64, .f32⟩
  | .hbm, ⟨14, _⟩ => ⟨S2048x64, .bf16⟩
  | .hbm, ⟨15, _⟩ => ⟨S2048x64, .f32⟩
  | .hbm, ⟨16, _⟩ => ⟨S2048x2048x8, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S2048x1024, .bf16⟩
  | .hbm, ⟨47, _⟩ => ⟨S2048x1024, .f32⟩
  | .hbm, ⟨48, _⟩ => ⟨S2048x8x128, .f32⟩
  | .hbm, ⟨49, _⟩ => ⟨S8x128x2048, .f32⟩
  | .hbm, ⟨50, _⟩ => ⟨S2048x8x128, .f32⟩
  | .hbm, ⟨51, _⟩ => ⟨S2048x1024, .f32⟩
  | .hbm, ⟨52, _⟩ => ⟨S8x2048x1, .f32⟩
  | .hbm, ⟨53, _⟩ => ⟨S8x2048x1, .f32⟩
  | .hbm, ⟨54, _⟩ => ⟨S4x2x2048, .f32⟩
  | .hbm, ⟨55, _⟩ => ⟨S4x2048x2, .f32⟩
  | .hbm, ⟨56, _⟩ => ⟨S_, .i32⟩
  | .hbm, ⟨57, _⟩ => ⟨S_, .f32⟩
  | .hbm, ⟨58, _⟩ => ⟨S4x2048x128, .f32⟩
  | .hbm, ⟨59, _⟩ => ⟨S2048x1024, .bf16⟩
  | .hbm, ⟨60, _⟩ => ⟨S2048x1024, .f32⟩
  | .hbm, ⟨61, _⟩ => ⟨S2048x1024, .f32⟩
  | .hbm, ⟨62, _⟩ => ⟨S2048x512, .f32⟩
  | .hbm, ⟨63, _⟩ => ⟨S2048x128, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x512x128, .f32⟩
  | .local _ .vmem, ⟨11, _⟩ => ⟨S1x512x128, .f32⟩
  | .local _ .vmem, ⟨12, _⟩ => ⟨S512x128, .bf16⟩
  | .local _ .vmem, ⟨13, _⟩ => ⟨S512x128, .bf16⟩
  | .local _ .vmem, ⟨14, _⟩ => ⟨S2048x128, .bf16⟩
  | .local _ .vmem, ⟨15, _⟩ => ⟨S512x256, .bf16⟩
  | .local _ .vmem, ⟨16, _⟩ => ⟨S512x256, .bf16⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S512x128, .f32⟩
  | .local _ .vmem, ⟨22, _⟩ => ⟨S512x128, .f32⟩
  | .local _ .vmem, ⟨23, _⟩ => ⟨S2048x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c : Ref sig .tc := ⟨.hbm, 56, rfl⟩
abbrev main_call1_v0 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_v46_3 : Ref sig .tc := ⟨.hbm, 62, rfl⟩
abbrev main_v46_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_47 : BitVec 32 := 0#32
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let v74 : BitVec 32 := Scalar.subi v37 c0_i32_47
  let c1_i32_48 : BitVec 32 := 1#32
  let v76 : BitVec 32 := Scalar.divsi v74 c1_i32_48
  let v77 : BitVec 32 := Scalar.muli v76 c1_i32_48
  let v78 : BitVec 32 := Scalar.addi c0_i32_47 v77
  let c1_i32_49 : BitVec 32 := 1#32
  ⟨c0_i32_47, v78, c1_i32_49⟩
def k0_mult1 (i : grid0.Coords) (k0_t1 : Fin (k0_t1_loop i).trips) : BitVec 32 :=
  let c0_i32_47 : BitVec 32 := 0#32
  let c1_i32_49 : BitVec 32 := 1#32
  let arg15 : BitVec 32 := Scf.iv c0_i32_47 c1_i32_49 k0_t1
  let c512_i32_58 : BitVec 32 := 512#32
  let v93 : BitVec 32 := Scalar.muli arg15 c512_i32_58
  v93
def k0_off1 (i : grid0.Coords) (k0_t1 : Fin (k0_t1_loop i).trips) : Fin 2 → Nat :=
  let c0_i32_47 : BitVec 32 := 0#32
  let c1_i32_49 : BitVec 32 := 1#32
  let arg15 : BitVec 32 := Scf.iv c0_i32_47 c1_i32_49 k0_t1
  let c512_i32_58 : BitVec 32 := 512#32
  let v93 : BitVec 32 := Scalar.muli arg15 c512_i32_58
  let v94 : BitVec 32 := v93
  let v95 : Index := Scalar.indexCast v94
  let c0_59 : Index := 0#32
  ![v95.toNat, 0]
def k0_off2 (i : grid0.Coords) (k0_t1 : Fin (k0_t1_loop i).trips) : Fin 2 → Nat :=
  let c0_i32_47 : BitVec 32 := 0#32
  let c1_i32_49 : BitVec 32 := 1#32
  let arg15 : BitVec 32 := Scf.iv c0_i32_47 c1_i32_49 k0_t1
  let c512_i32_58 : BitVec 32 := 512#32
  let v93 : BitVec 32 := Scalar.muli arg15 c512_i32_58
  let v94 : BitVec 32 := v93
  let v97 : Index := Scalar.indexCast v94
  let c0_60 : Index := 0#32
  ![v97.toNat, 0]
def k0_off3 (i : grid0.Coords) (k0_t1 : Fin (k0_t1_loop i).trips) : Fin 2 → Nat :=
  let c0_i32_47 : BitVec 32 := 0#32
  let c1_i32_49 : BitVec 32 := 1#32
  let arg15 : BitVec 32 := Scf.iv c0_i32_47 c1_i32_49 k0_t1
  let c512_i32_58 : BitVec 32 := 512#32
  let v93 : BitVec 32 := Scalar.muli arg15 c512_i32_58
  let v94 : BitVec 32 := v93
  let v136 : Index := Scalar.indexCast v94
  let c128_76 : Index := 128#32
  ![v136.toNat, 128]
@[reducible] def k0_t2_loop (i : grid0.Coords) : Scf.Loop 32 :=
  let c0_i32_47 : BitVec 32 := 0#32
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let v74 : BitVec 32 := Scalar.subi v37 c0_i32_47
  let c1_i32_48 : BitVec 32 := 1#32
  let v76 : BitVec 32 := Scalar.divsi v74 c1_i32_48
  let v77 : BitVec 32 := Scalar.muli v76 c1_i32_48
  let v78 : BitVec 32 := Scalar.addi c0_i32_47 v77
  let v75 : BitVec 32 := Scalar.addi c0_i32_47 v74
  let c1_i32_50 : BitVec 32 := 1#32
  ⟨v78, v75, c1_i32_50⟩
def k0_mult2 (i : grid0.Coords) (k0_t2 : Fin (k0_t2_loop i).trips) : BitVec 32 :=
  let c0_i32_47 : BitVec 32 := 0#32
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let v74 : BitVec 32 := Scalar.subi v37 c0_i32_47
  let c1_i32_48 : BitVec 32 := 1#32
  let v76 : BitVec 32 := Scalar.divsi v74 c1_i32_48
  let v77 : BitVec 32 := Scalar.muli v76 c1_i32_48
  let v78 : BitVec 32 := Scalar.addi c0_i32_47 v77
  let c1_i32_50 : BitVec 32 := 1#32
  let arg15 : BitVec 32 := Scf.iv v78 c1_i32_50 k0_t2
  let c512_i32_58 : BitVec 32 := 512#32
  let v93 : BitVec 32 := Scalar.muli arg15 c512_i32_58
  v93
def k0_off4 (i : grid0.Coords) (k0_t2 : Fin (k0_t2_loop i).trips) : Fin 2 → Nat :=
  let c0_i32_47 : BitVec 32 := 0#32
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let v74 : BitVec 32 := Scalar.subi v37 c0_i32_47
  let c1_i32_48 : BitVec 32 := 1#32
  let v76 : BitVec 32 := Scalar.divsi v74 c1_i32_48
  let v77 : BitVec 32 := Scalar.muli v76 c1_i32_48
  let v78 : BitVec 32 := Scalar.addi c0_i32_47 v77
  let c1_i32_50 : BitVec 32 := 1#32
  let arg15 : BitVec 32 := Scf.iv v78 c1_i32_50 k0_t2
  let c512_i32_58 : BitVec 32 := 512#32
  let v93 : BitVec 32 := Scalar.muli arg15 c512_i32_58
  let v94 : BitVec 32 := v93
  let v95 : Index := Scalar.indexCast v94
  let c0_59 : Index := 0#32
  ![v95.toNat, 0]
def k0_off5 (i : grid0.Coords) (k0_t2 : Fin (k0_t2_loop i).trips) : Fin 2 → Nat :=
  let c0_i32_47 : BitVec 32 := 0#32
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let v74 : BitVec 32 := Scalar.subi v37 c0_i32_47
  let c1_i32_48 : BitVec 32 := 1#32
  let v76 : BitVec 32 := Scalar.divsi v74 c1_i32_48
  let v77 : BitVec 32 := Scalar.muli v76 c1_i32_48
  let v78 : BitVec 32 := Scalar.addi c0_i32_47 v77
  let c1_i32_50 : BitVec 32 := 1#32
  let arg15 : BitVec 32 := Scf.iv v78 c1_i32_50 k0_t2
  let c512_i32_58 : BitVec 32 := 512#32
  let v93 : BitVec 32 := Scalar.muli arg15 c512_i32_58
  let v94 : BitVec 32 := v93
  let v97 : Index := Scalar.indexCast v94
  let c0_60 : Index := 0#32
  ![v97.toNat, 0]
def k0_off6 (i : grid0.Coords) (k0_t2 : Fin (k0_t2_loop i).trips) : Fin 2 → Nat :=
  let c0_i32_47 : BitVec 32 := 0#32
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let v74 : BitVec 32 := Scalar.subi v37 c0_i32_47
  let c1_i32_48 : BitVec 32 := 1#32
  let v76 : BitVec 32 := Scalar.divsi v74 c1_i32_48
  let v77 : BitVec 32 := Scalar.muli v76 c1_i32_48
  let v78 : BitVec 32 := Scalar.addi c0_i32_47 v77
  let c1_i32_50 : BitVec 32 := 1#32
  let arg15 : BitVec 32 := Scf.iv v78 c1_i32_50 k0_t2
  let c512_i32_58 : BitVec 32 := 512#32
  let v93 : BitVec 32 := Scalar.muli arg15 c512_i32_58
  let v94 : BitVec 32 := v93
  let v136 : Index := Scalar.indexCast v94
  let c128_76 : Index := 128#32
  ![v136.toNat, 128]
@[reducible] def k0_t3_loop (i : grid0.Coords) : Scf.Loop 32 :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v81 : BitVec 32 := Scalar.subi v20 v37
  let c1_i32_51 : BitVec 32 := 1#32
  let v83 : BitVec 32 := Scalar.divsi v81 c1_i32_51
  let v84 : BitVec 32 := Scalar.muli v83 c1_i32_51
  let v85 : BitVec 32 := Scalar.addi v37 v84
  let c1_i32_52 : BitVec 32 := 1#32
  ⟨v37, v85, c1_i32_52⟩
def k0_mult3 (i : grid0.Coords) (k0_t3 : Fin (k0_t3_loop i).trips) : BitVec 32 :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c1_i32_52 : BitVec 32 := 1#32
  let arg15 : BitVec 32 := Scf.iv v37 c1_i32_52 k0_t3
  let c512_i32_58 : BitVec 32 := 512#32
  let v93 : BitVec 32 := Scalar.muli arg15 c512_i32_58
  v93
def k0_off7 (i : grid0.Coords) (k0_t3 : Fin (k0_t3_loop i).trips) : Fin 2 → Nat :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c1_i32_52 : BitVec 32 := 1#32
  let arg15 : BitVec 32 := Scf.iv v37 c1_i32_52 k0_t3
  let c512_i32_58 : BitVec 32 := 512#32
  let v93 : BitVec 32 := Scalar.muli arg15 c512_i32_58
  let v94 : BitVec 32 := v93
  let v95 : Index := Scalar.indexCast v94
  let c0_59 : Index := 0#32
  ![v95.toNat, 0]
def k0_off8 (i : grid0.Coords) (k0_t3 : Fin (k0_t3_loop i).trips) : Fin 2 → Nat :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c1_i32_52 : BitVec 32 := 1#32
  let arg15 : BitVec 32 := Scf.iv v37 c1_i32_52 k0_t3
  let c512_i32_58 : BitVec 32 := 512#32
  let v93 : BitVec 32 := Scalar.muli arg15 c512_i32_58
  let v94 : BitVec 32 := v93
  let v104 : Index := Scalar.indexCast v94
  let c0_60 : Index := 0#32
  ![v104.toNat, 0]
def k0_off9 (i : grid0.Coords) (k0_t3 : Fin (k0_t3_loop i).trips) : Fin 2 → Nat :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c1_i32_52 : BitVec 32 := 1#32
  let arg15 : BitVec 32 := Scf.iv v37 c1_i32_52 k0_t3
  let c512_i32_58 : BitVec 32 := 512#32
  let v93 : BitVec 32 := Scalar.muli arg15 c512_i32_58
  let v94 : BitVec 32 := v93
  let v147 : Index := Scalar.indexCast v94
  let c128_78 : Index := 128#32
  ![v147.toNat, 128]
@[reducible] def k0_t4_loop (i : grid0.Coords) : Scf.Loop 32 :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v81 : BitVec 32 := Scalar.subi v20 v37
  let c1_i32_51 : BitVec 32 := 1#32
  let v83 : BitVec 32 := Scalar.divsi v81 c1_i32_51
  let v84 : BitVec 32 := Scalar.muli v83 c1_i32_51
  let v85 : BitVec 32 := Scalar.addi v37 v84
  let v82 : BitVec 32 := Scalar.addi v37 v81
  let c1_i32_53 : BitVec 32 := 1#32
  ⟨v85, v82, c1_i32_53⟩
def k0_mult4 (i : grid0.Coords) (k0_t4 : Fin (k0_t4_loop i).trips) : BitVec 32 :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v81 : BitVec 32 := Scalar.subi v20 v37
  let c1_i32_51 : BitVec 32 := 1#32
  let v83 : BitVec 32 := Scalar.divsi v81 c1_i32_51
  let v84 : BitVec 32 := Scalar.muli v83 c1_i32_51
  let v85 : BitVec 32 := Scalar.addi v37 v84
  let c1_i32_53 : BitVec 32 := 1#32
  let arg15 : BitVec 32 := Scf.iv v85 c1_i32_53 k0_t4
  let c512_i32_58 : BitVec 32 := 512#32
  let v93 : BitVec 32 := Scalar.muli arg15 c512_i32_58
  v93
def k0_off10 (i : grid0.Coords) (k0_t4 : Fin (k0_t4_loop i).trips) : Fin 2 → Nat :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v81 : BitVec 32 := Scalar.subi v20 v37
  let c1_i32_51 : BitVec 32 := 1#32
  let v83 : BitVec 32 := Scalar.divsi v81 c1_i32_51
  let v84 : BitVec 32 := Scalar.muli v83 c1_i32_51
  let v85 : BitVec 32 := Scalar.addi v37 v84
  let c1_i32_53 : BitVec 32 := 1#32
  let arg15 : BitVec 32 := Scf.iv v85 c1_i32_53 k0_t4
  let c512_i32_58 : BitVec 32 := 512#32
  let v93 : BitVec 32 := Scalar.muli arg15 c512_i32_58
  let v94 : BitVec 32 := v93
  let v95 : Index := Scalar.indexCast v94
  let c0_59 : Index := 0#32
  ![v95.toNat, 0]
def k0_off11 (i : grid0.Coords) (k0_t4 : Fin (k0_t4_loop i).trips) : Fin 2 → Nat :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v81 : BitVec 32 := Scalar.subi v20 v37
  let c1_i32_51 : BitVec 32 := 1#32
  let v83 : BitVec 32 := Scalar.divsi v81 c1_i32_51
  let v84 : BitVec 32 := Scalar.muli v83 c1_i32_51
  let v85 : BitVec 32 := Scalar.addi v37 v84
  let c1_i32_53 : BitVec 32 := 1#32
  let arg15 : BitVec 32 := Scf.iv v85 c1_i32_53 k0_t4
  let c512_i32_58 : BitVec 32 := 512#32
  let v93 : BitVec 32 := Scalar.muli arg15 c512_i32_58
  let v94 : BitVec 32 := v93
  let v104 : Index := Scalar.indexCast v94
  let c0_60 : Index := 0#32
  ![v104.toNat, 0]
def k0_off12 (i : grid0.Coords) (k0_t4 : Fin (k0_t4_loop i).trips) : Fin 2 → Nat :=
  let arg1 : BitVec 32 := BitVec.ofNat 32 (i 1).val
  let c512_i32 : BitVec 32 := 512#32
  let v0 : BitVec 32 := Scalar.muli arg1 c512_i32
  let c0_i32_9 : BitVec 32 := 0#32
  let v22 : BitVec 1 := Scalar.cmpi .sgt v0 c0_i32_9
  let v23 : BitVec 32 := Scalar.extui v22
  let c0_i32_10 : BitVec 32 := 0#32
  let v24 : BitVec 1 := Scalar.cmpi .slt v0 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v0 c512_i32_8
  let c0_i32_13 : BitVec 32 := 0#32
  let v34 : BitVec 1 := Scalar.cmpi .ne v33 c0_i32_13
  let v35 : BitVec 1 := Scalar.andi v32 v34
  let v21 : BitVec 32 := Scalar.divsi v0 c512_i32_8
  let c1_i32_14 : BitVec 32 := 1#32
  let v36 : BitVec 32 := Scalar.subi v21 c1_i32_14
  let v37 : BitVec 32 := Scalar.select v35 v36 v21
  let c512_i32_0 : BitVec 32 := 512#32
  let v1 : BitVec 32 := Scalar.addi v0 c512_i32_0
  let c512_i32_1 : BitVec 32 := 512#32
  let v2 : BitVec 32 := Scalar.addi v1 c512_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32_2 : BitVec 32 := 512#32
  let c0_i32_4 : BitVec 32 := 0#32
  let v10 : BitVec 1 := Scalar.cmpi .sgt c512_i32_2 c0_i32_4
  let v11 : BitVec 32 := Scalar.extui v10
  let c0_i32_5 : BitVec 32 := 0#32
  let v12 : BitVec 1 := Scalar.cmpi .slt c512_i32_2 c0_i32_5
  let v13 : BitVec 32 := Scalar.extui v12
  let v14 : BitVec 32 := Scalar.subi v11 v13
  let v15 : BitVec 1 := Scalar.cmpi .ne v9 v14
  let v16 : BitVec 32 := Scalar.remsi v3 c512_i32_2
  let c0_i32_6 : BitVec 32 := 0#32
  let v17 : BitVec 1 := Scalar.cmpi .ne v16 c0_i32_6
  let v18 : BitVec 1 := Scalar.andi v15 v17
  let v4 : BitVec 32 := Scalar.divsi v3 c512_i32_2
  let c1_i32_7 : BitVec 32 := 1#32
  let v19 : BitVec 32 := Scalar.subi v4 c1_i32_7
  let v20 : BitVec 32 := Scalar.select v18 v19 v4
  let v81 : BitVec 32 := Scalar.subi v20 v37
  let c1_i32_51 : BitVec 32 := 1#32
  let v83 : BitVec 32 := Scalar.divsi v81 c1_i32_51
  let v84 : BitVec 32 := Scalar.muli v83 c1_i32_51
  let v85 : BitVec 32 := Scalar.addi v37 v84
  let c1_i32_53 : BitVec 32 := 1#32
  let arg15 : BitVec 32 := Scf.iv v85 c1_i32_53 k0_t4
  let c512_i32_58 : BitVec 32 := 512#32
  let v93 : BitVec 32 := Scalar.muli arg15 c512_i32_58
  let v94 : BitVec 32 := v93
  let v147 : Index := Scalar.indexCast v94
  let c128_78 : Index := 128#32
  ![v147.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S2048x1536 : Shape := ⟨2, ![2048, 1536]⟩
abbrev S2048x2048 : Shape := ⟨2, ![2048, 2048]⟩
abbrev S2048x128 : Shape := ⟨2, ![2048, 128]⟩
abbrev S2048x1024 : Shape := ⟨2, ![2048, 1024]⟩
abbrev S2048x512 : Shape := ⟨2, ![2048, 512]⟩
abbrev S2048x8x128 : Shape := ⟨3, ![2048, 8, 128]⟩
abbrev S8x2048x2048 : Shape := ⟨3, ![8, 2048, 2048]⟩
abbrev S2048x8x64 : Shape := ⟨3, ![2048, 8, 64]⟩
abbrev S2048x64 : Shape := ⟨2, ![2048, 64]⟩
abbrev S2048x2048x8 : Shape := ⟨3, ![2048, 2048, 8]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩

abbrev nBuf : Space → Nat
  | .hbm => 120
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x2048, .bf16⟩
  | .hbm, ⟨2, _⟩ => ⟨S2048x128, .bf16⟩
  | .hbm, ⟨3, _⟩ => ⟨S2048x1024, .f32⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x512, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x512, .f32⟩
  | .hbm, ⟨12, _⟩ => ⟨S2048x128, .f32⟩
  | .hbm, ⟨13, _⟩ => ⟨S2048x8x128, .f32⟩
  | .hbm, ⟨14, _⟩ => ⟨S2048x8x128, .f32⟩
  | .hbm, ⟨15, _⟩ => ⟨S8x2048x2048, .f32⟩
  | .hbm, ⟨16, _⟩ => ⟨S2048x8x64, .f32⟩
  | .hbm, ⟨17, _⟩ => ⟨S2048x64, .f32⟩
  | .hbm, ⟨18, _⟩ => ⟨S2048x2048x8, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S1x2048x2048, .i1⟩
  | .hbm, ⟨32, _⟩ => ⟨S_, .f32⟩
  | .hbm, ⟨33, _⟩ => ⟨S_, .f32⟩
  | .hbm, ⟨34, _⟩ => ⟨S8x2048x2048, .i1⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .i1⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S_, .f32⟩
  | .hbm, ⟨48, _⟩ => ⟨S8x2048, .f32⟩
  | .hbm, ⟨49, _⟩ => ⟨S8x2048, .f32⟩
  | .hbm, ⟨50, _⟩ => ⟨S_, .f32⟩
  | .hbm, ⟨51, _⟩ => ⟨S8x2048, .f32⟩
  | .hbm, ⟨52, _⟩ => ⟨S8x2048, .i1⟩
  | .hbm, ⟨53, _⟩ => ⟨S_, .f32⟩
  | .hbm, ⟨54, _⟩ => ⟨S8x2048, .f32⟩
  | .hbm, ⟨55, _⟩ => ⟨S8x2048, .i1⟩
  | .hbm, ⟨56, _⟩ => ⟨S_, .f32⟩
  | .hbm, ⟨57, _⟩ => ⟨S8x2048, .f32⟩
  | .hbm, ⟨58, _⟩ => ⟨S_, .f32⟩
  | .hbm, ⟨59, _⟩ => ⟨S8x2048, .f32⟩
  | .hbm, ⟨60, _⟩ => ⟨S_, .f32⟩
  | .hbm, ⟨61, _⟩ => ⟨S8x2048, .f32⟩
  | .hbm, ⟨62, _⟩ => ⟨S8x2048, .f32⟩
  | .hbm, ⟨63, _⟩ => ⟨S8x2048, .f32⟩
  | .hbm, ⟨64, _⟩ => ⟨S8x2048x1, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S8x2048x2048, .f32⟩
  | .hbm, ⟨72, _⟩ => ⟨S8x2048x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S2048x8x128, .f32⟩
  | .hbm, ⟨78, _⟩ => ⟨S8x128x2048, .f32⟩
  | .hbm, ⟨79, _⟩ => ⟨S2048x8x128, .f32⟩
  | .hbm, ⟨80, _⟩ => ⟨S2048x1024, .f32⟩
  | .hbm, ⟨81, _⟩ => ⟨S2048x8x128, .f32⟩
  | .hbm, ⟨82, _⟩ => ⟨S8x128x2048, .f32⟩
  | .hbm, ⟨83, _⟩ => ⟨S8x2048x2048, .f32⟩
  | .hbm, ⟨84, _⟩ => ⟨S8x128x2048, .f32⟩
  | .hbm, ⟨85, _⟩ => ⟨S2048x8x128, .f32⟩
  | .hbm, ⟨86, _⟩ => ⟨S2048x1024, .f32⟩
  | .hbm, ⟨87, _⟩ => ⟨S8x2048x2048, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x2048x1, .f32⟩
  | .hbm, ⟨93, _⟩ => ⟨S8x2048x1, .f32⟩
  | .hbm, ⟨94, _⟩ => ⟨S8x2048x2048, .f32⟩
  | .hbm, ⟨95, _⟩ => ⟨S8x2048x2048, .f32⟩
  | .hbm, ⟨96, _⟩ => ⟨S_, .f32⟩
  | .hbm, ⟨97, _⟩ => ⟨S8x2048, .f32⟩
  | .hbm, ⟨98, _⟩ => ⟨S8x2048x2048, .f32⟩
  | .hbm, ⟨99, _⟩ => ⟨S8x2048x2048, .f32⟩
  | .hbm, ⟨100, _⟩ => ⟨S8x2048x2048, .f32⟩
  | .hbm, ⟨101, _⟩ => ⟨S_, .f32⟩
  | .hbm, ⟨102, _⟩ => ⟨S8x2048x2048, .f32⟩
  | .hbm, ⟨103, _⟩ => ⟨S8x2048x2048, .f32⟩
  | .hbm, ⟨104, _⟩ => ⟨S_, .f32⟩
  | .hbm, ⟨105, _⟩ => ⟨S8x2048x2048, .f32⟩
  | .hbm, ⟨106, _⟩ => ⟨S8x2048x2048, .f32⟩
  | .hbm, ⟨107, _⟩ => ⟨S2048x2048x8, .f32⟩
  | .hbm, ⟨108, _⟩ => ⟨S2048x8x64, .f32⟩
  | .hbm, ⟨109, _⟩ => ⟨S2048x64, .f32⟩
  | .hbm, ⟨110, _⟩ => ⟨S_, .f32⟩
  | .hbm, ⟨111, _⟩ => ⟨S2048x128, .f32⟩
  | .hbm, ⟨112, _⟩ => ⟨S2048x512, .f32⟩
  | .hbm, ⟨113, _⟩ => ⟨S8x2048x128, .f32⟩
  | .hbm, ⟨114, _⟩ => ⟨S2048x8x128, .f32⟩
  | .hbm, ⟨115, _⟩ => ⟨S8x2048x128, .f32⟩
  | .hbm, ⟨116, _⟩ => ⟨S2048x8x128, .f32⟩
  | .hbm, ⟨117, _⟩ => ⟨S2048x1024, .f32⟩
  | .hbm, ⟨118, _⟩ => ⟨S2048x1024, .f32⟩
  | .hbm, ⟨119, _⟩ => ⟨S2048x1024, .bf16⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call0_v0 : Ref sig .tc := ⟨.hbm, 33, rfl⟩
abbrev main_v27_1 : Ref sig .tc := ⟨.hbm, 34, rfl⟩
abbrev main_call0_v2 : Ref sig .tc := ⟨.hbm, 35, rfl⟩
abbrev main_v27_0 : Ref sig .tc := ⟨.hbm, 36, rfl⟩
abbrev main_call0_cst : Ref sig .tc := ⟨.hbm, 37, rfl⟩
abbrev main_v27_2 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_call1_cst : Ref sig .tc := ⟨.hbm, 101, rfl⟩
abbrev main_call1_v0 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== Kernel2.lean ====
abbrev S2048x2048 : Shape := ⟨2, ![2048, 2048]⟩
abbrev S4x2x1024x1408 : Shape := ⟨4, ![4, 2, 1024, 1408]⟩
abbrev S4x2048x1408 : Shape := ⟨3, ![4, 2048, 1408]⟩
abbrev S2048x5632 : Shape := ⟨2, ![2048, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2x1024x1408, .bf16⟩
  | .hbm, ⟨2, _⟩ => ⟨S4x2048x1408, .bf16⟩
  | .hbm, ⟨3, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S4x2x1024x1408 : Shape := ⟨4, ![4, 2, 1024, 1408]⟩
abbrev S2x1024x4x1408 : Shape := ⟨4, ![2, 1024, 4, 1408]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2x1024x1408, .bf16⟩
  | .hbm, ⟨2, _⟩ => ⟨S2048x2048, .f32⟩
  | .hbm, ⟨3, _⟩ => ⟨S2x1024x4x1408, .bf16⟩
  | .hbm, ⟨4, _⟩ => ⟨S2048x5632, .bf16⟩
  | .hbm, ⟨5, _⟩ => ⟨S2048x5632, .f32⟩
  | .hbm, ⟨6, _⟩ => ⟨S2048x5632, .f32⟩
  | .hbm, ⟨7, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S2048x2048 : Shape := ⟨2, ![2048, 2048]⟩
abbrev S2048x5632 : Shape := ⟨2, ![2048, 5632]⟩
abbrev S2x4x1024x1408 : Shape := ⟨4, ![2, 4, 1024, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2x4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .bf16⟩
  | .local _ .vmem, ⟨5, _⟩ => ⟨S1x1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S2048x5632 : Shape := ⟨2, ![2048, 5632]⟩
abbrev S2x1024x4x1408 : Shape := ⟨4, ![2, 1024, 4, 1408]⟩
abbrev S2x4x1024x1408 : Shape := ⟨4, ![2, 4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x2048, .f32⟩
  | .hbm, ⟨3, _⟩ => ⟨S2048x5632, .f32⟩
  | .hbm, ⟨4, _⟩ => ⟨S2048x5632, .f32⟩
  | .hbm, ⟨5, _⟩ => ⟨S2x1024x4x1408, .f32⟩
  | .hbm, ⟨6, _⟩ => ⟨S2x4x1024x1408, .f32⟩
  | .hbm, ⟨7, _⟩ => ⟨S2x4x1024x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S2048x5632 : Shape := ⟨2, ![2048, 5632]⟩
abbrev S2048x2048 : Shape := ⟨2, ![2048, 2048]⟩
abbrev S2x4x1408x1024 : Shape := ⟨4, ![2, 4, 1408, 1024]⟩
abbrev S2048x1408 : Shape := ⟨2, ![2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S2x4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1x1x1408x1024, .bf16⟩
  | .local _ .vmem, ⟨5, _⟩ => ⟨S1x1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x5632 : Shape := ⟨2, ![2048, 5632]⟩
abbrev S2048x2048 : Shape := ⟨2, ![2048, 2048]⟩
abbrev S5632x2048 : Shape := ⟨2, ![5632, 2048]⟩
abbrev S4x1408x2x1024 : Shape := ⟨4, ![4, 1408, 2, 1024]⟩
abbrev S2x4x1408x1024 : Shape := ⟨4, ![2, 4, 1408, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .f32⟩
  | .hbm, ⟨2, _⟩ => ⟨S2048x5632, .f32⟩
  | .hbm, ⟨3, _⟩ => ⟨S5632x2048, .f32⟩
  | .hbm, ⟨4, _⟩ => ⟨S4x1408x2x1024, .f32⟩
  | .hbm, ⟨5, _⟩ => ⟨S2x4x1408x1024, .f32⟩
  | .hbm, ⟨6, _⟩ => ⟨S2x4x1408x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S2048x2048 : Shape := ⟨2, ![2048, 2048]⟩
abbrev S2048x3072 : Shape := ⟨2, ![2048, 3072]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x2048, .f32⟩
  | .hbm, ⟨3, _⟩ => ⟨S2048x3072, .f32⟩
  | .hbm, ⟨4, _⟩ => ⟨S2048x3072, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2048x2048 : Shape := ⟨2, ![2048, 2048]⟩
abbrev S2048x3072 : Shape := ⟨2, ![2048, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S2048x3072 : Shape := ⟨2, ![2048, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x2048, .f32⟩
  | .hbm, ⟨3, _⟩ => ⟨S2048x3072, .f32⟩
  | .hbm, ⟨4, _⟩ => ⟨S2048x3072, .f32⟩
  | .hbm, ⟨5, _⟩ => ⟨S2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S2048x2048 : Shape := ⟨2, ![2048, 2048]⟩
abbrev S2x4x512x1024 : Shape := ⟨4, ![2, 4, 512, 1024]⟩
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2x4x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x1x512x1024, .bf16⟩
  | .local _ .vmem, ⟨5, _⟩ => ⟨S1x1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S4x512x2x1024 : Shape := ⟨4, ![4, 512, 2, 1024]⟩
abbrev S2x4x512x1024 : Shape := ⟨4, ![2, 4, 512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S4x512x2x1024, .f32⟩
  | .hbm, ⟨5, _⟩ => ⟨S2x4x512x1024, .f32⟩
  | .hbm, ⟨6, _⟩ => ⟨S2x4x512x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S2048x5632 : Shape := ⟨2, ![2048, 5632]⟩
abbrev S4x2x1408x1024 : Shape := ⟨4, ![4, 2, 1408, 1024]⟩
abbrev S2048x2048 : Shape := ⟨2, ![2048, 2048]⟩
abbrev S1024x1408 : Shape := ⟨2, ![1024, 1408]⟩
abbrev S1x1x1408x1024 : Shape := ⟨4, ![1, 1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S4x2x1408x1024, .bf16⟩
  | .hbm, ⟨2, _⟩ => ⟨S2048x2048, .f32⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg2 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2048x5632 : Shape := ⟨2, ![2048, 5632]⟩
abbrev S4x2x1408x1024 : Shape := ⟨4, ![4, 2, 1408, 1024]⟩
abbrev S2048x2048 : Shape := ⟨2, ![2048, 2048]⟩
abbrev S4x1408x2x1024 : Shape := ⟨4, ![4, 1408, 2, 1024]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2x1408x1024, .bf16⟩
  | .hbm, ⟨2, _⟩ => ⟨S2048x2048, .f32⟩
  | .hbm, ⟨3, _⟩ => ⟨S2048x5632, .f32⟩
  | .hbm, ⟨4, _⟩ => ⟨S4x1408x2x1024, .bf16⟩
  | .hbm, ⟨5, _⟩ => ⟨S5632x2048, .bf16⟩
  | .hbm, ⟨6, _⟩ => ⟨S5632x2048, .f32⟩
  | .hbm, ⟨7, _⟩ => ⟨S2048x2048, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x2048 : Shape := ⟨2, ![2048, 2048]⟩
abbrev S4x2x1408x1024 : Shape := ⟨4, ![4, 2, 1408, 1024]⟩
abbrev S2048x5632 : Shape := ⟨2, ![2048, 5632]⟩
abbrev S1024x1024 : Shape := ⟨2, ![1024, 1024]⟩
abbrev S1x1x1408x1024 : Shape := ⟨4, ![1, 1, 1408, 1024]⟩
abbrev S1024x1408 : Shape := ⟨2, ![1024, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x2x1408x1024, .bf16⟩
  | .hbm, ⟨2, _⟩ => ⟨S2048x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_8 : BitVec 32 := 1#32
  let v13 : BitVec 1 := Scalar.cmpi .eq arg2 c1_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg2 c1_i32_5
  let c0_i32_6 : BitVec 32 := 0#32
  let v18 : BitVec 1 := Scalar.cmpi .sgt arg2 c0_i32_6
  let v19 : BitVec 32 := Scalar.extui v18
  let c0_i32_7 : BitVec 32 := 0#32
  let v20 : BitVec 1 := Scalar.cmpi .slt arg2 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg2 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S4x2x1408x1024 : Shape := ⟨4, ![4, 2, 1408, 1024]⟩
abbrev S4x1408x2x1024 : Shape := ⟨4, ![4, 1408, 2, 1024]⟩
abbrev S5632x2048 : Shape := ⟨2, ![5632, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2x1408x1024, .bf16⟩
  | .hbm, ⟨2, _⟩ => ⟨S4x1408x2x1024, .bf16⟩
  | .hbm, ⟨3, _⟩ => ⟨S5632x2048, .bf16⟩
  | .hbm, ⟨4, _⟩ => ⟨S5632x2048, .f32⟩
  | .hbm, ⟨5, _⟩ => ⟨S2048x5632, .f32⟩
  | .hbm, ⟨6, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2048x5632 : Shape := ⟨2, ![2048, 5632]⟩
abbrev S4x2x1024x1408 : Shape := ⟨4, ![4, 2, 1024, 1408]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S4x2x1024x1408, .bf16⟩
  | .hbm, ⟨2, _⟩ => ⟨S4x2048x1408, .bf16⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x5632 : Shape := ⟨2, ![2048, 5632]⟩
abbrev S4x2x1024x1408 : Shape := ⟨4, ![4, 2, 1024, 1408]⟩
abbrev S2x1024x4x1408 : Shape := ⟨4, ![2, 1024, 4, 1408]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2x1024x1408, .bf16⟩
  | .hbm, ⟨2, _⟩ => ⟨S2048x5632, .f32⟩
  | .hbm, ⟨3, _⟩ => ⟨S2x1024x4x1408, .bf16⟩
  | .hbm, ⟨4, _⟩ => ⟨S2048x5632, .bf16⟩
  | .hbm, ⟨5, _⟩ => ⟨S2048x5632, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x5632 : Shape := ⟨2, ![2048, 5632]⟩
abbrev S4x2x1024x1408 : Shape := ⟨4, ![4, 2, 1024, 1408]⟩
abbrev S2048x2048 : Shape := ⟨2, ![2048, 2048]⟩
abbrev S4x2048x1408 : Shape := ⟨3, ![4, 2048, 1408]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S4x2x1024x1408, .bf16⟩
  | .hbm, ⟨2, _⟩ => ⟨S2048x2048, .f32⟩
  | .hbm, ⟨3, _⟩ => ⟨S4x2048x1408, .bf16⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x5632 : Shape := ⟨2, ![2048, 5632]⟩
abbrev S4x2x1024x1408 : Shape := ⟨4, ![4, 2, 1024, 1408]⟩
abbrev S2048x2048 : Shape := ⟨2, ![2048, 2048]⟩
abbrev S2x1024x4x1408 : Shape := ⟨4, ![2, 1024, 4, 1408]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2x1024x1408, .bf16⟩
  | .hbm, ⟨2, _⟩ => ⟨S2048x2048, .f32⟩
  | .hbm, ⟨3, _⟩ => ⟨S2048x5632, .f32⟩
  | .hbm, ⟨4, _⟩ => ⟨S2x1024x4x1408, .bf16⟩
  | .hbm, ⟨5, _⟩ => ⟨S2048x5632, .bf16⟩
  | .hbm, ⟨6, _⟩ => ⟨S2048x5632, .f32⟩
  | .hbm, ⟨7, _⟩ => ⟨S2048x2048, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x3072 : Shape := ⟨2, ![2048, 3072]⟩
abbrev S2048x2048 : Shape := ⟨2, ![2048, 2048]⟩
abbrev S1024x3072 : Shape := ⟨2, ![1024, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x3072 : Shape := ⟨2, ![2048, 3072]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x3072, .f32⟩
  | .hbm, ⟨3, _⟩ => ⟨S2048x3072, .f32⟩
  | .hbm, ⟨4, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S2048x2048 : Shape := ⟨2, ![2048, 2048]⟩
abbrev S4x2x512x1024 : Shape := ⟨4, ![4, 2, 512, 1024]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S4x2x512x1024, .bf16⟩
  | .hbm, ⟨2, _⟩ => ⟨S2048x2048, .f32⟩
  | .hbm, ⟨3, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg2 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x2048 : Shape := ⟨2, ![2048, 2048]⟩
abbrev S4x2x512x1024 : Shape := ⟨4, ![4, 2, 512, 1024]⟩
abbrev S4x512x2x1024 : Shape := ⟨4, ![4, 512, 2, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2x512x1024, .bf16⟩
  | .hbm, ⟨2, _⟩ => ⟨S2048x2048, .f32⟩
  | .hbm, ⟨3, _⟩ => ⟨S2048x2048, .f32⟩
  | .hbm, ⟨4, _⟩ => ⟨S4x512x2x1024, .bf16⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S2048x2048 : Shape := ⟨2, ![2048, 2048]⟩
abbrev S4x2x512x1024 : Shape := ⟨4, ![4, 2, 512, 1024]⟩
abbrev S1024x1024 : Shape := ⟨2, ![1024, 1024]⟩
abbrev S1x1x512x1024 : Shape := ⟨4, ![1, 1, 512, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x2x512x1024, .bf16⟩
  | .hbm, ⟨2, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_8 : BitVec 32 := 1#32
  let v13 : BitVec 1 := Scalar.cmpi .eq arg2 c1_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg2 c1_i32_5
  let c0_i32_6 : BitVec 32 := 0#32
  let v18 : BitVec 1 := Scalar.cmpi .sgt arg2 c0_i32_6
  let v19 : BitVec 32 := Scalar.extui v18
  let c0_i32_7 : BitVec 32 := 0#32
  let v20 : BitVec 1 := Scalar.cmpi .slt arg2 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg2 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S4x2x512x1024 : Shape := ⟨4, ![4, 2, 512, 1024]⟩
abbrev S4x512x2x1024 : Shape := ⟨4, ![4, 512, 2, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2x512x1024, .bf16⟩
  | .hbm, ⟨2, _⟩ => ⟨S4x512x2x1024, .bf16⟩
  | .hbm, ⟨3, _⟩ => ⟨S2048x2048, .bf16⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.IdealLoops.lean ====
/-
  The two counted loops of the body that carry the causal mask, `k0_t3` and `k0_t4`, gone through by their invariants. The first makes exactly
  one trip, at the key rows level with the point's own query rows; the second is the remainder of an unrolling by one and makes none.
-/
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What each loop of the body carries: the two heads' query gradients, the plain part and the rotary part of each. -/
abbrev Carry (F : FTy → Type) : Type := FVec F S512x128 .f32 × FVec F S512x64 .f32 × FVec F S512x128 .f32 × FVec F S512x64 .f32

/-! ## How many trips each loop makes, and where each trip works -/

theorem trips_t1 : ∀ i : grid0.Coords, (k0_t1_loop i).trips = (i 1).val := by decide +kernel
theorem trips_t2 : ∀ i : grid0.Coords, (k0_t2_loop i).trips = 0 := by decide +kernel
theorem trips_t3 : ∀ i : grid0.Coords, (k0_t3_loop i).trips = 1 := by decide +kernel
theorem trips_t4 : ∀ i : grid0.Coords, (k0_t4_loop i).trips = 0 := by decide +kernel

theorem off1_at : ∀ (i : grid0.Coords) (k : Fin (k0_t1_loop i).trips), k0_off1 i k = ![512 * k.val, 0] := by decide +kernel
theorem off2_at : ∀ (i : grid0.Coords) (k : Fin (k0_t1_loop i).trips), k0_off2 i k = ![512 * k.val, 0] := by decide +kernel
theorem off3_at : ∀ (i : grid0.Coords) (k : Fin (k0_t1_loop i).trips), k0_off3 i k = ![512 * k.val, 128] := by decide +kernel
theorem off7_at : ∀ (i : grid0.Coords) (k : Fin (k0_t3_loop i).trips), k0_off7 i k = ![512 * (i 1).val, 0] := by decide +kernel
theorem off8_at : ∀ (i : grid0.Coords) (k : Fin (k0_t3_loop i).trips), k0_off8 i k = ![512 * (i 1).val, 0] := by decide +kernel
theorem off9_at : ∀ (i : grid0.Coords) (k : Fin (k0_t3_loop i).trips), k0_off9 i k = ![512 * (i 1).val, 128] := by decide +kernel

instance (i : grid0.Coords) (k : Fin (k0_t3_loop i).trips) : ClosedOff (k0_off7 i k) := ⟨_, off7_at i k⟩
instance (i : grid0.Coords) (k : Fin (k0_t3_loop i).trips) : ClosedOff (k0_off8 i k) := ⟨_, off8_at i k⟩
instance (i : grid0.Coords) (k : Fin (k0_t3_loop i).trips) : ClosedOff (k0_off9 i k) := ⟨_, off9_at i k⟩

/-! ## The masked loop -/

section Loop

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S1x512x128 .f32) (harg7 : arg7.IsWhole)
  (arg8 : Memref sig .tc .vmem S512x128 .bf16) (harg8 : arg8.IsWhole)
  (arg9 : Memref sig .tc .vmem S2048x128 .bf16) (harg9 : arg9.IsWhole)
  (arg10 : Memref sig .tc .vmem S512x256 .bf16) (harg10 : arg10.IsWhole)
  (arg11 : Memref sig .tc .vmem S2048x256 .f32) (harg11 : arg11.IsWhole)
  (arg12 : Memref sig .tc .vmem S2048x256 .f32) (harg12 : arg12.IsWhole)
  (arg13 : Memref sig .tc .vmem S512x128 .f32) (harg13 : arg13.IsWhole)
  (arg14 : Memref sig .tc .vmem S2048x128 .f32) (harg14 : arg14.IsWhole)

/-- The six buffers one trip touches: keys, values and rotary keys read, their three gradients added to. -/
abbrev Held (X3 : BufTy.Contents (Elt F) arg3.view.ty) (X4 : BufTy.Contents (Elt F) arg4.view.ty) (X9 : BufTy.Contents (Elt F) arg9.view.ty)
    (f11 : BufTy.Contents (Elt F) arg11.view.ty) (f12 : BufTy.Contents (Elt F) arg12.view.ty) (f14 : BufTy.Contents (Elt F) arg14.view.ty) : sProp 𝕄 :=
  iprop((arg3.view.loc (c : Thread nD τ) ↦[arg3.view.set]{fullShare} X3) ∗ (arg4.view.loc (c : Thread nD τ) ↦[arg4.view.set]{fullShare} X4)
    ∗ (arg9.view.loc (c : Thread nD τ) ↦[arg9.view.set]{fullShare} X9) ∗ (arg11.view.loc (c : Thread nD τ) ↦[arg11.view.set]{fullShare} f11)
    ∗ (arg12.view.loc (c : Thread nD τ) ↦[arg12.view.set]{fullShare} f12) ∗ (arg14.view.loc (c : Thread nD τ) ↦[arg14.view.set]{fullShare} f14))

variable (v0 : BitVec 32) (v37 : BitVec 32) (v46 : Vec F S512x128 .bf16) (v47 : Vec F S512x128 .bf16) (v48 : Vec F S512x64 .bf16)
  (v49 : Vec F S512x64 .bf16) (v51 : FVec F S512x128 .bf16) (v53 : FVec F S512x128 .bf16) (v59 : FVec F S512x1 .f32) (v65 : FVec F S512x1 .f32)
  (v67 : FVec F S512x1 .f32) (v68 : Vec F S1x512x1 .f32)
  (X3 : BufTy.Contents (Elt F) arg3.view.ty) (X4 : BufTy.Contents (Elt F) arg4.view.ty) (X9 : BufTy.Contents (Elt F) arg9.view.ty)

/-- One trip of the masked loop, run once for any trip: what it yields and the blocks it writes into the three gradients, as functions of what
    it finds in them. -/
@[irreducible] def maskedTrip (k : Fin (k0_t3_loop i).trips) :
    Σ' (R : Carry F → BufTy.Contents (Elt F) arg11.view.ty → BufTy.Contents (Elt F) arg12.view.ty → BufTy.Contents (Elt F) arg14.view.ty → Carry F)
      (L11 : Carry F → BufTy.Contents (Elt F) arg11.view.ty → BufTy.Contents (Elt F) arg12.view.ty → BufTy.Contents (Elt F) arg14.view.ty → List (View.Piece (Elt F) S2048x256 .f32))
      (L12 : Carry F → BufTy.Contents (Elt F) arg11.view.ty → BufTy.Contents (Elt F) arg12.view.ty → BufTy.Contents (Elt F) arg14.view.ty → List (View.Piece (Elt F) S2048x256 .f32)),
      { L14 : Carry F → BufTy.Contents (Elt F) arg11.view.ty → BufTy.Contents (Elt F) arg12.view.ty → BufTy.Contents (Elt F) arg14.view.ty → List (View.Piece (Elt F) S2048x128 .f32) //
        ∀ (E : Set ℕ) (acc : Carry F) (f11 : BufTy.Contents (Elt F) arg11.view.ty) (f12 : BufTy.Contents (Elt F) arg12.view.ty) (f14 : BufTy.Contents (Elt F) arg14.view.ty),
          Held (F := F) c arg3 arg4 arg9 arg11 arg12 arg14 X3 X4 X9 f11 f12 f14
          ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 k acc)
              (fun yld => iprop(⌜yld = R acc f11 f12 f14⌝ ∗ Held (F := F) c arg3 arg4 arg9 arg11 arg12 arg14 X3 X4 X9
                (arg11.view.writes (Elt F) f11 (L11 acc f11 f12 f14)) (arg12.view.writes (Elt F) f12 (L12 acc f11 f12 f14))
                (arg14.view.writes (Elt F) f14 (L14 acc f11 f12 f14)))) } := by
  refine ⟨?_, ?_, ?_, ?_, fun E acc f11 f12 f14 => ?run⟩
  case run =>
    unfold k0_t3_body
    iintro ⟨H3, H4, H9, H11, H12, H14⟩
    sl_exec
    sl_step
    sl_close

variable (G11 : BufTy.Contents (Elt F) arg11.view.ty) (G12 : BufTy.Contents (Elt F) arg12.view.ty) (G14 : BufTy.Contents (Elt F) arg14.view.ty) (init : Carry F)

/-- The only trip there is. -/
abbrev onlyTrip : Fin (k0_t3_loop i).trips := ⟨0, (trips_t3 i).symm ▸ Nat.one_pos⟩

/-- Before trip `k` the loop has carried `init` there, or past its only trip what that trip yields; -/
abbrev maskedAcc (k : ℕ) : Carry F :=
  match k with
  | 0 => init
  | _ + 1 => (maskedTrip c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 (onlyTrip i)).1 init G11 G12 G14
/-- and the blocks written so far, into the gradient of the keys, -/
abbrev masked11 (k : ℕ) : List (View.Piece (Elt F) S2048x256 .f32) :=
  match k with
  | 0 => []
  | _ + 1 => (maskedTrip c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 (onlyTrip i)).2.1 init G11 G12 G14
/-- of the values, -/
abbrev masked12 (k : ℕ) : List (View.Piece (Elt F) S2048x256 .f32) :=
  match k with
  | 0 => []
  | _ + 1 => (maskedTrip c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 (onlyTrip i)).2.2.1 init G11 G12 G14
/-- and of the rotary keys. -/
abbrev masked14 (k : ℕ) : List (View.Piece (Elt F) S2048x128 .f32) :=
  match k with
  | 0 => []
  | _ + 1 => (maskedTrip c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 (onlyTrip i)).2.2.2.1 init G11 G12 G14

/-- The invariant of the masked loop before trip `k`. -/
abbrev maskedInv (k : ℕ) (acc : Carry F) : sProp 𝕄 :=
  iprop((arg3.view.loc (c : Thread nD τ) ↦[arg3.view.set]{fullShare} X3) ∗ (arg4.view.loc (c : Thread nD τ) ↦[arg4.view.set]{fullShare} X4)
    ∗ (arg9.view.loc (c : Thread nD τ) ↦[arg9.view.set]{fullShare} X9)
    ∗ (∃ f, (arg11.view.loc (c : Thread nD τ) ↦[arg11.view.set]{fullShare} f) ∗ ⌜f = arg11.view.writes (Elt F) G11 (masked11 (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 G11 G12 G14 init k)⌝)
    ∗ (∃ f, (arg12.view.loc (c : Thread nD τ) ↦[arg12.view.set]{fullShare} f) ∗ ⌜f = arg12.view.writes (Elt F) G12 (masked12 (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 G11 G12 G14 init k)⌝)
    ∗ (∃ f, (arg14.view.loc (c : Thread nD τ) ↦[arg14.view.set]{fullShare} f) ∗ ⌜f = arg14.view.writes (Elt F) G14 (masked14 (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 G11 G12 G14 init k)⌝)
    ∗ ⌜acc = maskedAcc (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 G11 G12 G14 init k⌝)

set_option warn.classDefReducibility false in
/-- The masked loop by its invariant. -/
@[sl_loop] def maskedLoop (E : Set ℕ) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 init where
  inv := maskedInv (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 G11 G12 G14 init
  step k acc := by
    have hk : k = onlyTrip i := Fin.ext (Nat.lt_one_iff.mp (Nat.lt_of_lt_of_eq k.isLt (trips_t3 i)))
    subst hk
    iintro ⟨H3, H4, H9, ⟨%f11, H11, %h11⟩, ⟨%f12, H12, %h12⟩, ⟨%f14, H14, %h14⟩, %hacc⟩
    have e0 : acc = init := hacc
    have e11 : f11 = G11 := h11
    have e12 : f12 = G12 := h12
    have e14 : f14 = G14 := h14
    clear hacc h11 h12 h14
    subst e0 e11 e12 e14
    iapply (wp_wand_r Idealize.ShloMosaic.frame (wpE (defs₀ (F := F)) Variants.none (c : Thread nD τ) none) E)
    isplitl [H3 H4 H9 H11 H12 H14]
    · iapply ((maskedTrip (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 (onlyTrip i)).2.2.2.2 E _ _ _ _)
      isplitl [H3]; · iexact H3
      isplitl [H4]; · iexact H4
      isplitl [H9]; · iexact H9
      isplitl [H11]; · iexact H11
      isplitl [H12]; · iexact H12
      iexact H14
    · iintro %yld ⟨%hy, H3, H4, H9, H11, H12, H14⟩
      isplitl [H3]; · iexact H3
      isplitl [H4]; · iexact H4
      isplitl [H9]; · iexact H9
      isplitl [H11]
      · iexists _; isplitl [H11]; · iexact H11
        ipureintro; rfl
      isplitl [H12]
      · iexists _; isplitl [H12]; · iexact H12
        ipureintro; rfl
      isplitl [H14]
      · iexists _; isplitl [H14]; · iexact H14
        ipureintro; rfl
      ipureintro; exact hy

variable (v85 : BitVec 32)

set_option warn.classDefReducibility false in
/-- The remainder loop makes no trip: it carries what it was given. -/
@[sl_loop] def remainderLoop (E : Set ℕ) :
    LoopInvTy_k0_t4 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v0 v46 v47 v48 v49 v51 v53 v59 v65 v67 v68 v85 init where
  inv := fun _ acc => iprop(⌜acc = init⌝)
  step k acc := absurd (Nat.lt_of_lt_of_eq k.isLt (trips_t4 i)) (Nat.not_lt_zero _)

end Loop

end Cert.KernelIdeal.Hand

end
-- ==== Proof.IdealModel.lean ====
/-
  What one grid point of the body computes, as plain functions of vectors: the two heads' probabilities and score gradients at one block of key
  rows, and what a trip of a loop adds to the gradients. Blocks of key rows are windows of the whole key rows (`VecWindow.window`), and a store
  there is a `VecWindow.put`.
-/
module

public import proofs.«01_k».proof.Proof.IdealLoops
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL

variable {F : FTy → Type} [FloatOps F] [Named F]

/-! ## One head against one block of 512 key rows -/

/-- The scaled scores: plain part and rotary part. -/
def scores (q : FVec F S512x128 .bf16) (r : FVec F S512x64 .bf16) (e : FVec F S512x64 .bf16) (k : FVec F S512x128 .bf16) : FVec F S512x512 .f32 :=
  mulf (addf (matmul dot_S512x128_S512x128_S512x512_1_1_0_0_n_n none q k (constant S512x512 .f32 0x00000000#32))
      (matmul dot_S512x64_S512x64_S512x512_1_1_0_0_n_n none r e (constant S512x512 .f32 0x00000000#32)))
    (broadcast S512x512 (Scalar.ofBits .f32 0x3D93CD3A#32))

/-- The probabilities of a block of key rows wholly at or before the query rows. -/
def openProb (q : FVec F S512x128 .bf16) (r : FVec F S512x64 .bf16) (l : FVec F S512x1 .f32) (e : FVec F S512x64 .bf16) (k : FVec F S512x128 .bf16) :
    FVec F S512x512 .f32 :=
  exp (subf (scores q r e k) (broadcastTo S512x512 l broadcasts_S512x1_S512x512))

/-- The probabilities of the block level with the query rows, `d` the query row less the key row: where it is negative the score is the mask's. -/
def maskProb (d : IVec S512x512 32) (q : FVec F S512x128 .bf16) (r : FVec F S512x64 .bf16) (l : FVec F S512x1 .f32) (e : FVec F S512x64 .bf16)
    (k : FVec F S512x128 .bf16) : FVec F S512x512 .f32 :=
  exp (subf (select (cmpi .sge d (broadcast S512x512 0#32)) (scores q r e k) (broadcast S512x512 (Named.named κ "mask" 0xF149F2CA#32)))
    (broadcastTo S512x512 l broadcasts_S512x1_S512x512))

/-- The gradient of the scores, from the probabilities, the output's gradient, the values and each row's product of output and its gradient. -/
def scoreGrad (p : FVec F S512x512 .f32) (o : FVec F S512x128 .bf16) (v : FVec F S512x128 .bf16) (w : FVec F S512x1 .f32) : FVec F S512x512 .bf16 :=
  truncf .bf16 (mulf (mulf p (subf (matmul dot_S512x128_S512x128_S512x512_1_1_0_0_n_n none o v (constant S512x512 .f32 0x00000000#32))
    (broadcastTo S512x512 w broadcasts_S512x1_S512x512))) (broadcast S512x512 (Scalar.ofBits .f32 0x3D93CD3A#32))) bitsLt_bf16_f32

/-- Added to the gradient of the queries, -/
def addQuery (a : FVec F S512x128 .f32) (s : FVec F S512x512 .bf16) (k : FVec F S512x128 .bf16) : FVec F S512x128 .f32 :=
  addf a (matmul dot_S512x512_S512x128_S512x128_1_0_0_1_n_n none s k (constant S512x128 .f32 0x00000000#32))
/-- of the rotary queries, -/
def addRotary (a : FVec F S512x64 .f32) (s : FVec F S512x512 .bf16) (e : FVec F S512x64 .bf16) : FVec F S512x64 .f32 :=
  addf a (matmul dot_S512x512_S512x64_S512x64_1_0_0_1_n_n none s e (constant S512x64 .f32 0x00000000#32))
/-- of the keys or the values, -/
def addKey (a : FVec F S512x128 .f32) (s : FVec F S512x512 .bf16) (q : FVec F S512x128 .bf16) : FVec F S512x128 .f32 :=
  addf (shapeCast S512x128 a shapeCasts_S512x128_S512x128) (matmul dot_S512x512_S512x128_S512x128_0_0_1_1_n_n none s q (constant S512x128 .f32 0x00000000#32))
/-- and of the rotary keys, which both heads share. -/
def addShared (a : FVec F S512x64 .f32) (s : FVec F S512x512 .bf16) (r : FVec F S512x64 .bf16) (s' : FVec F S512x512 .bf16) (r' : FVec F S512x64 .bf16) :
    FVec F S512x64 .f32 :=
  addf (shapeCast S512x64 a shapeCasts_S512x64_S512x64)
    (addf (matmul dot_S512x512_S512x64_S512x64_0_0_1_1_n_n none s r (constant S512x64 .f32 0x00000000#32))
      (matmul dot_S512x512_S512x64_S512x64_0_0_1_1_n_n none s' r' (constant S512x64 .f32 0x00000000#32)))

/-! ## A point's operands and the state its loops carry -/

/-- What a point loads before its loops: of the two heads (`A`, `B`) the query rows, rotary query rows, gradient rows of the output, the row
    products of output and gradient, and the logarithms of the row sums. -/
structure Rows (F : FTy → Type) where
  qA : FVec F S512x128 .bf16
  qB : FVec F S512x128 .bf16
  rA : FVec F S512x64 .bf16
  rB : FVec F S512x64 .bf16
  oA : FVec F S512x128 .bf16
  oB : FVec F S512x128 .bf16
  wA : FVec F S512x1 .f32
  wB : FVec F S512x1 .f32
  lA : FVec F S512x1 .f32
  lB : FVec F S512x1 .f32

/-- The key rows, value rows and rotary key rows of the whole sequence, of the two heads. -/
structure Keys (F : FTy → Type) where
  k : FVec F S2048x256 .bf16
  v : FVec F S2048x256 .bf16
  e : FVec F S2048x128 .bf16

/-- What the loops carry and what they add to: the query gradients, and the gradients of the keys, of the values and of the rotary keys. -/
structure Grads (F : FTy → Type) where
  acc : Carry F
  dk : FVec F S2048x256 .f32
  dv : FVec F S2048x256 .f32
  de : FVec F S2048x128 .f32

theorem head_in {h : ℕ} (hh : h = 0 ∨ h = 128) (j : Fin 4) : ∀ a : Fin 2, (![512 * j.val, h] : Fin 2 → ℕ) a + S512x128.size a ≤ S2048x256.size a := by
  have := j.isLt
  refine Fin.forall_fin_two.mpr ⟨?_, ?_⟩
  · show 512 * j.val + 512 ≤ 2048; omega
  · show h + 128 ≤ 256; omega
theorem shared_in (j : Fin 4) : ∀ a : Fin 2, (![512 * j.val, 0] : Fin 2 → ℕ) a + S512x64.size a ≤ S2048x128.size a := by
  have := j.isLt
  refine Fin.forall_fin_two.mpr ⟨?_, ?_⟩
  · show 512 * j.val + 512 ≤ 2048; omega
  · show 0 + 64 ≤ 128; omega

/-- Block `j` of 512 rows of the first head's columns, -/
def blkA {α : Type} (x : S2048x256.Idx → α) (j : Fin 4) : S512x128.Idx → α := VecWindow.window x ![512 * j.val, 0] S512x128.size (head_in (.inl rfl) j)
/-- of the second's, -/
def blkB {α : Type} (x : S2048x256.Idx → α) (j : Fin 4) : S512x128.Idx → α := VecWindow.window x ![512 * j.val, 128] S512x128.size (head_in (.inr rfl) j)
/-- and of the columns both share. -/
def blkE {α : Type} (x : S2048x128.Idx → α) (j : Fin 4) : S512x64.Idx → α := VecWindow.window x ![512 * j.val, 0] S512x64.size (shared_in j)
/-- The two heads' blocks put back. -/
def putAB {α : Type} (x : S2048x256.Idx → α) (j : Fin 4) (a b : S512x128.Idx → α) : S2048x256.Idx → α :=
  VecWindow.put (VecWindow.put x ![512 * j.val, 0] S512x128.size a) ![512 * j.val, 128] S512x128.size b
def putE {α : Type} (x : S2048x128.Idx → α) (j : Fin 4) (a : S512x64.Idx → α) : S2048x128.Idx → α :=
  VecWindow.put x ![512 * j.val, 0] S512x64.size a

/-- What a trip at block `j` does, given the blocks it loads (keys, values, rotary keys, then their gradients so far) and the two heads' probabilities
    there. -/
def tripOf (P : Rows F) (j : Fin 4) (kA kB vA vB : FVec F S512x128 .bf16) (e : FVec F S512x64 .bf16) (dkA dkB dvA dvB : FVec F S512x128 .f32)
    (de : FVec F S512x64 .f32) (pA pB : FVec F S512x512 .f32) (s : Grads F) : Grads F where
  acc := (addQuery s.acc.1 (scoreGrad pA P.oA vA P.wA) kA, addRotary s.acc.2.1 (scoreGrad pA P.oA vA P.wA) e,
    addQuery s.acc.2.2.1 (scoreGrad pB P.oB vB P.wB) kB, addRotary s.acc.2.2.2 (scoreGrad pB P.oB vB P.wB) e)
  dk := putAB s.dk j (addKey dkA (scoreGrad pA P.oA vA P.wA) P.qA) (addKey dkB (scoreGrad pB P.oB vB P.wB) P.qB)
  dv := putAB s.dv j (addKey dvA (truncf .bf16 pA bitsLt_bf16_f32) P.oA) (addKey dvB (truncf .bf16 pB bitsLt_bf16_f32) P.oB)
  de := putE s.de j (addShared de (scoreGrad pA P.oA vA P.wA) P.rA (scoreGrad pB P.oB vB P.wB) P.rB)

/-- The same, the blocks being those of the whole arrays. -/
def trip (P : Rows F) (K : Keys F) (j : Fin 4) (pA pB : FVec F S512x512 .f32) (s : Grads F) : Grads F :=
  tripOf P j (blkA K.k j) (blkB K.k j) (blkA K.v j) (blkB K.v j) (blkE K.e j) (blkA s.dk j) (blkB s.dk j) (blkA s.dv j) (blkB s.dv j) (blkE s.de j) pA pB s

/-- A trip of the unmasked loop, -/
def openTrip (P : Rows F) (K : Keys F) (j : Fin 4) (s : Grads F) : Grads F :=
  trip P K j (openProb P.qA P.rA P.lA (blkE K.e j) (blkA K.k j)) (openProb P.qB P.rB P.lB (blkE K.e j) (blkB K.k j)) s
/-- and the masked loop's only one, at the block level with the query rows. -/
def maskTrip (P : Rows F) (K : Keys F) (d : IVec S512x512 32) (j : Fin 4) (s : Grads F) : Grads F :=
  trip P K j (maskProb d P.qA P.rA P.lA (blkE K.e j) (blkA K.k j)) (maskProb d P.qB P.rB P.lB (blkE K.e j) (blkB K.k j)) s

/-- The first `n` trips of the unmasked loop. -/
def openTrips (P : Rows F) (K : Keys F) (s : Grads F) : ℕ → Grads F
  | 0 => s
  | n + 1 => if h : n < 4 then openTrip P K ⟨n, h⟩ (openTrips P K s n) else openTrips P K s n

/-- The query row less the key row, at a point's own block: the blocks are level, so it is the difference within the block. -/
def level (i : grid0.Coords) (v0 v37 : BitVec 32) : IVec S512x512 32 := k0_pay42 i v0 v37 1#32 (onlyTrip i)

/-- All of a point's trips. -/
def allTrips (P : Rows F) (K : Keys F) (d : IVec S512x512 32) (j : Fin 4) (s : Grads F) : Grads F :=
  maskTrip P K d j (openTrips P K s j.val)

end Cert.KernelIdeal.Hand

end
-- ==== Proof.IdealTrips.lean ====
/-
  The loops' trips are the model's: what a trip yields and leaves in the three gradients, read back, is `openTrip` or `maskTrip` of what it found.
-/
module

public import proofs.«01_k».proof.Proof.IdealModel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL

variable {F : FTy → Type} [FloatOps F] [Named F]

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S1x512x128 .f32) (harg7 : arg7.IsWhole)
  (arg8 : Memref sig .tc .vmem S512x128 .bf16) (harg8 : arg8.IsWhole)
  (arg9 : Memref sig .tc .vmem S2048x128 .bf16) (harg9 : arg9.IsWhole)
  (arg10 : Memref sig .tc .vmem S512x256 .bf16) (harg10 : arg10.IsWhole)
  (arg11 : Memref sig .tc .vmem S2048x256 .f32) (harg11 : arg11.IsWhole)
  (arg12 : Memref sig .tc .vmem S2048x256 .f32) (harg12 : arg12.IsWhole)
  (arg13 : Memref sig .tc .vmem S512x128 .f32) (harg13 : arg13.IsWhole)
  (arg14 : Memref sig .tc .vmem S2048x128 .f32) (harg14 : arg14.IsWhole)
  (v0 : BitVec 32) (v37 : BitVec 32) (v46 : Vec F S512x128 .bf16) (v47 : Vec F S512x128 .bf16) (v48 : Vec F S512x64 .bf16)
  (v49 : Vec F S512x64 .bf16) (v51 : FVec F S512x128 .bf16) (v53 : FVec F S512x128 .bf16) (v59 : FVec F S512x1 .f32) (v65 : FVec F S512x1 .f32)
  (v67 : FVec F S512x1 .f32) (v68 : Vec F S1x512x1 .f32)
  (X3 : BufTy.Contents (Elt F) arg3.view.ty) (X4 : BufTy.Contents (Elt F) arg4.view.ty) (X9 : BufTy.Contents (Elt F) arg9.view.ty)

/-- A point's loaded operands as the loops are given them. -/
abbrev rows : Rows F := ⟨v46, v47, v48, v49, v51, v53, v59, v65, v67, k0_pay1 v68⟩

/-- The keys, values and rotary keys a point's buffers hold. -/
abbrev keys : Keys F := ⟨arg3.view.read (Elt F) X3, arg4.view.read (Elt F) X4, arg9.view.read (Elt F) X9⟩

/-- A carried value with what the three gradients' buffers hold. -/
abbrev held (acc : Carry F) (f11 : BufTy.Contents (Elt F) arg11.view.ty) (f12 : BufTy.Contents (Elt F) arg12.view.ty)
    (f14 : BufTy.Contents (Elt F) arg14.view.ty) : Grads F :=
  ⟨acc, arg11.view.read (Elt F) f11, arg12.view.read (Elt F) f12, arg14.view.read (Elt F) f14⟩

theorem grads_ext {s t : Grads F} (ha : s.acc = t.acc) (hk : s.dk = t.dk) (hv : s.dv = t.dv) (he : s.de = t.de) : s = t := by
  cases s; cases t; cases ha; cases hk; cases hv; cases he; rfl

theorem inAB {off : Fin 2 → ℕ} (j : Fin 4) {x : ℕ} (hx : x = 0 ∨ x = 128) (h : off = ![512 * j.val, x]) :
    ∀ a : Fin 2, off a + S512x128.size a ≤ S2048x256.size a := h ▸ head_in hx j
theorem inE {off : Fin 2 → ℕ} (j : Fin 4) (h : off = ![512 * j.val, 0]) : ∀ a : Fin 2, off a + S512x64.size a ≤ S2048x128.size a :=
  h ▸ shared_in j

omit [FloatOps F] [Named F] in
theorem readA {e : EltTy} (a : Memref sig .tc .vmem S2048x256 e) (f : BufTy.Contents (Elt F) a.view.ty) {off : Fin 2 → ℕ}
    (inb : ∀ x : Fin 2, off x + S512x128.size x ≤ S2048x256.size x) (j : Fin 4) (h : off = ![512 * j.val, 0]) :
    View.readAt (Elt F) a.view (Rect.unit (s := S2048x256) off S512x128.size inb).toLoadRect f = blkA (a.view.read (Elt F) f) j :=
  View.readAt_unit a.view f inb h (head_in (.inl rfl) j)
omit [FloatOps F] [Named F] in
theorem readB {e : EltTy} (a : Memref sig .tc .vmem S2048x256 e) (f : BufTy.Contents (Elt F) a.view.ty) {off : Fin 2 → ℕ}
    (inb : ∀ x : Fin 2, off x + S512x128.size x ≤ S2048x256.size x) (j : Fin 4) (h : off = ![512 * j.val, 128]) :
    View.readAt (Elt F) a.view (Rect.unit (s := S2048x256) off S512x128.size inb).toLoadRect f = blkB (a.view.read (Elt F) f) j :=
  View.readAt_unit a.view f inb h (head_in (.inr rfl) j)
omit [FloatOps F] [Named F] in
theorem readE {e : EltTy} (a : Memref sig .tc .vmem S2048x128 e) (f : BufTy.Contents (Elt F) a.view.ty) {off : Fin 2 → ℕ}
    (inb : ∀ x : Fin 2, off x + S512x64.size x ≤ S2048x128.size x) (j : Fin 4) (h : off = ![512 * j.val, 0]) :
    View.readAt (Elt F) a.view (Rect.unit (s := S2048x128) off S512x64.size inb).toLoadRect f = blkE (a.view.read (Elt F) f) j :=
  View.readAt_unit a.view f inb h (shared_in j)
omit [FloatOps F] [Named F] in
theorem writeAB {e : EltTy} (a : Memref sig .tc .vmem S2048x256 e) (f : BufTy.Contents (Elt F) a.view.ty) {off off' : Fin 2 → ℕ}
    (inb : ∀ x : Fin 2, off x + S512x128.size x ≤ S2048x256.size x) (inb' : ∀ x : Fin 2, off' x + S512x128.size x ≤ S2048x256.size x) (w w')
    (j : Fin 4) (h : off = ![512 * j.val, 0]) (h' : off' = ![512 * j.val, 128]) :
    a.view.read (Elt F) (a.view.writes (Elt F) f [⟨Rect.unit (s := S2048x256) off' S512x128.size inb', w'⟩, ⟨Rect.unit (s := S2048x256) off S512x128.size inb, w⟩])
      = putAB (a.view.read (Elt F) f) j w w' := by
  rw [View.read_writes_cons_put a.view f inb' w' _ h', View.read_writes_cons_put a.view f inb w _ h]
  rfl
omit [FloatOps F] [Named F] in
theorem writeE {e : EltTy} (a : Memref sig .tc .vmem S2048x128 e) (f : BufTy.Contents (Elt F) a.view.ty) {off : Fin 2 → ℕ}
    (inb : ∀ x : Fin 2, off x + S512x64.size x ≤ S2048x128.size x) (w) (j : Fin 4) (h : off = ![512 * j.val, 0]) :
    a.view.read (Elt F) (a.view.writes (Elt F) f [⟨Rect.unit (s := S2048x128) off S512x64.size inb, w⟩]) = putE (a.view.read (Elt F) f) j w :=
  View.read_writes_cons_put a.view f inb w _ h

/-- An unmasked trip's block among the four. -/
def blockOf (k : Fin (k0_t1_loop i).trips) : Fin 4 := ⟨k.val, Nat.lt_trans (Nat.lt_of_lt_of_eq k.isLt (trips_t1 i)) (i 1).isLt⟩

set_option maxHeartbeats 1000000 in
theorem openTrip_run (k : Fin (k0_t1_loop i).trips) (acc : Carry F) (f11 : BufTy.Contents (Elt F) arg11.view.ty)
    (f12 : BufTy.Contents (Elt F) arg12.view.ty) (f14 : BufTy.Contents (Elt F) arg14.view.ty) :
    held arg11 arg12 arg14 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 k).1 acc f11 f12 f14) (arg11.view.writes (Elt F) f11 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 k).2.1 acc f11 f12 f14))
        (arg12.view.writes (Elt F) f12 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 k).2.2.1 acc f11 f12 f14)) (arg14.view.writes (Elt F) f14 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 k).2.2.2.1 acc f11 f12 f14))
      = openTrip (rows v46 v47 v48 v49 v51 v53 v59 v65 v67 v68) (keys arg3 arg4 arg9 X3 X4 X9) (blockOf i k) (held arg11 arg12 arg14 acc f11 f12 f14) := by
  unfold trip_k0_t1
  dsimp only
  refine Eq.trans (b := (tripOf (rows v46 v47 v48 v49 v51 v53 v59 v65 v67 v68) (blockOf i k) (View.readAt (Elt F) arg3.view (Rect.unit (s := S2048x256) (k0_off2 i k) S512x128.size (inAB (blockOf i k) (.inl rfl) (off2_at i k))).toLoadRect X3) (View.readAt (Elt F) arg3.view (Rect.unit (s := S2048x256) (k0_off3 i k) S512x128.size (inAB (blockOf i k) (.inr rfl) (off3_at i k))).toLoadRect X3) (View.readAt (Elt F) arg4.view (Rect.unit (s := S2048x256) (k0_off2 i k) S512x128.size (inAB (blockOf i k) (.inl rfl) (off2_at i k))).toLoadRect X4) (View.readAt (Elt F) arg4.view (Rect.unit (s := S2048x256) (k0_off3 i k) S512x128.size (inAB (blockOf i k) (.inr rfl) (off3_at i k))).toLoadRect X4) (View.readAt (Elt F) arg9.view (Rect.unit (s := S2048x128) (k0_off1 i k) S512x64.size (inE (blockOf i k) (off1_at i k))).toLoadRect X9) (View.readAt (Elt F) arg11.view (Rect.unit (s := S2048x256) (k0_off2 i k) S512x128.size (inAB (blockOf i k) (.inl rfl) (off2_at i k))).toLoadRect f11) (View.readAt (Elt F) arg11.view (Rect.unit (s := S2048x256) (k0_off3 i k) S512x128.size (inAB (blockOf i k) (.inr rfl) (off3_at i k))).toLoadRect f11) (View.readAt (Elt F) arg12.view (Rect.unit (s := S2048x256) (k0_off2 i k) S512x128.size (inAB (blockOf i k) (.inl rfl) (off2_at i k))).toLoadRect f12) (View.readAt (Elt F) arg12.view (Rect.unit (s := S2048x256) (k0_off3 i k) S512x128.size (inAB (blockOf i k) (.inr rfl) (off3_at i k))).toLoadRect f12) (View.readAt (Elt F) arg14.view (Rect.unit (s := S2048x128) (k0_off1 i k) S512x64.size (inE (blockOf i k) (off1_at i k))).toLoadRect f14) (openProb v46 v48 v67 (View.readAt (Elt F) arg9.view (Rect.unit (s := S2048x128) (k0_off1 i k) S512x64.size (inE (blockOf i k) (off1_at i k))).toLoadRect X9) (View.readAt (Elt F) arg3.view (Rect.unit (s := S2048x256) (k0_off2 i k) S512x128.size (inAB (blockOf i k) (.inl rfl) (off2_at i k))).toLoadRect X3)) (openProb v47 v49 (k0_pay1 v68) (View.readAt (Elt F) arg9.view (Rect.unit (s := S2048x128) (k0_off1 i k) S512x64.size (inE (blockOf i k) (off1_at i k))).toLoadRect X9) (View.readAt (Elt F) arg3.view (Rect.unit (s := S2048x256) (k0_off3 i k) S512x128.size (inAB (blockOf i k) (.inr rfl) (off3_at i k))).toLoadRect X3)) (held arg11 arg12 arg14 acc f11 f12 f14))) (grads_ext rfl ?_ ?_ ?_) ?_
  · exact writeAB arg11 f11 _ _ _ _ (blockOf i k) (off2_at i k) (off3_at i k)
  · exact writeAB arg12 f12 _ _ _ _ (blockOf i k) (off2_at i k) (off3_at i k)
  · exact writeE arg14 f14 _ _ (blockOf i k) (off1_at i k)
  · rw [readA arg3 X3 _ (blockOf i k) (off2_at i k), readB arg3 X3 _ (blockOf i k) (off3_at i k),
      readA arg4 X4 _ (blockOf i k) (off2_at i k), readB arg4 X4 _ (blockOf i k) (off3_at i k),
      readE arg9 X9 _ (blockOf i k) (off1_at i k),
      readA arg11 f11 _ (blockOf i k) (off2_at i k), readB arg11 f11 _ (blockOf i k) (off3_at i k),
      readA arg12 f12 _ (blockOf i k) (off2_at i k), readB arg12 f12 _ (blockOf i k) (off3_at i k),
      readE arg14 f14 _ (blockOf i k) (off1_at i k)]
    rfl

set_option maxHeartbeats 1000000 in
theorem maskTrip_run (acc : Carry F) (f11 : BufTy.Contents (Elt F) arg11.view.ty)
    (f12 : BufTy.Contents (Elt F) arg12.view.ty) (f14 : BufTy.Contents (Elt F) arg14.view.ty) :
    held arg11 arg12 arg14 ((maskedTrip (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 (onlyTrip i)).1 acc f11 f12 f14) (arg11.view.writes (Elt F) f11 ((maskedTrip (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 (onlyTrip i)).2.1 acc f11 f12 f14))
        (arg12.view.writes (Elt F) f12 ((maskedTrip (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 (onlyTrip i)).2.2.1 acc f11 f12 f14)) (arg14.view.writes (Elt F) f14 ((maskedTrip (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 X3 X4 X9 (onlyTrip i)).2.2.2.1 acc f11 f12 f14))
      = maskTrip (rows v46 v47 v48 v49 v51 v53 v59 v65 v67 v68) (keys arg3 arg4 arg9 X3 X4 X9) (level i v0 v37) (i 1) (held arg11 arg12 arg14 acc f11 f12 f14) := by
  unfold maskedTrip
  dsimp only
  refine Eq.trans (b := (tripOf (rows v46 v47 v48 v49 v51 v53 v59 v65 v67 v68) (i 1) (View.readAt (Elt F) arg3.view (Rect.unit (s := S2048x256) (k0_off8 i (onlyTrip i)) S512x128.size (inAB (i 1) (.inl rfl) (off8_at i (onlyTrip i)))).toLoadRect X3) (View.readAt (Elt F) arg3.view (Rect.unit (s := S2048x256) (k0_off9 i (onlyTrip i)) S512x128.size (inAB (i 1) (.inr rfl) (off9_at i (onlyTrip i)))).toLoadRect X3) (View.readAt (Elt F) arg4.view (Rect.unit (s := S2048x256) (k0_off8 i (onlyTrip i)) S512x128.size (inAB (i 1) (.inl rfl) (off8_at i (onlyTrip i)))).toLoadRect X4) (View.readAt (Elt F) arg4.view (Rect.unit (s := S2048x256) (k0_off9 i (onlyTrip i)) S512x128.size (inAB (i 1) (.inr rfl) (off9_at i (onlyTrip i)))).toLoadRect X4) (View.readAt (Elt F) arg9.view (Rect.unit (s := S2048x128) (k0_off7 i (onlyTrip i)) S512x64.size (inE (i 1) (off7_at i (onlyTrip i)))).toLoadRect X9) (View.readAt (Elt F) arg11.view (Rect.unit (s := S2048x256) (k0_off8 i (onlyTrip i)) S512x128.size (inAB (i 1) (.inl rfl) (off8_at i (onlyTrip i)))).toLoadRect f11) (View.readAt (Elt F) arg11.view (Rect.unit (s := S2048x256) (k0_off9 i (onlyTrip i)) S512x128.size (inAB (i 1) (.inr rfl) (off9_at i (onlyTrip i)))).toLoadRect f11) (View.readAt (Elt F) arg12.view (Rect.unit (s := S2048x256) (k0_off8 i (onlyTrip i)) S512x128.size (inAB (i 1) (.inl rfl) (off8_at i (onlyTrip i)))).toLoadRect f12) (View.readAt (Elt F) arg12.view (Rect.unit (s := S2048x256) (k0_off9 i (onlyTrip i)) S512x128.size (inAB (i 1) (.inr rfl) (off9_at i (onlyTrip i)))).toLoadRect f12) (View.readAt (Elt F) arg14.view (Rect.unit (s := S2048x128) (k0_off7 i (onlyTrip i)) S512x64.size (inE (i 1) (off7_at i (onlyTrip i)))).toLoadRect f14) (maskProb (level i v0 v37) v46 v48 v67 (View.readAt (Elt F) arg9.view (Rect.unit (s := S2048x128) (k0_off7 i (onlyTrip i)) S512x64.size (inE (i 1) (off7_at i (onlyTrip i)))).toLoadRect X9) (View.readAt (Elt F) arg3.view (Rect.unit (s := S2048x256) (k0_off8 i (onlyTrip i)) S512x128.size (inAB (i 1) (.inl rfl) (off8_at i (onlyTrip i)))).toLoadRect X3)) (maskProb (level i v0 v37) v47 v49 (k0_pay1 v68) (View.readAt (Elt F) arg9.view (Rect.unit (s := S2048x128) (k0_off7 i (onlyTrip i)) S512x64.size (inE (i 1) (off7_at i (onlyTrip i)))).toLoadRect X9) (View.readAt (Elt F) arg3.view (Rect.unit (s := S2048x256) (k0_off9 i (onlyTrip i)) S512x128.size (inAB (i 1) (.inr rfl) (off9_at i (onlyTrip i)))).toLoadRect X3)) (held arg11 arg12 arg14 acc f11 f12 f14))) (grads_ext rfl ?_ ?_ ?_) ?_
  · exact writeAB arg11 f11 _ _ _ _ (i 1) (off8_at i (onlyTrip i)) (off9_at i (onlyTrip i))
  · exact writeAB arg12 f12 _ _ _ _ (i 1) (off8_at i (onlyTrip i)) (off9_at i (onlyTrip i))
  · exact writeE arg14 f14 _ _ (i 1) (off7_at i (onlyTrip i))
  · rw [readA arg3 X3 _ (i 1) (off8_at i (onlyTrip i)), readB arg3 X3 _ (i 1) (off9_at i (onlyTrip i)),
      readA arg4 X4 _ (i 1) (off8_at i (onlyTrip i)), readB arg4 X4 _ (i 1) (off9_at i (onlyTrip i)),
      readE arg9 X9 _ (i 1) (off7_at i (onlyTrip i)),
      readA arg11 f11 _ (i 1) (off8_at i (onlyTrip i)), readB arg11 f11 _ (i 1) (off9_at i (onlyTrip i)),
      readA arg12 f12 _ (i 1) (off8_at i (onlyTrip i)), readB arg12 f12 _ (i 1) (off9_at i (onlyTrip i)),
      readE arg14 f14 _ (i 1) (off7_at i (onlyTrip i))]
    rfl

variable (G11 : BufTy.Contents (Elt F) arg11.view.ty) (G12 : BufTy.Contents (Elt F) arg12.view.ty) (G14 : BufTy.Contents (Elt F) arg14.view.ty) (init : Carry F)

/-- After `n` trips the unmasked loop carries and leaves what the model's first `n` trips do. -/
theorem openTrips_run (n : ℕ) (hn : n ≤ (k0_t1_loop i).trips) :
    held arg11 arg12 arg14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 G11 G12 G14 init n).1 (arg11.view.writes (Elt F) G11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 G11 G12 G14 init n).2.1)
        (arg12.view.writes (Elt F) G12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 G11 G12 G14 init n).2.2.1) (arg14.view.writes (Elt F) G14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 G11 G12 G14 init n).2.2.2)
      = openTrips (rows v46 v47 v48 v49 v51 v53 v59 v65 v67 v68) (keys arg3 arg4 arg9 X3 X4 X9) (held arg11 arg12 arg14 init G11 G12 G14) n := by
  induction n with
  | zero => rfl
  | succ n ih =>
    have ih := ih (Nat.le_of_succ_le hn)
    have e := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 G11 G12 G14 init ⟨n, hn⟩
    dsimp only at e
    rw [e]
    dsimp only
    rw [View.writes_append, View.writes_append, View.writes_append]
    have h4 : n < 4 := Nat.lt_trans (Nat.lt_of_lt_of_eq hn (trips_t1 i)) (i 1).isLt
    refine (openTrip_run c i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 X3 X4 X9 ⟨n, hn⟩ _ _ _ _).trans ?_
    rw [ih]
    rw [openTrips, dif_pos h4]
    rfl

end Cert.KernelIdeal.Hand

end
-- ==== Proof.IdealRun.lean ====
/-
  One grid point's run: from the inputs' blocks and the three gradients so far to the point's four results and the gradients with its trips added.
-/
module

public import proofs.«01_k».proof.Proof.IdealTrips
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The point's operands, start and result -/

theorem qo_in {h : ℕ} (hh : h = 0 ∨ h = 128) : ∀ a : Fin 2, (![0, h] : Fin 2 → ℕ) a + S512x128.size a ≤ S512x256.size a := by
  refine Fin.forall_fin_two.mpr ⟨?_, ?_⟩
  · show 0 + 512 ≤ 512; omega
  · show h + 128 ≤ 256; omega
theorem ro_in {h : ℕ} (hh : h = 0 ∨ h = 64) : ∀ a : Fin 2, (![0, h] : Fin 2 → ℕ) a + S512x64.size a ≤ S512x128.size a := by
  refine Fin.forall_fin_two.mpr ⟨?_, ?_⟩
  · show 0 + 512 ≤ 512; omega
  · show h + 64 ≤ 128; omega

/-- The first head's columns of a block of query rows, -/
def colA {α : Type} (x : S512x256.Idx → α) : S512x128.Idx → α := VecWindow.window x ![0, 0] S512x128.size (qo_in (.inl rfl))
/-- the second's; -/
def colB {α : Type} (x : S512x256.Idx → α) : S512x128.Idx → α := VecWindow.window x ![0, 128] S512x128.size (qo_in (.inr rfl))
/-- the same of a block of rotary query rows, -/
def rotA {α : Type} (x : S512x128.Idx → α) : S512x64.Idx → α := VecWindow.window x ![0, 0] S512x64.size (ro_in (.inl rfl))
def rotB {α : Type} (x : S512x128.Idx → α) : S512x64.Idx → α := VecWindow.window x ![0, 64] S512x64.size (ro_in (.inr rfl))
/-- and of a block of the logarithms of the row sums, kept in the first two lanes. -/
def logA {α : Type} (x : S1x512x128.Idx → α) : S1x512x1.Idx → α := VecWindow.window x ![0, 0, 0] S1x512x1.size inb_S1x512x128_S1x512x1_0_0_0
def logB {α : Type} (x : S1x512x128.Idx → α) : S1x512x1.Idx → α := VecWindow.window x ![0, 0, 1] S1x512x1.size inb_S1x512x128_S1x512x1_0_0_1

/-- What a point loads before its loops, of its blocks of queries, output, output's gradient, logarithms and rotary queries. -/
def rowsOf (x2 : Vec F S512x256 .bf16) (x5 x6 : Vec F S512x256 .f32) (x7 : Vec F S1x512x128 .f32) (x8 : Vec F S512x128 .bf16) : Rows F :=
  ⟨colA x2, colB x2, rotA x8, rotB x8, k0_pay69 (colA x6), k0_pay70 (colB x6), k0_pay71 (colA x6) (colA x5), k0_pay72 (colB x6) (colB x5),
    k0_pay73 (logA x7), k0_pay1 (logB x7)⟩

/-- What the loops start from: no query gradient yet. -/
def start (dk dv : Vec F S2048x256 .f32) (de : Vec F S2048x128 .f32) : Grads F := ⟨(k0_pay2, k0_pay3, k0_pay4, k0_pay5), dk, dv, de⟩

/-- The point's first query row, -/
abbrev firstRow (i : grid0.Coords) : BitVec 32 := Scalar.muli (BitVec.ofNat 32 (i 1).val) 512#32
/-- and its block, as the body reckons it: the quotient by 512, rounded down. -/
abbrev ownBlock (i : grid0.Coords) : BitVec 32 :=
  Scalar.select (Scalar.andi
      (Scalar.cmpi .ne (Scalar.subi (Scalar.extui (Scalar.cmpi .sgt (firstRow i) 0#32)) (Scalar.extui (Scalar.cmpi .slt (firstRow i) 0#32)))
        (Scalar.subi (Scalar.extui (Scalar.cmpi .sgt 512#32 0#32)) (Scalar.extui (Scalar.cmpi .slt 512#32 0#32))))
      (Scalar.cmpi .ne (Scalar.remsi (firstRow i) 512#32) 0#32))
    (Scalar.subi (Scalar.divsi (firstRow i) 512#32) 1#32) (Scalar.divsi (firstRow i) 512#32)

/-- All a point does to the gradients. -/
def point (i : grid0.Coords) (x2 : Vec F S512x256 .bf16) (x3 x4 : Vec F S2048x256 .bf16) (x5 x6 : Vec F S512x256 .f32) (x7 : Vec F S1x512x128 .f32)
    (x8 : Vec F S512x128 .bf16) (x9 : Vec F S2048x128 .bf16) (dk dv : Vec F S2048x256 .f32) (de : Vec F S2048x128 .f32) : Grads F :=
  allTrips (rowsOf x2 x5 x6 x7 x8) ⟨x3, x4, x9⟩ (level i (firstRow i) (ownBlock i)) (i 1) (start dk dv de)

/-- The point is the first of its pair of heads: the keys' and values' gradients start over. -/
abbrev FirstOfPair (i : grid0.Coords) : Prop := Scalar.cmpi .ne (Scalar.extui (Scalar.cmpi .eq (BitVec.ofNat 32 (i 1).val) 0#32)) 0#32 = 1#1
/-- The point is the first of all: the rotary keys' gradient starts over. -/
abbrev FirstOfAll (i : grid0.Coords) : Prop :=
  Scalar.cmpi .ne (Scalar.extui (Scalar.andi (Scalar.cmpi .eq (BitVec.ofNat 32 (i 1).val) 0#32) (Scalar.cmpi .eq (BitVec.ofNat 32 (i 0).val) 0#32))) 0#32 = 1#1

/-! ## The run -/

section Run

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S1x512x128 .f32) (harg7 : arg7.IsWhole)
  (arg8 : Memref sig .tc .vmem S512x128 .bf16) (harg8 : arg8.IsWhole)
  (arg9 : Memref sig .tc .vmem S2048x128 .bf16) (harg9 : arg9.IsWhole)
  (arg10 : Memref sig .tc .vmem S512x256 .bf16) (harg10 : arg10.IsWhole)
  (arg11 : Memref sig .tc .vmem S2048x256 .f32) (harg11 : arg11.IsWhole)
  (arg12 : Memref sig .tc .vmem S2048x256 .f32) (harg12 : arg12.IsWhole)
  (arg13 : Memref sig .tc .vmem S512x128 .f32) (harg13 : arg13.IsWhole)
  (arg14 : Memref sig .tc .vmem S2048x128 .f32) (harg14 : arg14.IsWhole)
  (x2 : Vec F S512x256 .bf16) (x3 : Vec F S2048x256 .bf16) (x4 : Vec F S2048x256 .bf16) (x5 : Vec F S512x256 .f32) (x6 : Vec F S512x256 .f32) (x7 : Vec F S1x512x128 .f32) (x8 : Vec F S512x128 .bf16) (x9 : Vec F S2048x128 .bf16)
  (g11 g12 : Vec F S2048x256 .f32) (g14 : Vec F S2048x128 .f32)

/-- The masked trip after what the loops before it carried out, where the one between them did nothing. -/
theorem masked_after (v0 v37 : BitVec 32) (v46 : Vec F S512x128 .bf16) (v47 : Vec F S512x128 .bf16) (v48 : Vec F S512x64 .bf16) (v49 : Vec F S512x64 .bf16) (v51 : FVec F S512x128 .bf16) (v53 : FVec F S512x128 .bf16) (v59 : FVec F S512x1 .f32) (v65 : FVec F S512x1 .f32) (v67 : FVec F S512x1 .f32) (v68 : Vec F S1x512x1 .f32) (f3 : BufTy.Contents (Elt F) arg3.view.ty) (f4 : BufTy.Contents (Elt F) arg4.view.ty) (f9 : BufTy.Contents (Elt F) arg9.view.ty) (f11 : BufTy.Contents (Elt F) arg11.view.ty) (f12 : BufTy.Contents (Elt F) arg12.view.ty) (f14 : BufTy.Contents (Elt F) arg14.view.ty) (A1 A2 : Carry F × List (View.Piece (Elt F) S2048x256 .f32) × List (View.Piece (Elt F) S2048x256 .f32) × List (View.Piece (Elt F) S2048x128 .f32)) (n : ℕ) (s : Grads F)
    (h1 : held arg11 arg12 arg14 A1.1 (arg11.view.writes (Elt F) f11 A1.2.1) (arg12.view.writes (Elt F) f12 A1.2.2.1) (arg14.view.writes (Elt F) f14 A1.2.2.2) = s)
    (h2 : A2 = ((A1.1.1, A1.1.2.1, A1.1.2.2.1, A1.1.2.2.2), [], [], [])) (h3 : n = 1) :
    held arg11 arg12 arg14 (maskedAcc (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 (arg11.view.writes (Elt F) f11 (A2.2.1 ++ A1.2.1)) (arg12.view.writes (Elt F) f12 (A2.2.2.1 ++ A1.2.2.1)) (arg14.view.writes (Elt F) f14 (A2.2.2.2 ++ A1.2.2.2)) (A2.1.1, A2.1.2.1, A2.1.2.2.1, A2.1.2.2.2) n) (arg11.view.writes (Elt F) f11 ((masked11 (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 (arg11.view.writes (Elt F) f11 (A2.2.1 ++ A1.2.1)) (arg12.view.writes (Elt F) f12 (A2.2.2.1 ++ A1.2.2.1)) (arg14.view.writes (Elt F) f14 (A2.2.2.2 ++ A1.2.2.2)) (A2.1.1, A2.1.2.1, A2.1.2.2.1, A2.1.2.2.2) n) ++ (A2.2.1 ++ A1.2.1))) (arg12.view.writes (Elt F) f12 ((masked12 (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 (arg11.view.writes (Elt F) f11 (A2.2.1 ++ A1.2.1)) (arg12.view.writes (Elt F) f12 (A2.2.2.1 ++ A1.2.2.1)) (arg14.view.writes (Elt F) f14 (A2.2.2.2 ++ A1.2.2.2)) (A2.1.1, A2.1.2.1, A2.1.2.2.1, A2.1.2.2.2) n) ++ (A2.2.2.1 ++ A1.2.2.1))) (arg14.view.writes (Elt F) f14 ((masked14 (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 (arg11.view.writes (Elt F) f11 (A2.2.1 ++ A1.2.1)) (arg12.view.writes (Elt F) f12 (A2.2.2.1 ++ A1.2.2.1)) (arg14.view.writes (Elt F) f14 (A2.2.2.2 ++ A1.2.2.2)) (A2.1.1, A2.1.2.1, A2.1.2.2.1, A2.1.2.2.2) n) ++ (A2.2.2.2 ++ A1.2.2.2)))
      = maskTrip (rows v46 v47 v48 v49 v51 v53 v59 v65 v67 v68) (keys arg3 arg4 arg9 f3 f4 f9) (level i v0 v37) (i 1) s := by
  subst h2 h3 h1
  dsimp only [List.nil_append]
  rw [View.writes_append, View.writes_append, View.writes_append]
  exact maskTrip_run c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 _ _ _ _

/-- The second loop makes no trip. -/
theorem second_none (v78 : BitVec 32) (v46 : Vec F S512x128 .bf16) (v47 : Vec F S512x128 .bf16) (v48 : Vec F S512x64 .bf16) (v49 : Vec F S512x64 .bf16) (v51 : FVec F S512x128 .bf16) (v53 : FVec F S512x128 .bf16) (v59 : FVec F S512x1 .f32) (v65 : FVec F S512x1 .f32) (v67 : FVec F S512x1 .f32) (v68 : Vec F S1x512x1 .f32) (f3 : BufTy.Contents (Elt F) arg3.view.ty) (f4 : BufTy.Contents (Elt F) arg4.view.ty) (f9 : BufTy.Contents (Elt F) arg9.view.ty) (G11 G12 G14) (init : Carry F) :
    (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 G11 G12 G14 init (k0_t2_loop i).trips) = (init, [], [], []) := by
  rw [trips_t2 i]
  rfl

/-- The four loops one after another: what they carry out and leave in the gradients is what the model's trips do. -/
theorem loops_run (v0 v37 v78 : BitVec 32) (v46 : Vec F S512x128 .bf16) (v47 : Vec F S512x128 .bf16) (v48 : Vec F S512x64 .bf16) (v49 : Vec F S512x64 .bf16) (v51 : FVec F S512x128 .bf16) (v53 : FVec F S512x128 .bf16) (v59 : FVec F S512x1 .f32) (v65 : FVec F S512x1 .f32) (v67 : FVec F S512x1 .f32) (v68 : Vec F S1x512x1 .f32) (f3 : BufTy.Contents (Elt F) arg3.view.ty) (f4 : BufTy.Contents (Elt F) arg4.view.ty) (f9 : BufTy.Contents (Elt F) arg9.view.ty) (f11 : BufTy.Contents (Elt F) arg11.view.ty) (f12 : BufTy.Contents (Elt F) arg12.view.ty) (f14 : BufTy.Contents (Elt F) arg14.view.ty) (init : Carry F) :
    held arg11 arg12 arg14 (maskedAcc (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 (arg11.view.writes (Elt F) f11 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1)) (arg12.view.writes (Elt F) f12 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1)) (arg14.view.writes (Elt F) f14 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.2 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2)) ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.2.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.2.2) (k0_t3_loop i).trips)
        (arg11.view.writes (Elt F) f11 ((masked11 (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 (arg11.view.writes (Elt F) f11 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1)) (arg12.view.writes (Elt F) f12 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1)) (arg14.view.writes (Elt F) f14 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.2 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2)) ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.2.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.2.2) (k0_t3_loop i).trips) ++ ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1)))
        (arg12.view.writes (Elt F) f12 ((masked12 (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 (arg11.view.writes (Elt F) f11 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1)) (arg12.view.writes (Elt F) f12 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1)) (arg14.view.writes (Elt F) f14 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.2 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2)) ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.2.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.2.2) (k0_t3_loop i).trips) ++ ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1)))
        (arg14.view.writes (Elt F) f14 ((masked14 (F := F) c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 (arg11.view.writes (Elt F) f11 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1)) (arg12.view.writes (Elt F) f12 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.1 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1)) (arg14.view.writes (Elt F) f14 ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.2 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2)) ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.2.1, (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).1.2.2.2) (k0_t3_loop i).trips) ++ ((st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 v78 f3 f4 f9 (arg11.view.writes (Elt F) f11 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.1) (arg12.view.writes (Elt F) f12 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.1) (arg14.view.writes (Elt F) f14 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2) ((st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.1, (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).1.2.2.2) (k0_t2_loop i).trips).2.2.2 ++ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips).2.2.2)))
      = allTrips (rows v46 v47 v48 v49 v51 v53 v59 v65 v67 v68) (keys arg3 arg4 arg9 f3 f4 f9) (level i v0 v37) (i 1) (held arg11 arg12 arg14 init f11 f12 f14) := by
  have h1 := (openTrips_run c i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init _ le_rfl)
  rw [show openTrips (rows v46 v47 v48 v49 v51 v53 v59 v65 v67 v68) (keys arg3 arg4 arg9 f3 f4 f9) (held arg11 arg12 arg14 init f11 f12 f14) (k0_t1_loop i).trips
    = openTrips (rows v46 v47 v48 v49 v51 v53 v59 v65 v67 v68) (keys arg3 arg4 arg9 f3 f4 f9) (held arg11 arg12 arg14 init f11 f12 f14) (i 1).val from congrArg _ (trips_t1 i)] at h1
  revert h1
  generalize (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v46 v47 v48 v49 v51 v53 v59 v65 v67 v68 f3 f4 f9 f11 f12 f14 init (k0_t1_loop i).trips) = A1
  intro h1
  exact masked_after c i arg2 harg2 arg3 harg3 arg4 harg4 arg5 harg5 arg6 harg6 arg7 harg7 arg8 harg8 arg9 harg9 arg10 harg10 arg11 harg11 arg12 harg12 arg13 harg13 arg14 harg14 v0 v37 v46 v47 v48 v49 v51 v53 v59 v65 v67 v68 f3 f4 f9 f11 f12 f14 A1 _ _ _ h1
    (second_none c i arg2 harg2 arg3 harg3 arg4 harg4 arg5 harg5 arg6 harg6 arg7 harg7 arg8 harg8 arg9 harg9 arg10 harg10 arg11 harg11 arg12 harg12 arg13 harg13 arg14 harg14 v78 v46 v47 v48 v49 v51 v53 v59 v65 v67 v68 f3 f4 f9 _ _ _ _) (trips_t3 i)

theorem rows_read (f2 : BufTy.Contents (Elt F) arg2.view.ty) (f5 : BufTy.Contents (Elt F) arg5.view.ty) (f6 : BufTy.Contents (Elt F) arg6.view.ty) (f7 : BufTy.Contents (Elt F) arg7.view.ty) (f8 : BufTy.Contents (Elt F) arg8.view.ty) :
    rows (F := F) (View.readAt (Elt F) arg2.view (Rect.unit (s := S512x256) ![0, 0] S512x128.size inb_S512x256_S512x128_0_0).toLoadRect f2) (View.readAt (Elt F) arg2.view (Rect.unit (s := S512x256) ![0, 128] S512x128.size inb_S512x256_S512x128_0_128).toLoadRect f2) (View.readAt (Elt F) arg8.view (Rect.unit (s := S512x128) ![0, 0] S512x64.size inb_S512x128_S512x64_0_0).toLoadRect f8) (View.readAt (Elt F) arg8.view (Rect.unit (s := S512x128) ![0, 64] S512x64.size inb_S512x128_S512x64_0_64).toLoadRect f8) (k0_pay69 (View.readAt (Elt F) arg6.view (Rect.unit (s := S512x256) ![0, 0] S512x128.size inb_S512x256_S512x128_0_0).toLoadRect f6)) (k0_pay70 (View.readAt (Elt F) arg6.view (Rect.unit (s := S512x256) ![0, 128] S512x128.size inb_S512x256_S512x128_0_128).toLoadRect f6)) (k0_pay71 (View.readAt (Elt F) arg6.view (Rect.unit (s := S512x256) ![0, 0] S512x128.size inb_S512x256_S512x128_0_0).toLoadRect f6) (View.readAt (Elt F) arg5.view (Rect.unit (s := S512x256) ![0, 0] S512x128.size inb_S512x256_S512x128_0_0).toLoadRect f5)) (k0_pay72 (View.readAt (Elt F) arg6.view (Rect.unit (s := S512x256) ![0, 128] S512x128.size inb_S512x256_S512x128_0_128).toLoadRect f6) (View.readAt (Elt F) arg5.view (Rect.unit (s := S512x256) ![0, 128] S512x128.size inb_S512x256_S512x128_0_128).toLoadRect f5)) (k0_pay73 (View.readAt (Elt F) arg7.view (Rect.unit (s := S1x512x128) ![0, 0, 0] S1x512x1.size inb_S1x512x128_S1x512x1_0_0_0).toLoadRect f7)) (View.readAt (Elt F) arg7.view (Rect.unit (s := S1x512x128) ![0, 0, 1] S1x512x1.size inb_S1x512x128_S1x512x1_0_0_1).toLoadRect f7)
      = rowsOf (arg2.view.read (Elt F) f2) (arg5.view.read (Elt F) f5) (arg6.view.read (Elt F) f6) (arg7.view.read (Elt F) f7) (arg8.view.read (Elt F) f8) := by
  unfold rows rowsOf
  rw [View.readAt_unit arg2.view f2 _ rfl (qo_in (.inl rfl)), View.readAt_unit arg2.view f2 _ rfl (qo_in (.inr rfl)),
    View.readAt_unit arg8.view f8 _ rfl (ro_in (.inl rfl)), View.readAt_unit arg8.view f8 _ rfl (ro_in (.inr rfl)),
    View.readAt_unit arg6.view f6 _ rfl (qo_in (.inl rfl)), View.readAt_unit arg6.view f6 _ rfl (qo_in (.inr rfl)),
    View.readAt_unit arg5.view f5 _ rfl (qo_in (.inl rfl)), View.readAt_unit arg5.view f5 _ rfl (qo_in (.inr rfl)),
    View.readAt_unit arg7.view f7 _ rfl inb_S1x512x128_S1x512x1_0_0_0, View.readAt_unit arg7.view f7 _ rfl inb_S1x512x128_S1x512x1_0_0_1]
  rfl

set_option maxHeartbeats 2000000 in
/-- A point that is not the first of its pair of heads. -/
theorem run_later (h1 : ¬ FirstOfPair i) (h2 : ¬ FirstOfAll i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare g11 ∗ owns (c : Thread nD τ) arg12 fullShare g12 ∗ (∃ d, owns (c : Thread nD τ) arg13 fullShare d) ∗ owns (c : Thread nD τ) arg14 fullShare g14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay14 (point i x2 x3 x4 x5 x6 x7 x8 x9 g11 g12 g14).acc.1 (point i x2 x3 x4 x5 x6 x7 x8 x9 g11 g12 g14).acc.2.2.1) ∗ owns (c : Thread nD τ) arg11 fullShare (point i x2 x3 x4 x5 x6 x7 x8 x9 g11 g12 g14).dk ∗ owns (c : Thread nD τ) arg12 fullShare (point i x2 x3 x4 x5 x6 x7 x8 x9 g11 g12 g14).dv ∗ owns (c : Thread nD τ) arg13 fullShare (k0_pay15 (point i x2 x3 x4 x5 x6 x7 x8 x9 g11 g12 g14).acc.2.1 (point i x2 x3 x4 x5 x6 x7 x8 x9 g11 g12 g14).acc.2.2.2) ∗ owns (c : Thread nD τ) arg14 fullShare (point i x2 x3 x4 x5 x6 x7 x8 x9 g11 g12 g14).de) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, ⟨%f14, %hf14, H14⟩, Hk⟩
  have key := loops_run c i arg2 harg2 arg3 harg3 arg4 harg4 arg5 harg5 arg6 harg6 arg7 harg7 arg8 harg8 arg9 harg9 arg10 harg10 arg11 harg11 arg12 harg12 arg13 harg13 arg14 harg14 (firstRow i) (ownBlock i) (Scalar.addi 0#32 (Scalar.muli (Scalar.divsi (Scalar.subi (ownBlock i) 0#32) 1#32) 1#32)) (View.readAt (Elt F) arg2.view (Rect.unit (s := S512x256) ![0, 0] S512x128.size inb_S512x256_S512x128_0_0).toLoadRect f2) (View.readAt (Elt F) arg2.view (Rect.unit (s := S512x256) ![0, 128] S512x128.size inb_S512x256_S512x128_0_128).toLoadRect f2) (View.readAt (Elt F) arg8.view (Rect.unit (s := S512x128) ![0, 0] S512x64.size inb_S512x128_S512x64_0_0).toLoadRect f8) (View.readAt (Elt F) arg8.view (Rect.unit (s := S512x128) ![0, 64] S512x64.size inb_S512x128_S512x64_0_64).toLoadRect f8) (k0_pay69 (View.readAt (Elt F) arg6.view (Rect.unit (s := S512x256) ![0, 0] S512x128.size inb_S512x256_S512x128_0_0).toLoadRect f6)) (k0_pay70 (View.readAt (Elt F) arg6.view (Rect.unit (s := S512x256) ![0, 128] S512x128.size inb_S512x256_S512x128_0_128).toLoadRect f6)) (k0_pay71 (View.readAt (Elt F) arg6.view (Rect.unit (s := S512x256) ![0, 0] S512x128.size inb_S512x256_S512x128_0_0).toLoadRect f6) (View.readAt (Elt F) arg5.view (Rect.unit (s := S512x256) ![0, 0] S512x128.size inb_S512x256_S512x128_0_0).toLoadRect f5)) (k0_pay72 (View.readAt (Elt F) arg6.view (Rect.unit (s := S512x256) ![0, 128] S512x128.size inb_S512x256_S512x128_0_128).toLoadRect f6) (View.readAt (Elt F) arg5.view (Rect.unit (s := S512x256) ![0, 128] S512x128.size inb_S512x256_S512x128_0_128).toLoadRect f5)) (k0_pay73 (View.readAt (Elt F) arg7.view (Rect.unit (s := S1x512x128) ![0, 0, 0] S1x512x1.size inb_S1x512x128_S1x512x1_0_0_0).toLoadRect f7)) (View.readAt (Elt F) arg7.view (Rect.unit (s := S1x512x128) ![0, 0, 1] S1x512x1.size inb_S1x512x128_S1x512x1_0_0_1).toLoadRect f7) f3 f4 f9 f11 f12 f14 (k0_pay2, k0_pay3, k0_pay4, k0_pay5)
  rw [rows_read] at key
  obtain rfl := hf2; obtain rfl := hf3; obtain rfl := hf4; obtain rfl := hf5; obtain rfl := hf6; obtain rfl := hf7; obtain rfl := hf8; obtain rfl := hf9
  obtain rfl := hf11; obtain rfl := hf12; obtain rfl := hf14
  sl_exec (disch := first | sl_exact h1 | sl_exact h2)
  sl_step
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; rfl
                  iexact H9
  isplitl [H10]
  · iexists _; isplitr; swap; · iexact H10
    ipureintro
    refine (View.read_writes_full arg10.view f10 _ _ _).trans ?_
    exact congrArg (fun s : Grads F => k0_pay14 s.acc.1 s.acc.2.2.1) key
  isplitl [H11]
  · iexists _; isplitr; swap; · iexact H11
    ipureintro
    exact congrArg Grads.dk key
  isplitl [H12]
  · iexists _; isplitr; swap; · iexact H12
    ipureintro
    exact congrArg Grads.dv key
  isplitl [H13]
  · iexists _; isplitr; swap; · iexact H13
    ipureintro
    refine (View.read_writes_full arg13.view f13 _ _ _).trans ?_
    exact congrArg (fun s : Grads F => k0_pay15 s.acc.2.1 s.acc.2.2.2) key
  iexists _; isplitr; swap; · iexact H14
  ipureintro
  exact congrArg Grads.de key

end Run

end Cert.KernelIdeal.Hand

end
-- ==== Proof.IdealRunPair.lean ====
/-
  A grid point that is the first of its pair of heads, though not of all: it clears the gradients of the keys and the values.
-/
module

public import proofs.«01_k».proof.Proof.IdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The run -/

section Run

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S1x512x128 .f32) (harg7 : arg7.IsWhole)
  (arg8 : Memref sig .tc .vmem S512x128 .bf16) (harg8 : arg8.IsWhole)
  (arg9 : Memref sig .tc .vmem S2048x128 .bf16) (harg9 : arg9.IsWhole)
  (arg10 : Memref sig .tc .vmem S512x256 .bf16) (harg10 : arg10.IsWhole)
  (arg11 : Memref sig .tc .vmem S2048x256 .f32) (harg11 : arg11.IsWhole)
  (arg12 : Memref sig .tc .vmem S2048x256 .f32) (harg12 : arg12.IsWhole)
  (arg13 : Memref sig .tc .vmem S512x128 .f32) (harg13 : arg13.IsWhole)
  (arg14 : Memref sig .tc .vmem S2048x128 .f32) (harg14 : arg14.IsWhole)
  (x2 : Vec F S512x256 .bf16) (x3 : Vec F S2048x256 .bf16) (x4 : Vec F S2048x256 .bf16) (x5 : Vec F S512x256 .f32) (x6 : Vec F S512x256 .f32) (x7 : Vec F S1x512x128 .f32) (x8 : Vec F S512x128 .bf16) (x9 : Vec F S2048x128 .bf16)
  (g11 g12 : Vec F S2048x256 .f32) (g14 : Vec F S2048x128 .f32)

set_option maxHeartbeats 20000000 in
/-- A point that is the first of its pair of heads, but not of all. -/
theorem run_pair (h1 : FirstOfPair i) (h2 : ¬ FirstOfAll i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare g11 ∗ owns (c : Thread nD τ) arg12 fullShare g12 ∗ (∃ d, owns (c : Thread nD τ) arg13 fullShare d) ∗ owns (c : Thread nD τ) arg14 fullShare g14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay14 (point i x2 x3 x4 x5 x6 x7 x8 x9 k0_pay66 k0_pay67 g14).acc.1 (point i x2 x3 x4 x5 x6 x7 x8 x9 k0_pay66 k0_pay67 g14).acc.2.2.1) ∗ owns (c : Thread nD τ) arg11 fullShare (point i x2 x3 x4 x5 x6 x7 x8 x9 k0_pay66 k0_pay67 g14).dk ∗ owns (c : Thread nD τ) arg12 fullShare (point i x2 x3 x4 x5 x6 x7 x8 x9 k0_pay66 k0_pay67 g14).dv ∗ owns (c : Thread nD τ) arg13 fullShare (k0_pay15 (point i x2 x3 x4 x5 x6 x7 x8 x9 k0_pay66 k0_pay67 g14).acc.2.1 (point i x2 x3 x4 x5 x6 x7 x8 x9 k0_pay66 k0_pay67 g14).acc.2.2.2) ∗ owns (c : Thread nD τ) arg14 fullShare (point i x2 x3 x4 x5 x6 x7 x8 x9 k0_pay66 k0_pay67 g14).de) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, ⟨%f14, %hf14, H14⟩, Hk⟩
  have key := loops_run c i arg2 harg2 arg3 harg3 arg4 harg4 arg5 harg5 arg6 harg6 arg7 harg7 arg8 harg8 arg9 harg9 arg10 harg10 arg11 harg11 arg12 harg12 arg13 harg13 arg14 harg14 (firstRow i) (ownBlock i) (Scalar.addi 0#32 (Scalar.muli (Scalar.divsi (Scalar.subi (ownBlock i) 0#32) 1#32) 1#32)) (View.readAt (Elt F) arg2.view (Rect.unit (s := S512x256) ![0, 0] S512x128.size inb_S512x256_S512x128_0_0).toLoadRect f2) (View.readAt (Elt F) arg2.view (Rect.unit (s := S512x256) ![0, 128] S512x128.size inb_S512x256_S512x128_0_128).toLoadRect f2) (View.readAt (Elt F) arg8.view (Rect.unit (s := S512x128) ![0, 0] S512x64.size inb_S512x128_S512x64_0_0).toLoadRect f8) (View.readAt (Elt F) arg8.view (Rect.unit (s := S512x128) ![0, 64] S512x64.size inb_S512x128_S512x64_0_64).toLoadRect f8) (k0_pay69 (View.readAt (Elt F) arg6.view (Rect.unit (s := S512x256) ![0, 0] S512x128.size inb_S512x256_S512x128_0_0).toLoadRect f6)) (k0_pay70 (View.readAt (Elt F) arg6.view (Rect.unit (s := S512x256) ![0, 128] S512x128.size inb_S512x256_S512x128_0_128).toLoadRect f6)) (k0_pay71 (View.readAt (Elt F) arg6.view (Rect.unit (s := S512x256) ![0, 0] S512x128.size inb_S512x256_S512x128_0_0).toLoadRect f6) (View.readAt (Elt F) arg5.view (Rect.unit (s := S512x256) ![0, 0] S512x128.size inb_S512x256_S512x128_0_0).toLoadRect f5)) (k0_pay72 (View.readAt (Elt F) arg6.view (Rect.unit (s := S512x256) ![0, 128] S512x128.size inb_S512x256_S512x128_0_128).toLoadRect f6) (View.readAt (Elt F) arg5.view (Rect.unit (s := S512x256) ![0, 128] S512x128.size inb_S512x256_S512x128_0_128).toLoadRect f5)) (k0_pay73 (View.readAt (Elt F) arg7.view (Rect.unit (s := S1x512x128) ![0, 0, 0] S1x512x1.size inb_S1x512x128_S1x512x1_0_0_0).toLoadRect f7)) (View.readAt (Elt F) arg7.view (Rect.unit (s := S1x512x128) ![0, 0, 1] S1x512x1.size inb_S1x512x128_S1x512x1_0_0_1).toLoadRect f7) f3 f4 f9 (arg11.view.writes (Elt F) arg11.view.junk [⟨Rect.unit (s := S2048x256) ![0, 0] S2048x256.size inb_S2048x256_S2048x256_0_0, k0_pay66 (F := F)⟩]) (arg12.view.writes (Elt F) arg12.view.junk [⟨Rect.unit (s := S2048x256) ![0, 0] S2048x256.size inb_S2048x256_S2048x256_0_0, k0_pay67 (F := F)⟩]) f14 (k0_pay2, k0_pay3, k0_pay4, k0_pay5)
  rw [rows_read] at key
  have es : held arg11 arg12 arg14 (k0_pay2, k0_pay3, k0_pay4, k0_pay5) (arg11.view.writes (Elt F) arg11.view.junk [⟨Rect.unit (s := S2048x256) ![0, 0] S2048x256.size inb_S2048x256_S2048x256_0_0, k0_pay66 (F := F)⟩]) (arg12.view.writes (Elt F) arg12.view.junk [⟨Rect.unit (s := S2048x256) ![0, 0] S2048x256.size inb_S2048x256_S2048x256_0_0, k0_pay67 (F := F)⟩]) f14 = start (F := F) k0_pay66 k0_pay67 (arg14.view.read (Elt F) f14) :=
    grads_ext rfl (View.read_writes_full arg11.view arg11.view.junk _ _ _) (View.read_writes_full arg12.view arg12.view.junk _ _ _) rfl
  rw [es] at key
  simp only [← View.writes_append, List.append_assoc] at key
  obtain rfl := hf2; obtain rfl := hf3; obtain rfl := hf4; obtain rfl := hf5; obtain rfl := hf6; obtain rfl := hf7; obtain rfl := hf8; obtain rfl := hf9
  obtain rfl := hf11; obtain rfl := hf12; obtain rfl := hf14
  sl_exec (disch := first | sl_exact h1 | sl_exact h2)
  sl_step
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; rfl
                  iexact H9
  isplitl [H10]
  · iexists _; isplitr; swap; · iexact H10
    ipureintro
    refine (View.read_writes_full arg10.view f10 _ _ _).trans ?_
    exact congrArg (fun s : Grads F => k0_pay14 s.acc.1 s.acc.2.2.1) key
  isplitl [H11]
  · iexists _; isplitr; swap; · iexact H11
    ipureintro
    have k := congrArg Grads.dk key
    simp only [held] at k
    refine Eq.trans ?_ k
    refine congrArg (View.read (Elt F) arg11.view) (congrArg (arg11.view.writes (Elt F) arg11.view.junk) ?_)
    refine congrArg₂ HAppend.hAppend ?_ (congrArg₂ HAppend.hAppend ?_ (congrArg₂ HAppend.hAppend ?_ ?_))
    · rfl
    · rfl
    · rfl
    · rfl
  isplitl [H12]
  · iexists _; isplitr; swap; · iexact H12
    ipureintro
    have k := congrArg Grads.dv key
    simp only [held] at k
    refine Eq.trans ?_ k
    refine congrArg (View.read (Elt F) arg12.view) (congrArg (arg12.view.writes (Elt F) arg12.view.junk) ?_)
    refine congrArg₂ HAppend.hAppend ?_ (congrArg₂ HAppend.hAppend ?_ (congrArg₂ HAppend.hAppend ?_ ?_))
    · rfl
    · rfl
    · rfl
    · rfl
  isplitl [H13]
  · iexists _; isplitr; swap; · iexact H13
    ipureintro
    refine (View.read_writes_full arg13.view f13 _ _ _).trans ?_
    exact congrArg (fun s : Grads F => k0_pay15 s.acc.2.1 s.acc.2.2.2) key
  iexists _; isplitr; swap; · iexact H14
  ipureintro
  have k := congrArg Grads.de key
  simp only [held] at k
  refine Eq.trans ?_ k
  refine congrArg (View.read (Elt F) arg14.view) (congrArg (arg14.view.writes (Elt F) f14) ?_)
  refine congrArg₂ HAppend.hAppend ?_ (congrArg₂ HAppend.hAppend ?_ ?_)
  · rfl
  · rfl
  · rfl

end Run

end Cert.KernelIdeal.Hand

end
-- ==== Proof.IdealRunAll.lean ====
/-
  The first grid point: it clears all three gradients the points add to.
-/
module

public import proofs.«01_k».proof.Proof.IdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The run -/

section Run

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S512x256 .f32) (harg5 : arg5.IsWhole)
  (arg6 : Memref sig .tc .vmem S512x256 .f32) (harg6 : arg6.IsWhole)
  (arg7 : Memref sig .tc .vmem S1x512x128 .f32) (harg7 : arg7.IsWhole)
  (arg8 : Memref sig .tc .vmem S512x128 .bf16) (harg8 : arg8.IsWhole)
  (arg9 : Memref sig .tc .vmem S2048x128 .bf16) (harg9 : arg9.IsWhole)
  (arg10 : Memref sig .tc .vmem S512x256 .bf16) (harg10 : arg10.IsWhole)
  (arg11 : Memref sig .tc .vmem S2048x256 .f32) (harg11 : arg11.IsWhole)
  (arg12 : Memref sig .tc .vmem S2048x256 .f32) (harg12 : arg12.IsWhole)
  (arg13 : Memref sig .tc .vmem S512x128 .f32) (harg13 : arg13.IsWhole)
  (arg14 : Memref sig .tc .vmem S2048x128 .f32) (harg14 : arg14.IsWhole)
  (x2 : Vec F S512x256 .bf16) (x3 : Vec F S2048x256 .bf16) (x4 : Vec F S2048x256 .bf16) (x5 : Vec F S512x256 .f32) (x6 : Vec F S512x256 .f32) (x7 : Vec F S1x512x128 .f32) (x8 : Vec F S512x128 .bf16) (x9 : Vec F S2048x128 .bf16)
  (g11 g12 : Vec F S2048x256 .f32) (g14 : Vec F S2048x128 .f32)

set_option maxHeartbeats 20000000 in
/-- The first point of all. -/
theorem run_all (h1 : FirstOfPair i) (h2 : FirstOfAll i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare g11 ∗ owns (c : Thread nD τ) arg12 fullShare g12 ∗ (∃ d, owns (c : Thread nD τ) arg13 fullShare d) ∗ owns (c : Thread nD τ) arg14 fullShare g14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay14 (point i x2 x3 x4 x5 x6 x7 x8 x9 k0_pay66 k0_pay67 k0_pay68).acc.1 (point i x2 x3 x4 x5 x6 x7 x8 x9 k0_pay66 k0_pay67 k0_pay68).acc.2.2.1) ∗ owns (c : Thread nD τ) arg11 fullShare (point i x2 x3 x4 x5 x6 x7 x8 x9 k0_pay66 k0_pay67 k0_pay68).dk ∗ owns (c : Thread nD τ) arg12 fullShare (point i x2 x3 x4 x5 x6 x7 x8 x9 k0_pay66 k0_pay67 k0_pay68).dv ∗ owns (c : Thread nD τ) arg13 fullShare (k0_pay15 (point i x2 x3 x4 x5 x6 x7 x8 x9 k0_pay66 k0_pay67 k0_pay68).acc.2.1 (point i x2 x3 x4 x5 x6 x7 x8 x9 k0_pay66 k0_pay67 k0_pay68).acc.2.2.2) ∗ owns (c : Thread nD τ) arg14 fullShare (point i x2 x3 x4 x5 x6 x7 x8 x9 k0_pay66 k0_pay67 k0_pay68).de) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, ⟨%f14, %hf14, H14⟩, Hk⟩
  have key := loops_run c i arg2 harg2 arg3 harg3 arg4 harg4 arg5 harg5 arg6 harg6 arg7 harg7 arg8 harg8 arg9 harg9 arg10 harg10 arg11 harg11 arg12 harg12 arg13 harg13 arg14 harg14 (firstRow i) (ownBlock i) (Scalar.addi 0#32 (Scalar.muli (Scalar.divsi (Scalar.subi (ownBlock i) 0#32) 1#32) 1#32)) (View.readAt (Elt F) arg2.view (Rect.unit (s := S512x256) ![0, 0] S512x128.size inb_S512x256_S512x128_0_0).toLoadRect f2) (View.readAt (Elt F) arg2.view (Rect.unit (s := S512x256) ![0, 128] S512x128.size inb_S512x256_S512x128_0_128).toLoadRect f2) (View.readAt (Elt F) arg8.view (Rect.unit (s := S512x128) ![0, 0] S512x64.size inb_S512x128_S512x64_0_0).toLoadRect f8) (View.readAt (Elt F) arg8.view (Rect.unit (s := S512x128) ![0, 64] S512x64.size inb_S512x128_S512x64_0_64).toLoadRect f8) (k0_pay69 (View.readAt (Elt F) arg6.view (Rect.unit (s := S512x256) ![0, 0] S512x128.size inb_S512x256_S512x128_0_0).toLoadRect f6)) (k0_pay70 (View.readAt (Elt F) arg6.view (Rect.unit (s := S512x256) ![0, 128] S512x128.size inb_S512x256_S512x128_0_128).toLoadRect f6)) (k0_pay71 (View.readAt (Elt F) arg6.view (Rect.unit (s := S512x256) ![0, 0] S512x128.size inb_S512x256_S512x128_0_0).toLoadRect f6) (View.readAt (Elt F) arg5.view (Rect.unit (s := S512x256) ![0, 0] S512x128.size inb_S512x256_S512x128_0_0).toLoadRect f5)) (k0_pay72 (View.readAt (Elt F) arg6.view (Rect.unit (s := S512x256) ![0, 128] S512x128.size inb_S512x256_S512x128_0_128).toLoadRect f6) (View.readAt (Elt F) arg5.view (Rect.unit (s := S512x256) ![0, 128] S512x128.size inb_S512x256_S512x128_0_128).toLoadRect f5)) (k0_pay73 (View.readAt (Elt F) arg7.view (Rect.unit (s := S1x512x128) ![0, 0, 0] S1x512x1.size inb_S1x512x128_S1x512x1_0_0_0).toLoadRect f7)) (View.readAt (Elt F) arg7.view (Rect.unit (s := S1x512x128) ![0, 0, 1] S1x512x1.size inb_S1x512x128_S1x512x1_0_0_1).toLoadRect f7) f3 f4 f9 (arg11.view.writes (Elt F) arg11.view.junk [⟨Rect.unit (s := S2048x256) ![0, 0] S2048x256.size inb_S2048x256_S2048x256_0_0, k0_pay66 (F := F)⟩]) (arg12.view.writes (Elt F) arg12.view.junk [⟨Rect.unit (s := S2048x256) ![0, 0] S2048x256.size inb_S2048x256_S2048x256_0_0, k0_pay67 (F := F)⟩]) (arg14.view.writes (Elt F) arg14.view.junk [⟨Rect.unit (s := S2048x128) ![0, 0] S2048x128.size inb_S2048x128_S2048x128_0_0, k0_pay68 (F := F)⟩]) (k0_pay2, k0_pay3, k0_pay4, k0_pay5)
  rw [rows_read] at key
  have es : held arg11 arg12 arg14 (k0_pay2, k0_pay3, k0_pay4, k0_pay5) (arg11.view.writes (Elt F) arg11.view.junk [⟨Rect.unit (s := S2048x256) ![0, 0] S2048x256.size inb_S2048x256_S2048x256_0_0, k0_pay66 (F := F)⟩]) (arg12.view.writes (Elt F) arg12.view.junk [⟨Rect.unit (s := S2048x256) ![0, 0] S2048x256.size inb_S2048x256_S2048x256_0_0, k0_pay67 (F := F)⟩]) (arg14.view.writes (Elt F) arg14.view.junk [⟨Rect.unit (s := S2048x128) ![0, 0] S2048x128.size inb_S2048x128_S2048x128_0_0, k0_pay68 (F := F)⟩]) = start (F := F) k0_pay66 k0_pay67 k0_pay68 :=
    grads_ext rfl (View.read_writes_full arg11.view arg11.view.junk _ _ _) (View.read_writes_full arg12.view arg12.view.junk _ _ _) (View.read_writes_full arg14.view arg14.view.junk _ _ _)
  rw [es] at key
  simp only [← View.writes_append, List.append_assoc] at key
  obtain rfl := hf2; obtain rfl := hf3; obtain rfl := hf4; obtain rfl := hf5; obtain rfl := hf6; obtain rfl := hf7; obtain rfl := hf8; obtain rfl := hf9
  obtain rfl := hf11; obtain rfl := hf12; obtain rfl := hf14
  sl_exec (disch := first | sl_exact h1 | sl_exact h2)
  sl_step
  iapply Hk
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]; · iexists _; isplitr; · ipureintro; rfl
                  iexact H7
  isplitl [H8]; · iexists _; isplitr; · ipureintro; rfl
                  iexact H8
  isplitl [H9]; · iexists _; isplitr; · ipureintro; rfl
                  iexact H9
  isplitl [H10]
  · iexists _; isplitr; swap; · iexact H10
    ipureintro
    refine (View.read_writes_full arg10.view f10 _ _ _).trans ?_
    exact congrArg (fun s : Grads F => k0_pay14 s.acc.1 s.acc.2.2.1) key
  isplitl [H11]
  · iexists _; isplitr; swap; · iexact H11
    ipureintro
    have k := congrArg Grads.dk key
    simp only [held] at k
    refine Eq.trans ?_ k
    refine congrArg (View.read (Elt F) arg11.view) (congrArg (arg11.view.writes (Elt F) arg11.view.junk) ?_)
    refine congrArg₂ HAppend.hAppend ?_ (congrArg₂ HAppend.hAppend ?_ (congrArg₂ HAppend.hAppend ?_ ?_))
    · rfl
    · rfl
    · rfl
    · rfl
  isplitl [H12]
  · iexists _; isplitr; swap; · iexact H12
    ipureintro
    have k := congrArg Grads.dv key
    simp only [held] at k
    refine Eq.trans ?_ k
    refine congrArg (View.read (Elt F) arg12.view) (congrArg (arg12.view.writes (Elt F) arg12.view.junk) ?_)
    refine congrArg₂ HAppend.hAppend ?_ (congrArg₂ HAppend.hAppend ?_ (congrArg₂ HAppend.hAppend ?_ ?_))
    · rfl
    · rfl
    · rfl
    · rfl
  isplitl [H13]
  · iexists _; isplitr; swap; · iexact H13
    ipureintro
    refine (View.read_writes_full arg13.view f13 _ _ _).trans ?_
    exact congrArg (fun s : Grads F => k0_pay15 s.acc.2.1 s.acc.2.2.2) key
  iexists _; isplitr; swap; · iexact H14
  ipureintro
  have k := congrArg Grads.de key
  simp only [held] at k
  refine Eq.trans ?_ k
  refine congrArg (View.read (Elt F) arg14.view) (congrArg (arg14.view.writes (Elt F) arg14.view.junk) ?_)
  refine congrArg₂ HAppend.hAppend ?_ (congrArg₂ HAppend.hAppend ?_ (congrArg₂ HAppend.hAppend ?_ ?_))
  · rfl
  · rfl
  · rfl
  · rfl

end Run

end Cert.KernelIdeal.Hand

end
-- ==== Proof.IdealGrads.lean ====
/-
  What the gradients hold after each grid point.
-/
module

public import proofs.«01_k».proof.Proof.IdealRun
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The gradients after each point -/

/-- What point `t` makes of the gradients it finds. -/
def pointAt (c : Dev nD) (t : Fin cfg0.N) (dk dv : Vec F S2048x256 .f32) (de : Vec F S2048x128 .f32) : Grads F :=
  point (grid0.coords t) (iblk m c 0 t) (iblk m c 1 t) (iblk m c 2 t) (iblk m c 3 t) (iblk m c 4 t) (iblk m c 5 t) (iblk m c 6 t) (iblk m c 7 t)
    dk dv de

/-- The gradients after the point at position `n`: the keys' and values' start over at each pair of heads, the rotary keys' at the first only. -/
def gradsAt (c : Dev nD) : (n : ℕ) → n < cfg0.N → Grads F
  | 0, hn => pointAt m c ⟨0, hn⟩ k0_pay66 k0_pay67 k0_pay68
  | n + 1, hn =>
    if (n + 1) % 4 = 0 then pointAt m c ⟨n + 1, hn⟩ k0_pay66 k0_pay67 (gradsAt c n (Nat.lt_of_succ_lt hn)).de
    else pointAt m c ⟨n + 1, hn⟩ (gradsAt c n (Nat.lt_of_succ_lt hn)).dk (gradsAt c n (Nat.lt_of_succ_lt hn)).dv (gradsAt c n (Nat.lt_of_succ_lt hn)).de

/-- The gradients the point before left. -/
def gradsBefore (c : Dev nD) (t : Fin cfg0.N) : Grads F := gradsAt m c (t.val - 1) (Nat.lt_of_le_of_lt (Nat.sub_le _ _) t.isLt)

theorem gradsAt_all (c : Dev nD) (t : Fin cfg0.N) (h : t.val = 0) : gradsAt m c t.val t.isLt = pointAt m c t k0_pay66 k0_pay67 k0_pay68 := by
  obtain ⟨n, hn⟩ := t
  cases n with
  | zero => exact rfl
  | succ n => exact absurd h (Nat.succ_ne_zero n)

theorem gradsAt_pair (c : Dev nD) (t : Fin cfg0.N) (h0 : t.val ≠ 0) (h : t.val % 4 = 0) :
    gradsAt m c t.val t.isLt = pointAt m c t k0_pay66 k0_pay67 (gradsBefore m c t).de := by
  obtain ⟨n, hn⟩ := t
  cases n with
  | zero => exact absurd rfl h0
  | succ n => exact (if_pos h).trans rfl

theorem gradsAt_later (c : Dev nD) (t : Fin cfg0.N) (h : ¬ t.val % 4 = 0) :
    gradsAt m c t.val t.isLt = pointAt m c t (gradsBefore m c t).dk (gradsBefore m c t).dv (gradsBefore m c t).de := by
  obtain ⟨n, hn⟩ := t
  cases n with
  | zero => exact absurd (Nat.zero_mod _) h
  | succ n => exact (if_neg h).trans rfl

/-- The gradients after point `t`. -/
def gradsOf (c : Dev nD) (t : Fin cfg0.N) : Grads F := gradsAt m c t.val t.isLt

end Cert.KernelIdeal.Hand

end
-- ==== Proof.IdealFrame.lean ====
/-
  The frame: the pipeline's proof data, the body's triple at a point, and the run of the whole
  program.
-/
module

public import proofs.«01_k».proof.Proof.IdealRunPair
public import proofs.«01_k».proof.Proof.IdealRunAll
public import proofs.«01_k».proof.Proof.IdealGrads
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which points start a gradient over -/

/-- Every fourth point is the first of its pair of heads, -/
theorem pair_iff : ∀ t : Fin cfg0.N, FirstOfPair (grid0.coords t) ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [FirstOfPair, e1]
    word_cmp : ∀ t : Fin grid0.N, FirstOfPair (grid0.coords t) ↔ t.val % 4 = 0)
/-- and point 0 the first of all. -/
theorem all_iff : ∀ t : Fin cfg0.N, FirstOfAll (grid0.coords t) ↔ t.val = 0 :=
  (by decide +kernel : ∀ t : Fin grid0.N, FirstOfAll (grid0.coords t) ↔ t.val = 0)

/-! ## The pipeline's proof data -/

/-- The arrays as the region finds them; after point `t` each input's buffer at its block, the outputs' at the gradients; an array two inputs share dealt
    between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay14 (gradsOf m c t).acc.1 (gradsOf m c t).acc.2.2.1
    | ⟨9, _⟩ => (gradsOf m c t).dk
    | ⟨10, _⟩ => (gradsOf m c t).dv
    | ⟨11, _⟩ => k0_pay15 (gradsOf m c t).acc.2.1 (gradsOf m c t).acc.2.2.2
    | ⟨12, _⟩ => (gradsOf m c t).de
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = k0_pay14 (gradsOf m c t).acc.1 (gradsOf m c t).acc.2.2.1 := by dsimp only [dats]
theorem after_9 (c : Dev nD) (t : Fin cfg0.N) : (dats m 0 c).after 9 t = (gradsOf m c t).dk := by dsimp only [dats]
theorem after_10 (c : Dev nD) (t : Fin cfg0.N) : (dats m 0 c).after 10 t = (gradsOf m c t).dv := by dsimp only [dats]
theorem after_11 (c : Dev nD) (t : Fin cfg0.N) : (dats m 0 c).after 11 t = k0_pay15 (gradsOf m c t).acc.2.1 (gradsOf m c t).acc.2.2.2 := by dsimp only [dats]
theorem after_12 (c : Dev nD) (t : Fin cfg0.N) : (dats m 0 c).after 12 t = (gradsOf m c t).de := by dsimp only [dats]

/-! ### What a point finds in the buffers -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_9 (c : Dev nD) (t : Fin cfg0.N) (h : ¬ t.val % 4 = 0) (d) : (dats m 0 c).before 9 t d = (gradsBefore m c t).dk := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats, gradsOf, gradsBefore]
theorem before_10 (c : Dev nD) (t : Fin cfg0.N) (h : ¬ t.val % 4 = 0) (d) : (dats m 0 c).before 10 t d = (gradsBefore m c t).dv := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats, gradsOf, gradsBefore]
theorem before_12 (c : Dev nD) (t : Fin cfg0.N) (h : ¬ t.val = 0) (d) : (dats m 0 c).before 12 t d = (gradsBefore m c t).de := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats, gradsOf, gradsBefore]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 2000000 in
/-- The body at any point: what it is called with is what the case of its point asks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0 m c t, before_1 m c t, before_2 m c t, before_3 m c t, before_4 m c t, before_5 m c t, before_6 m c t, before_7 m c t]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  by_cases h0 : t.val = 0
  · have hp : t.val % 4 = 0 := by omega
    rw [show gradsOf m c t = pointAt m c t k0_pay66 k0_pay67 k0_pay68 from gradsAt_all m c t h0]
    unfold pointAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_all c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ ((pair_iff t).mpr hp) ((all_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexists _; iexact H11
    isplitl [H12]; · iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases hp : t.val % 4 = 0
    · rw [show gradsOf m c t = pointAt m c t k0_pay66 k0_pay67 (gradsBefore m c t).de from gradsAt_pair m c t h0 hp]
      simp only [before_12 m c t h0]
      unfold pointAt
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_pair c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ ((pair_iff t).mpr hp) (fun h => h0 ((all_iff t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexists _; iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [show gradsOf m c t = pointAt m c t (gradsBefore m c t).dk (gradsBefore m c t).dv (gradsBefore m c t).de from gradsAt_later m c t hp]
      simp only [before_9 m c t hp, before_10 m c t hp, before_12 m c t h0]
      unfold pointAt
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_later c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ (fun h => hp ((pair_iff t).mp h)) (fun h => h0 ((all_iff t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexists _; iexact H11
      isplitl [H12]; · iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with the arrays at what the proof data compute, and no semaphore up. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments end as they were, and no semaphore is up. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.IdealSums.lean ====
/-
  One grid point's trips over the extended reals, element by element: each trip adds to the query gradients its block's share of a sum over all
  key rows, and to the rows of its block of the other gradients a sum over the point's query rows.
-/
module

public import proofs.«01_k».proof.Proof.IdealModel
public import Idealize.ShloMosaic.Lib.Pointwise
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe
open Idealize.SL

/-- The scale of the scores. -/
abbrev scale : EReal := Ideal.ofBits .f32 0x3D93CD3A#32

/-! ## The pieces, element by element -/

theorem scores_at (q : FVec Ideal S512x128 .bf16) (r : FVec Ideal S512x64 .bf16) (e : FVec Ideal S512x64 .bf16) (k : FVec Ideal S512x128 .bf16)
    (a b : Fin 512) : scores q r e k (ix2 a b)
      = ((∑ d : Fin 128, q (ix2 a d) * k (ix2 b d)) + ∑ d : Fin 64, r (ix2 a d) * e (ix2 b d)) * scale := by
  pointwise [scores]

theorem openProb_at (q : FVec Ideal S512x128 .bf16) (r : FVec Ideal S512x64 .bf16) (l : FVec Ideal S512x1 .f32) (e : FVec Ideal S512x64 .bf16)
    (k : FVec Ideal S512x128 .bf16) (a b : Fin 512) : openProb q r l e k (ix2 a b) = Ideal.exp (scores q r e k (ix2 a b) - l (ix2 a 0)) := by
  pointwise [openProb]

/-- The mask's constant is named −∞. -/
theorem mask_named : (Named.named κ "mask" (φ := .f32) 0xF149F2CA#32 : Ideal .f32) = (⊥ : EReal) :=
  IdealRules.named_const.ideal_named_scalar _ _ _ _ rfl

theorem maskProb_at (t : IVec S512x512 32) (q : FVec Ideal S512x128 .bf16) (r : FVec Ideal S512x64 .bf16) (l : FVec Ideal S512x1 .f32)
    (e : FVec Ideal S512x64 .bf16) (k : FVec Ideal S512x128 .bf16) (a b : Fin 512) :
    maskProb t q r l e k (ix2 a b)
      = Ideal.exp (Scalar.select (Scalar.cmpi .sge (t (ix2 a b)) 0#32) (scores q r e k (ix2 a b)) (⊥ : EReal) - l (ix2 a 0)) := by
  pointwise [maskProb, mask_named]
  rfl

theorem scoreGrad_at (p : FVec Ideal S512x512 .f32) (o v : FVec Ideal S512x128 .bf16) (w : FVec Ideal S512x1 .f32) (a b : Fin 512) :
    scoreGrad p o v w (ix2 a b) = p (ix2 a b) * ((∑ d : Fin 128, o (ix2 a d) * v (ix2 b d)) - w (ix2 a 0)) * scale := by
  pointwise [scoreGrad]

theorem addQuery_at (x : FVec Ideal S512x128 .f32) (s : FVec Ideal S512x512 .bf16) (k : FVec Ideal S512x128 .bf16) (a : Fin 512) (d : Fin 128) :
    addQuery x s k (ix2 a d) = x (ix2 a d) + ∑ b : Fin 512, s (ix2 a b) * k (ix2 b d) := by
  pointwise [addQuery]
theorem addRotary_at (x : FVec Ideal S512x64 .f32) (s : FVec Ideal S512x512 .bf16) (e : FVec Ideal S512x64 .bf16) (a : Fin 512) (d : Fin 64) :
    addRotary x s e (ix2 a d) = x (ix2 a d) + ∑ b : Fin 512, s (ix2 a b) * e (ix2 b d) := by
  pointwise [addRotary]
theorem addKey_at (x : FVec Ideal S512x128 .f32) (s : FVec Ideal S512x512 .bf16) (q : FVec Ideal S512x128 .bf16) (b : Fin 512) (d : Fin 128) :
    addKey x s q (ix2 b d) = x (ix2 b d) + ∑ a : Fin 512, s (ix2 a b) * q (ix2 a d) := by
  pointwise [addKey]
theorem addShared_at (x : FVec Ideal S512x64 .f32) (s s' : FVec Ideal S512x512 .bf16) (r r' : FVec Ideal S512x64 .bf16) (b : Fin 512) (d : Fin 64) :
    addShared x s r s' r' (ix2 b d)
      = x (ix2 b d) + ((∑ a : Fin 512, s (ix2 a b) * r (ix2 a d)) + ∑ a : Fin 512, s' (ix2 a b) * r' (ix2 a d)) := by
  pointwise [addShared]

/-! ## Blocks of key rows -/

theorem row_lt (j : Fin 4) (b : Fin 512) : 512 * j.val + b.val < 2048 := by omega
/-- Key row `b` of block `j`. -/
def keyRow (j : Fin 4) (b : Fin 512) : Fin 2048 := ⟨512 * j.val + b.val, row_lt j b⟩
/-- Column `d` of the first head, -/
def colOfA (d : Fin 128) : Fin 256 := ⟨d.val, by omega⟩
/-- of the second, -/
def colOfB (d : Fin 128) : Fin 256 := ⟨128 + d.val, by omega⟩
/-- and of the shared rotary part. -/
def colOfE (d : Fin 64) : Fin 128 := ⟨d.val, by omega⟩

theorem blkA_at {α : Type} (x : S2048x256.Idx → α) (j : Fin 4) (b : Fin 512) (d : Fin 128) : blkA x j (ix2 b d) = x (ix2 (keyRow j b) (colOfA d)) := by
  unfold blkA VecWindow.window
  exact congrArg x (funext (Fin.forall_fin_two.mpr ⟨Fin.ext (by show 512 * j.val + 1 * b.val = 512 * j.val + b.val; omega),
    Fin.ext (by show 0 + 1 * d.val = d.val; omega)⟩))
theorem blkB_at {α : Type} (x : S2048x256.Idx → α) (j : Fin 4) (b : Fin 512) (d : Fin 128) : blkB x j (ix2 b d) = x (ix2 (keyRow j b) (colOfB d)) := by
  unfold blkB VecWindow.window
  exact congrArg x (funext (Fin.forall_fin_two.mpr ⟨Fin.ext (by show 512 * j.val + 1 * b.val = 512 * j.val + b.val; omega),
    Fin.ext (by show 128 + 1 * d.val = 128 + d.val; omega)⟩))
theorem blkE_at {α : Type} (x : S2048x128.Idx → α) (j : Fin 4) (b : Fin 512) (d : Fin 64) : blkE x j (ix2 b d) = x (ix2 (keyRow j b) (colOfE d)) := by
  unfold blkE VecWindow.window
  exact congrArg x (funext (Fin.forall_fin_two.mpr ⟨Fin.ext (by show 512 * j.val + 1 * b.val = 512 * j.val + b.val; omega),
    Fin.ext (by show 0 + 1 * d.val = d.val; omega)⟩))

theorem keyRow_eq (j j' : Fin 4) (b : Fin 512) : (512 * j.val ≤ (keyRow j' b).val ∧ (keyRow j' b).val < 512 * j.val + 512) ↔ j' = j := by
  constructor
  · intro h; apply Fin.ext; have : (keyRow j' b).val = 512 * j'.val + b.val := rfl; omega
  · rintro rfl; have : (keyRow j' b).val = 512 * j'.val + b.val := rfl; omega

/-- A block of rows put, of columns `h` on, read at a row and a column of a block. -/
theorem put_at {α : Type} {W w : ℕ} (x : (⟨2, ![2048, W]⟩ : Shape).Idx → α) (j j' : Fin 4) (h : ℕ) (u : (⟨2, ![512, w]⟩ : Shape).Idx → α)
    (b : Fin 512) (c : Fin W) (d : Fin w) (hc : c.val = h + d.val) :
    VecWindow.put x ![512 * j.val, h] ![512, w] u (ix2 (keyRow j' b) c) = if j' = j then u (ix2 b d) else x (ix2 (keyRow j' b) c) := by
  unfold VecWindow.put
  by_cases e : j' = j
  · subst e
    rw [if_pos rfl, dif_pos (Fin.forall_fin_two.mpr ⟨(keyRow_eq j' j' b).mpr rfl, by show h ≤ c.val ∧ c.val < h + w; omega⟩)]
    refine congrArg u (funext (Fin.forall_fin_two.mpr ⟨Fin.ext ?_, Fin.ext ?_⟩))
    · show (512 * j'.val + b.val) - 512 * j'.val = b.val; omega
    · show c.val - h = d.val; omega
  · rw [if_neg e, dif_neg fun H => e ((keyRow_eq j j' b).mp (H 0))]

/-- A block of rows put leaves other columns alone. -/
theorem put_off {α : Type} {W w : ℕ} (x : (⟨2, ![2048, W]⟩ : Shape).Idx → α) (j j' : Fin 4) (h : ℕ) (u : (⟨2, ![512, w]⟩ : Shape).Idx → α)
    (b : Fin 512) (c : Fin W) (hc : ¬(h ≤ c.val ∧ c.val < h + w)) :
    VecWindow.put x ![512 * j.val, h] ![512, w] u (ix2 (keyRow j' b) c) = x (ix2 (keyRow j' b) c) := by
  unfold VecWindow.put
  rw [dif_neg fun H => hc (H 1)]

theorem putAB_atA {α : Type} (x : S2048x256.Idx → α) (j j' : Fin 4) (u v : S512x128.Idx → α) (b : Fin 512) (d : Fin 128) :
    putAB x j u v (ix2 (keyRow j' b) (colOfA d)) = if j' = j then u (ix2 b d) else x (ix2 (keyRow j' b) (colOfA d)) :=
  (put_off _ j j' 128 v b (colOfA d) (by show ¬(128 ≤ d.val ∧ d.val < 128 + 128); omega)).trans
    (put_at x j j' 0 u b (colOfA d) d (Nat.zero_add _).symm)
theorem putAB_atB {α : Type} (x : S2048x256.Idx → α) (j j' : Fin 4) (u v : S512x128.Idx → α) (b : Fin 512) (d : Fin 128) :
    putAB x j u v (ix2 (keyRow j' b) (colOfB d)) = if j' = j then v (ix2 b d) else x (ix2 (keyRow j' b) (colOfB d)) :=
  (put_at _ j j' 128 v b (colOfB d) d rfl).trans
    (by rw [put_off x j j' 0 u b (colOfB d) (by show ¬(0 ≤ 128 + d.val ∧ 128 + d.val < 0 + 128); omega)])
theorem putE_at {α : Type} (x : S2048x128.Idx → α) (j j' : Fin 4) (u : S512x64.Idx → α) (b : Fin 512) (d : Fin 64) :
    putE x j u (ix2 (keyRow j' b) (colOfE d)) = if j' = j then u (ix2 b d) else x (ix2 (keyRow j' b) (colOfE d)) :=
  put_at x j j' 0 u b (colOfE d) d (Nat.zero_add _).symm
theorem putE_off {α : Type} (x : S2048x128.Idx → α) (j j' : Fin 4) (u : S512x64.Idx → α) (b : Fin 512) (c : Fin 128) (hc : 64 ≤ c.val) :
    putE x j u (ix2 (keyRow j' b) c) = x (ix2 (keyRow j' b) c) :=
  put_off x j j' 0 u b c (by omega)

/-! ## Sums over the first blocks -/

/-- The sum of `f` over the blocks before `n`. -/
def upTo (n : ℕ) (f : Fin 4 → EReal) : EReal := ∑ j : Fin 4, if j.val < n then f j else 0

theorem upTo_zero (f : Fin 4 → EReal) : upTo 0 f = 0 := by
  unfold upTo; exact Finset.sum_eq_zero fun j _ => if_neg (Nat.not_lt_zero _)

theorem upTo_succ (j : Fin 4) (f : Fin 4 → EReal) : upTo (j.val + 1) f = upTo j.val f + f j := by
  unfold upTo
  fin_cases j <;> simp [Fin.sum_univ_four]

/-- Beyond the blocks where `f` vanishes the sum is the whole. -/
theorem upTo_all (n : ℕ) (f : Fin 4 → EReal) (h : ∀ j : Fin 4, n ≤ j.val → f j = 0) : upTo n f = ∑ j, f j := by
  unfold upTo
  refine Finset.sum_congr rfl fun j _ => ?_
  by_cases e : j.val < n
  · rw [if_pos e]
  · rw [if_neg e, h j (by omega)]

/-! ## What the first trips leave -/

/-- What the trips of a point are to add, of the two heads: at query row `a` and key row `b` of block `j` the score gradient `gA`, `gB` and the probability
    `pA`, `pB`. -/
structure Target where
  gA : Fin 512 → Fin 4 → Fin 512 → EReal
  gB : Fin 512 → Fin 4 → Fin 512 → EReal
  pA : Fin 512 → Fin 4 → Fin 512 → EReal
  pB : Fin 512 → Fin 4 → Fin 512 → EReal

/-- After the trips of the blocks before `n` each gradient is what it was with those blocks' shares added. -/
structure Added (P : Rows Ideal) (K : Keys Ideal) (T : Target) (s₀ : Grads Ideal) (n : ℕ) (s : Grads Ideal) : Prop where
  qA : ∀ a d, s.acc.1 (ix2 a d) = s₀.acc.1 (ix2 a d) + upTo n fun j => ∑ b, T.gA a j b * K.k (ix2 (keyRow j b) (colOfA d))
  rA : ∀ a d, s.acc.2.1 (ix2 a d) = s₀.acc.2.1 (ix2 a d) + upTo n fun j => ∑ b, T.gA a j b * K.e (ix2 (keyRow j b) (colOfE d))
  qB : ∀ a d, s.acc.2.2.1 (ix2 a d) = s₀.acc.2.2.1 (ix2 a d) + upTo n fun j => ∑ b, T.gB a j b * K.k (ix2 (keyRow j b) (colOfB d))
  rB : ∀ a d, s.acc.2.2.2 (ix2 a d) = s₀.acc.2.2.2 (ix2 a d) + upTo n fun j => ∑ b, T.gB a j b * K.e (ix2 (keyRow j b) (colOfE d))
  kA : ∀ j b d, s.dk (ix2 (keyRow j b) (colOfA d))
    = s₀.dk (ix2 (keyRow j b) (colOfA d)) + if j.val < n then ∑ a, T.gA a j b * P.qA (ix2 a d) else 0
  kB : ∀ j b d, s.dk (ix2 (keyRow j b) (colOfB d))
    = s₀.dk (ix2 (keyRow j b) (colOfB d)) + if j.val < n then ∑ a, T.gB a j b * P.qB (ix2 a d) else 0
  vA : ∀ j b d, s.dv (ix2 (keyRow j b) (colOfA d))
    = s₀.dv (ix2 (keyRow j b) (colOfA d)) + if j.val < n then ∑ a, T.pA a j b * P.oA (ix2 a d) else 0
  vB : ∀ j b d, s.dv (ix2 (keyRow j b) (colOfB d))
    = s₀.dv (ix2 (keyRow j b) (colOfB d)) + if j.val < n then ∑ a, T.pB a j b * P.oB (ix2 a d) else 0
  e : ∀ j b d, s.de (ix2 (keyRow j b) (colOfE d)) = s₀.de (ix2 (keyRow j b) (colOfE d))
    + if j.val < n then (∑ a, T.gA a j b * P.rA (ix2 a d)) + ∑ a, T.gB a j b * P.rB (ix2 a d) else 0
  off : ∀ j b (c : Fin 128), 64 ≤ c.val → s.de (ix2 (keyRow j b) c) = s₀.de (ix2 (keyRow j b) c)

theorem added_zero (P : Rows Ideal) (K : Keys Ideal) (T : Target) (s₀ : Grads Ideal) : Added P K T s₀ 0 s₀ := by
  refine ⟨fun a d => ?_, fun a d => ?_, fun a d => ?_, fun a d => ?_, fun j b d => ?_, fun j b d => ?_, fun j b d => ?_, fun j b d => ?_, fun j b d => ?_,
    fun j b c h => rfl⟩
  all_goals first
    | rw [upTo_zero, add_zero]
    | rw [if_neg (Nat.not_lt_zero _), add_zero]

/-- A row of block `j'` after the trip of block `j`. -/
theorem step_row (j j' : Fin 4) (x x₀ u : EReal) (hx : x = x₀ + if j'.val < j.val then u else 0) :
    (if j' = j then x + u else x) = x₀ + if j'.val < j.val + 1 then u else 0 := by
  by_cases e : j' = j
  · subst e
    rw [if_pos rfl, hx, if_neg (lt_irrefl _), add_zero, if_pos (Nat.lt_succ_self _)]
  · rw [if_neg e, hx]
    by_cases l : j'.val < j.val
    · rw [if_pos l, if_pos (Nat.lt_succ_of_lt l)]
    · rw [if_neg l, if_neg fun h => e (Fin.ext (by omega))]

/-- One more trip. -/
theorem added_trip (P : Rows Ideal) (K : Keys Ideal) (T : Target) (s₀ s : Grads Ideal) (j : Fin 4) (pA pB : FVec Ideal S512x512 .f32)
    (hgA : ∀ a b, scoreGrad pA P.oA (blkA K.v j) P.wA (ix2 a b) = T.gA a j b) (hgB : ∀ a b, scoreGrad pB P.oB (blkB K.v j) P.wB (ix2 a b) = T.gB a j b)
    (hpA : ∀ a b, pA (ix2 a b) = T.pA a j b) (hpB : ∀ a b, pB (ix2 a b) = T.pB a j b) (h : Added P K T s₀ j.val s) :
    Added P K T s₀ (j.val + 1) (trip P K j pA pB s) where
  qA a d := by
    show addQuery _ _ _ (ix2 a d) = _
    rw [addQuery_at, upTo_succ, ← add_assoc, ← h.qA]
    simp only [hgA, blkA_at]
  rA a d := by
    show addRotary _ _ _ (ix2 a d) = _
    rw [addRotary_at, upTo_succ, ← add_assoc, ← h.rA]
    simp only [hgA, blkE_at]
  qB a d := by
    show addQuery _ _ _ (ix2 a d) = _
    rw [addQuery_at, upTo_succ, ← add_assoc, ← h.qB]
    simp only [hgB, blkB_at]
  rB a d := by
    show addRotary _ _ _ (ix2 a d) = _
    rw [addRotary_at, upTo_succ, ← add_assoc, ← h.rB]
    simp only [hgB, blkE_at]
  kA j' b d := by
    show putAB _ _ _ _ _ = _
    rw [putAB_atA, addKey_at, ← step_row j j' _ _ _ (h.kA j' b d), blkA_at]
    by_cases e : j' = j
    · subst e; simp only [hgA]
    · rw [if_neg e, if_neg e]
  kB j' b d := by
    show putAB _ _ _ _ _ = _
    rw [putAB_atB, addKey_at, ← step_row j j' _ _ _ (h.kB j' b d), blkB_at]
    by_cases e : j' = j
    · subst e; simp only [hgB]
    · rw [if_neg e, if_neg e]
  vA j' b d := by
    show putAB _ _ _ _ _ = _
    rw [putAB_atA, addKey_at, ← step_row j j' _ _ _ (h.vA j' b d), blkA_at]
    by_cases e : j' = j
    · subst e; simp only [← hpA]; rfl
    · rw [if_neg e, if_neg e]
  vB j' b d := by
    show putAB _ _ _ _ _ = _
    rw [putAB_atB, addKey_at, ← step_row j j' _ _ _ (h.vB j' b d), blkB_at]
    by_cases e : j' = j
    · subst e; simp only [← hpB]; rfl
    · rw [if_neg e, if_neg e]
  e j' b d := by
    show putE _ _ _ _ = _
    rw [putE_at, addShared_at, ← step_row j j' _ _ _ (h.e j' b d), blkE_at]
    by_cases e : j' = j
    · subst e; simp only [hgA, hgB]
    · rw [if_neg e, if_neg e]
  off j' b c hc := by
    show putE _ _ _ _ = _
    rw [putE_off _ _ _ _ _ _ hc]
    exact h.off j' b c hc

/-- What the trips of a point are asked: in a block before the point's own the target is the unmasked score gradients and probabilities, in its own the masked
    ones, and beyond it zero. -/
structure Meets (P : Rows Ideal) (K : Keys Ideal) (t : IVec S512x512 32) (j₀ : Fin 4) (T : Target) : Prop where
  gA : ∀ j : Fin 4, j.val < j₀.val → ∀ a b, scoreGrad (openProb P.qA P.rA P.lA (blkE K.e j) (blkA K.k j)) P.oA (blkA K.v j) P.wA (ix2 a b) = T.gA a j b
  gB : ∀ j : Fin 4, j.val < j₀.val → ∀ a b, scoreGrad (openProb P.qB P.rB P.lB (blkE K.e j) (blkB K.k j)) P.oB (blkB K.v j) P.wB (ix2 a b) = T.gB a j b
  pA : ∀ j : Fin 4, j.val < j₀.val → ∀ a b, openProb P.qA P.rA P.lA (blkE K.e j) (blkA K.k j) (ix2 a b) = T.pA a j b
  pB : ∀ j : Fin 4, j.val < j₀.val → ∀ a b, openProb P.qB P.rB P.lB (blkE K.e j) (blkB K.k j) (ix2 a b) = T.pB a j b
  mgA : ∀ a b, scoreGrad (maskProb t P.qA P.rA P.lA (blkE K.e j₀) (blkA K.k j₀)) P.oA (blkA K.v j₀) P.wA (ix2 a b) = T.gA a j₀ b
  mgB : ∀ a b, scoreGrad (maskProb t P.qB P.rB P.lB (blkE K.e j₀) (blkB K.k j₀)) P.oB (blkB K.v j₀) P.wB (ix2 a b) = T.gB a j₀ b
  mpA : ∀ a b, maskProb t P.qA P.rA P.lA (blkE K.e j₀) (blkA K.k j₀) (ix2 a b) = T.pA a j₀ b
  mpB : ∀ a b, maskProb t P.qB P.rB P.lB (blkE K.e j₀) (blkB K.k j₀) (ix2 a b) = T.pB a j₀ b
  zgA : ∀ j : Fin 4, j₀.val < j.val → ∀ a b, T.gA a j b = 0
  zgB : ∀ j : Fin 4, j₀.val < j.val → ∀ a b, T.gB a j b = 0
  zpA : ∀ j : Fin 4, j₀.val < j.val → ∀ a b, T.pA a j b = 0
  zpB : ∀ j : Fin 4, j₀.val < j.val → ∀ a b, T.pB a j b = 0

variable {P : Rows Ideal} {K : Keys Ideal} {t : IVec S512x512 32} {j₀ : Fin 4} {T : Target}

theorem added_open (M : Meets P K t j₀ T) (s₀ : Grads Ideal) : ∀ n, n ≤ j₀.val → Added P K T s₀ n (openTrips P K s₀ n)
  | 0, _ => added_zero P K T s₀
  | n + 1, h => by
    have h4 : n < 4 := by omega
    rw [openTrips, dif_pos h4]
    exact added_trip P K T s₀ _ ⟨n, h4⟩ _ _ (M.gA ⟨n, h4⟩ h) (M.gB ⟨n, h4⟩ h) (M.pA ⟨n, h4⟩ h) (M.pB ⟨n, h4⟩ h) (added_open M s₀ n (by omega))

/-- All of a point's trips add the whole sums. -/
theorem added_all (M : Meets P K t j₀ T) (s₀ : Grads Ideal) : Added P K T s₀ 4 (allTrips P K t j₀ s₀) := by
  have h : Added P K T s₀ (j₀.val + 1) (allTrips P K t j₀ s₀) :=
    added_trip P K T s₀ _ j₀ _ _ M.mgA M.mgB M.mpA M.mpB (added_open M s₀ j₀.val le_rfl)
  have z : ∀ f : Fin 4 → EReal, (∀ j : Fin 4, j₀.val < j.val → f j = 0) → upTo (j₀.val + 1) f = upTo 4 f := fun f hf =>
    (upTo_all _ f fun j hj => hf j hj).trans (upTo_all 4 f fun j hj => absurd j.isLt (by omega)).symm
  have y : ∀ (j : Fin 4) (u : EReal), (j₀.val < j.val → u = 0) → (if j.val < j₀.val + 1 then u else 0) = if j.val < 4 then u else 0 := fun j u hu => by
    rw [if_pos j.isLt]
    by_cases e : j.val < j₀.val + 1
    · rw [if_pos e]
    · rw [if_neg e, hu (by omega)]
  refine ⟨fun a d => ?_, fun a d => ?_, fun a d => ?_, fun a d => ?_, fun j b d => ?_, fun j b d => ?_, fun j b d => ?_, fun j b d => ?_, fun j b d => ?_, h.off⟩
  · rw [h.qA, z _ fun j hj => Finset.sum_eq_zero fun b _ => by rw [M.zgA j hj, zero_mul]]
  · rw [h.rA, z _ fun j hj => Finset.sum_eq_zero fun b _ => by rw [M.zgA j hj, zero_mul]]
  · rw [h.qB, z _ fun j hj => Finset.sum_eq_zero fun b _ => by rw [M.zgB j hj, zero_mul]]
  · rw [h.rB, z _ fun j hj => Finset.sum_eq_zero fun b _ => by rw [M.zgB j hj, zero_mul]]
  · rw [h.kA, y j _ fun hj => Finset.sum_eq_zero fun a _ => by rw [M.zgA j hj, zero_mul]]
  · rw [h.kB, y j _ fun hj => Finset.sum_eq_zero fun a _ => by rw [M.zgB j hj, zero_mul]]
  · rw [h.vA, y j _ fun hj => Finset.sum_eq_zero fun a _ => by rw [M.zpA j hj, zero_mul]]
  · rw [h.vB, y j _ fun hj => Finset.sum_eq_zero fun a _ => by rw [M.zpB j hj, zero_mul]]
  · rw [h.e, y j _ fun hj => by
      rw [Finset.sum_eq_zero fun a _ => by rw [M.zgA j hj, zero_mul], Finset.sum_eq_zero fun a _ => by rw [M.zgB j hj, zero_mul], add_zero]]

end Cert.KernelIdeal.Hand

end
-- ==== Proof.Softmax.lean ====
/-
  One row of a masked softmax over the extended reals, and its gradient written in two ways: from the row's probabilities and the output, and from the
  exponentials and their sum.
-/
module

public import Idealize.ShloMosaic.Lib.Pointwise

@[expose] public section

noncomputable section

namespace Cert.Softmax

open Idealize.ShloMosaic

/-- A row of scores: real numbers up to place `q`, −∞ beyond. -/
structure Row (q : ℕ) (s : Fin 2048 → EReal) : Prop where
  real : ∀ k : Fin 2048, k.val ≤ q → ∃ r : ℝ, s k = r
  bot : ∀ k : Fin 2048, q < k.val → s k = ⊥

variable {q : ℕ} {s : Fin 2048 → EReal}

/-- Its greatest score is a real number. -/
theorem Row.greatest (R : Row q s) : ∃ r : ℝ, Finset.univ.fold max (⊥ : EReal) s = r := by
  obtain ⟨r0, h0⟩ := R.real 0 (Nat.zero_le _)
  have lo : s 0 ≤ Finset.univ.fold max (⊥ : EReal) s := (Finset.le_fold_max _).mpr (.inr ⟨0, Finset.mem_univ _, le_rfl⟩)
  have hi : Finset.univ.fold max (⊥ : EReal) s < ⊤ := (Finset.fold_max_lt _).mpr ⟨bot_lt_top, fun k _ => by
    by_cases e : k.val ≤ q
    · obtain ⟨r, hr⟩ := R.real k e
      rw [hr]; exact EReal.coe_lt_top r
    · rw [R.bot k (by omega)]; exact bot_lt_top⟩
  have nb : Finset.univ.fold max (⊥ : EReal) s ≠ ⊥ := fun e => by
    rw [e, h0] at lo
    exact absurd lo (not_le.mpr (EReal.bot_lt_coe r0))
  exact ⟨_, (EReal.coe_toReal hi.ne nb).symm⟩

theorem exp_coe (r : ℝ) : Ideal.exp (r : EReal) = (Real.exp r : EReal) := rfl
theorem exp_bot : Ideal.exp ⊥ = ((0 : ℝ) : EReal) := rfl
theorem log_coe {r : ℝ} (h : 0 < r) : Ideal.log (r : EReal) = (Real.log r : EReal) := if_neg (not_le.mpr h)
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]
theorem coe_sum {ι : Type} (t : Finset ι) (f : ι → ℝ) : ∑ i ∈ t, (f i : EReal) = ((∑ i ∈ t, f i : ℝ) : EReal) := by
  classical
  induction t using Finset.induction_on with
  | empty => simp
  | insert a u ha ih => rw [Finset.sum_insert ha, Finset.sum_insert ha, ih, EReal.coe_add]

/-- The exponentials of a row less a real number `mx` are real, their sum is positive, and the exponential of a score less `mx` and the logarithm of the sum is
    the exponential divided by the sum. -/
theorem Row.weights (R : Row q s) (mx : EReal) (hm : ∃ r : ℝ, mx = r) : ∃ (e : Fin 2048 → ℝ) (L : ℝ), 0 < L ∧ (∑ k, e k) = L
    ∧ (∀ k, Ideal.exp (s k - mx) = (e k : EReal)) ∧ (∑ k, Ideal.exp (s k - mx)) = (L : EReal)
    ∧ ∀ k, Ideal.exp (s k - (mx + Ideal.log (∑ j, Ideal.exp (s j - mx)))) = ((e k / L : ℝ) : EReal) := by
  obtain ⟨μ, rfl⟩ := hm
  choose! r hr using R.real
  have he : ∀ k : Fin 2048, Ideal.exp (s k - (μ : EReal)) = ((if k.val ≤ q then Real.exp (r k - μ) else 0 : ℝ) : EReal) := fun k => by
    by_cases h : k.val ≤ q
    · rw [if_pos h, hr k h, ← EReal.coe_sub, exp_coe]
    · rw [if_neg h, R.bot k (by omega), EReal.bot_sub, exp_bot]
  have hpos : 0 < ∑ k : Fin 2048, (if k.val ≤ q then Real.exp (r k - μ) else 0 : ℝ) :=
    Finset.sum_pos' (fun k _ => by split_ifs <;> positivity) ⟨0, Finset.mem_univ _, by rw [if_pos (show (0 : Fin 2048).val ≤ q from Nat.zero_le _)]; exact Real.exp_pos _⟩
  have hs : (∑ k, Ideal.exp (s k - (μ : EReal))) = ((∑ k : Fin 2048, (if k.val ≤ q then Real.exp (r k - μ) else 0 : ℝ) : ℝ) : EReal) := by
    rw [← coe_sum]; exact Finset.sum_congr rfl fun k _ => he k
  refine ⟨fun k => if k.val ≤ q then Real.exp (r k - μ) else 0, _, hpos, rfl, he, hs, fun k => ?_⟩
  rw [hs, log_coe hpos, ← EReal.coe_add]
  by_cases h : k.val ≤ q
  · rw [hr k h, ← EReal.coe_sub, exp_coe]
    congr 1
    show Real.exp _ = (if k.val ≤ q then Real.exp (r k - μ) else 0) / _
    rw [if_pos h, ← sub_sub, Real.exp_sub (r k - μ), Real.exp_log hpos]
  · rw [R.bot k (by omega), EReal.bot_sub, exp_bot]
    show _ = (((if k.val ≤ q then Real.exp (r k - μ) else 0) / _ : ℝ) : EReal)
    rw [if_neg h, zero_div]

/-- The probability, from the logarithm of the sum and by division. -/
theorem Row.prob (R : Row q s) (mx : EReal) (hm : ∃ r : ℝ, mx = r) (k : Fin 2048) :
    Ideal.exp (s k - (mx + Ideal.log (∑ j, Ideal.exp (s j - mx)))) = Ideal.div (Ideal.exp (s k - mx)) (∑ j, Ideal.exp (s j - mx)) := by
  obtain ⟨e, L, hL, -, he, hs, hp⟩ := R.weights mx hm
  rw [hp, he, hs, div_coe _ _ hL.ne']

/-- The probability beyond the row's real places is zero. -/
theorem Row.prob_zero (R : Row q s) (mx : EReal) (hm : ∃ r : ℝ, mx = r) (k : Fin 2048) (hk : q < k.val) :
    Ideal.div (Ideal.exp (s k - mx)) (∑ j, Ideal.exp (s j - mx)) = 0 := by
  obtain ⟨e, L, hL, -, he, hs, hp⟩ := R.weights mx hm
  obtain ⟨μ, rfl⟩ := hm
  rw [R.bot k hk, EReal.bot_sub, exp_bot, hs, div_coe _ _ hL.ne', zero_div, EReal.coe_zero]

/-- The gradient of a score: from the probabilities and the row's output, and from the exponentials and their sum. -/
theorem Row.grad (R : Row q s) (mx : EReal) (hm : ∃ r : ℝ, mx = r) (g : Fin 128 → EReal) (v : Fin 2048 → Fin 128 → EReal)
    (hg : ∀ d, ∃ r : ℝ, g d = r) (hv : ∀ k d, ∃ r : ℝ, v k d = r) (k : Fin 2048) :
    Ideal.div (Ideal.exp (s k - mx)) (∑ j, Ideal.exp (s j - mx))
        * ((∑ d, g d * v k d) - ∑ d, g d * ∑ j, v j d * Ideal.div (Ideal.exp (s j - mx)) (∑ j, Ideal.exp (s j - mx)))
      = (Ideal.div (∑ d, g d * v k d) (∑ j, Ideal.exp (s j - mx))
          + -∑ j, (∑ d, g d * v j d) * Ideal.div 1 ((∑ j, Ideal.exp (s j - mx)) * ∑ j, Ideal.exp (s j - mx)) * Ideal.exp (s j - mx))
        * Ideal.exp (s k - mx) := by
  obtain ⟨e, L, hL, -, he, hs, -⟩ := R.weights mx hm
  choose g' hg' using hg
  choose v' hv' using hv
  have hLL : L * L ≠ 0 := (mul_pos hL hL).ne'
  simp only [hs]
  simp only [he, hg', hv', div_coe _ _ hL.ne', ← EReal.coe_mul, coe_sum, ← EReal.coe_sub, ← EReal.coe_one, div_coe _ _ hLL, ← EReal.coe_neg, ← EReal.coe_add]
  congr 1
  have sw : ∑ d, g' d * ∑ j, v' j d * (e j / L) = (∑ j, (∑ d, g' d * v' j d) * e j) / L := by
    simp only [Finset.mul_sum, Finset.sum_mul, Finset.sum_div]
    rw [Finset.sum_comm]
    refine Finset.sum_congr rfl fun j _ => Finset.sum_congr rfl fun d _ => ?_
    ring
  have sq : ∑ j, (∑ d, g' d * v' j d) * (1 / (L * L)) * e j = (∑ j, (∑ d, g' d * v' j d) * e j) / (L * L) := by
    rw [Finset.sum_div]
    refine Finset.sum_congr rfl fun j _ => ?_
    ring
  rw [sw, sq]
  have := hL.ne'
  field_simp
  ring

end Cert.Softmax

end
-- ==== Proof.Attention.lean ====
/-
  Causal attention of eight heads, each score with a rotary part whose key all heads share, over the extended reals: the score, the probability, the output and
  the gradient of the score, as formulas over the argument arrays.
-/
module

public import proofs.«01_k».proof.Proof.Softmax

@[expose] public section

set_option maxRecDepth 16384

noncomputable section

namespace Cert.Attention

open Idealize.ShloMosaic Cert.Softmax

/-- The arrays: the queries of eight heads with their rotary parts, the keys and the values, the rotary keys, the output's gradient. -/
structure Arrays where
  q : (⟨2, ![2048, 1536]⟩ : Shape).Idx → EReal
  kv : (⟨2, ![2048, 2048]⟩ : Shape).Idx → EReal
  e : (⟨2, ![2048, 128]⟩ : Shape).Idx → EReal
  g : (⟨2, ![2048, 1024]⟩ : Shape).Idx → EReal

/-- Every entry a real number. -/
structure Arrays.Real (X : Arrays) : Prop where
  q : ∀ i, ∃ r : ℝ, X.q i = r
  kv : ∀ i, ∃ r : ℝ, X.kv i = r
  e : ∀ i, ∃ r : ℝ, X.e i = r
  g : ∀ i, ∃ r : ℝ, X.g i = r

variable (X : Arrays)

/-- Column `d` of head `h` among the heads side by side. -/
def col (h : Fin 8) (d : Fin 128) : Fin 1024 := ⟨h.val * 128 + d.val, by omega⟩

/-- Column `d` of head `h` among the rotary parts side by side, -/
def rotCol (h : Fin 8) (d : Fin 64) : Fin 512 := ⟨h.val * 64 + d.val, by omega⟩
/-- and of the rotary part all heads share. -/
def shCol (d : Fin 64) : Fin 128 := ⟨d.val, by omega⟩

def query (h : Fin 8) (a : Fin 2048) (d : Fin 128) : EReal := X.q (ix2 a ⟨h.val * 128 + d.val, by omega⟩)
def rotary (h : Fin 8) (a : Fin 2048) (d : Fin 64) : EReal := X.q (ix2 a ⟨1024 + (h.val * 64 + d.val), by omega⟩)
def key (h : Fin 8) (b : Fin 2048) (d : Fin 128) : EReal := X.kv (ix2 b ⟨h.val * 128 + d.val, by omega⟩)
def value (h : Fin 8) (b : Fin 2048) (d : Fin 128) : EReal := X.kv (ix2 b ⟨1024 + (h.val * 128 + d.val), by omega⟩)
def shared (b : Fin 2048) (d : Fin 64) : EReal := X.e (ix2 b ⟨d.val, by omega⟩)
def grad (h : Fin 8) (a : Fin 2048) (d : Fin 128) : EReal := X.g (ix2 a ⟨h.val * 128 + d.val, by omega⟩)

/-- The scale of the scores. -/
abbrev scale : EReal := Ideal.ofBits .f32 0x3D93CD3A#32

def score (h : Fin 8) (a b : Fin 2048) : EReal := ((∑ d, query X h a d * key X h b d) + ∑ d, rotary X h a d * shared X b d) * scale
def masked (h : Fin 8) (a b : Fin 2048) : EReal := if b.val ≤ a.val then score X h a b else ⊥
/-- A row's greatest score, -/
def greatest (h : Fin 8) (a : Fin 2048) : EReal := Finset.univ.fold max (⊥ : EReal) (masked X h a)
/-- the exponential of a score less it, -/
def weight (h : Fin 8) (a b : Fin 2048) : EReal := Ideal.exp (masked X h a b - greatest X h a)
/-- their sum, -/
def total (h : Fin 8) (a : Fin 2048) : EReal := ∑ b, weight X h a b
/-- and the probability. -/
def prob (h : Fin 8) (a b : Fin 2048) : EReal := Ideal.div (weight X h a b) (total X h a)
/-- The logarithm of the sum of a row's exponentials. -/
def logTotal (h : Fin 8) (a : Fin 2048) : EReal := greatest X h a + Ideal.log (total X h a)
def output (h : Fin 8) (a : Fin 2048) (d : Fin 128) : EReal := ∑ b, value X h b d * prob X h a b
/-- The gradient of a probability, -/
def probGrad (h : Fin 8) (a b : Fin 2048) : EReal := ∑ d, grad X h a d * value X h b d
/-- and of a score before its scale, from the probabilities and the output. -/
def scoreGrad (h : Fin 8) (a b : Fin 2048) : EReal :=
  prob X h a b * (probGrad X h a b - ∑ d, grad X h a d * output X h a d) * scale

theorem scale_real : ∃ r : ℝ, scale = r := by
  unfold scale
  simp [Ideal.ofBits, Ideal.ieee, -EReal.coe_mul]

theorem sum_real {ι : Type} (t : Finset ι) (f : ι → EReal) (h : ∀ i, ∃ r : ℝ, f i = r) : ∃ r : ℝ, ∑ i ∈ t, f i = r := by
  choose g hg using h
  exact ⟨_, (Finset.sum_congr rfl fun i _ => hg i).trans (coe_sum t g)⟩
theorem mul_real {x y : EReal} (hx : ∃ r : ℝ, x = r) (hy : ∃ r : ℝ, y = r) : ∃ r : ℝ, x * y = r := by
  obtain ⟨a, rfl⟩ := hx; obtain ⟨b, rfl⟩ := hy
  exact ⟨a * b, (EReal.coe_mul a b).symm⟩
theorem add_real {x y : EReal} (hx : ∃ r : ℝ, x = r) (hy : ∃ r : ℝ, y = r) : ∃ r : ℝ, x + y = r := by
  obtain ⟨a, rfl⟩ := hx; obtain ⟨b, rfl⟩ := hy
  exact ⟨a + b, (EReal.coe_add a b).symm⟩

variable {X}

theorem row (R : X.Real) (h : Fin 8) (a : Fin 2048) : Row a.val (masked X h a) where
  real b hb := by
    unfold masked
    rw [if_pos hb]
    exact mul_real (add_real (sum_real _ _ fun d => mul_real (R.q _) (R.kv _)) (sum_real _ _ fun d => mul_real (R.q _) (R.e _))) scale_real
  bot b hb := if_neg (by omega)

/-- The probability from the logarithm of the sum. -/
theorem exp_logTotal (R : X.Real) (h : Fin 8) (a b : Fin 2048) : Ideal.exp (masked X h a b - logTotal X h a) = prob X h a b :=
  (row R h a).prob _ (row R h a).greatest b

theorem prob_zero (R : X.Real) (h : Fin 8) (a b : Fin 2048) (hb : a.val < b.val) : prob X h a b = 0 :=
  (row R h a).prob_zero _ (row R h a).greatest b hb

theorem scoreGrad_zero (R : X.Real) (h : Fin 8) (a b : Fin 2048) (hb : a.val < b.val) : scoreGrad X h a b = 0 := by
  unfold scoreGrad; rw [prob_zero R h a b hb, zero_mul, zero_mul]

/-- The gradient of a score, from the exponentials and their sum. -/
theorem scoreGrad_eq (R : X.Real) (h : Fin 8) (a b : Fin 2048) : scoreGrad X h a b
    = (Ideal.div (probGrad X h a b) (total X h a)
        + -∑ j, probGrad X h a j * Ideal.div 1 (total X h a * total X h a) * weight X h a j) * weight X h a b * scale :=
  congrArg (· * scale) ((row R h a).grad _ (row R h a).greatest (grad X h a) (value X h) (fun d => R.g _) (fun k d => R.kv _) b)

end Cert.Attention

end
-- ==== Proof.IdealPoint.lean ====
/-
  One grid point over the extended reals: when its blocks are those of the attention's arrays, what its trips add are the attention's score gradients
  and probabilities.
-/
module

public import proofs.«01_k».proof.Proof.IdealSums
public import proofs.«01_k».proof.Proof.IdealRun
public import proofs.«01_k».proof.Proof.Attention

@[expose] public section

set_option maxRecDepth 16384

noncomputable section

namespace Cert.KernelIdeal.Hand

open Cert.KernelIdeal Cert.KernelIdeal.Gen
open Idealize.ShloMosaic Idealize.ShloMosaic.TcCoe

/-- The first head of a pair, -/
def headA (p : Fin 4) : Fin 8 := ⟨p.val * 2, by omega⟩
/-- and the second. -/
def headB (p : Fin 4) : Fin 8 := ⟨p.val * 2 + 1, by omega⟩

/-- The row products of the output's gradient and the output. -/
def rowDot (X : Attention.Arrays) (h : Fin 8) (a : Fin 2048) : EReal := ∑ d, Attention.grad X h a d * Attention.output X h a d

/-- The operands are those of query block `i` and of the heads of pair `p`. -/
structure Loaded (X : Attention.Arrays) (p i : Fin 4) (P : Rows Ideal) (K : Keys Ideal) : Prop where
  qA : ∀ a d, P.qA (ix2 a d) = Attention.query X (headA p) (keyRow i a) d
  qB : ∀ a d, P.qB (ix2 a d) = Attention.query X (headB p) (keyRow i a) d
  rA : ∀ a d, P.rA (ix2 a d) = Attention.rotary X (headA p) (keyRow i a) d
  rB : ∀ a d, P.rB (ix2 a d) = Attention.rotary X (headB p) (keyRow i a) d
  oA : ∀ a d, P.oA (ix2 a d) = Attention.grad X (headA p) (keyRow i a) d
  oB : ∀ a d, P.oB (ix2 a d) = Attention.grad X (headB p) (keyRow i a) d
  wA : ∀ a, P.wA (ix2 a 0) = rowDot X (headA p) (keyRow i a)
  wB : ∀ a, P.wB (ix2 a 0) = rowDot X (headB p) (keyRow i a)
  lA : ∀ a, P.lA (ix2 a 0) = Attention.logTotal X (headA p) (keyRow i a)
  lB : ∀ a, P.lB (ix2 a 0) = Attention.logTotal X (headB p) (keyRow i a)
  kA : ∀ b d, K.k (ix2 b (colOfA d)) = Attention.key X (headA p) b d
  kB : ∀ b d, K.k (ix2 b (colOfB d)) = Attention.key X (headB p) b d
  vA : ∀ b d, K.v (ix2 b (colOfA d)) = Attention.value X (headA p) b d
  vB : ∀ b d, K.v (ix2 b (colOfB d)) = Attention.value X (headB p) b d
  e : ∀ b d, K.e (ix2 b (colOfE d)) = Attention.shared X b d

/-- The attention's score gradients and probabilities of query block `i` and the heads of pair `p`. -/
def target (X : Attention.Arrays) (p i : Fin 4) : Target where
  gA a j b := Attention.scoreGrad X (headA p) (keyRow i a) (keyRow j b)
  gB a j b := Attention.scoreGrad X (headB p) (keyRow i a) (keyRow j b)
  pA a j b := Attention.prob X (headA p) (keyRow i a) (keyRow j b)
  pB a j b := Attention.prob X (headB p) (keyRow i a) (keyRow j b)

section Head

variable {X : Attention.Arrays} (R : X.Real) {h : Fin 8} {i : Fin 4}
  {q : FVec Ideal S512x128 .bf16} {r : FVec Ideal S512x64 .bf16} {l : FVec Ideal S512x1 .f32} {o v k : FVec Ideal S512x128 .bf16} {w : FVec Ideal S512x1 .f32}
  {e : FVec Ideal S512x64 .bf16}
  (hq : ∀ a d, q (ix2 a d) = Attention.query X h (keyRow i a) d) (hr : ∀ a d, r (ix2 a d) = Attention.rotary X h (keyRow i a) d)
  (hl : ∀ a, l (ix2 a 0) = Attention.logTotal X h (keyRow i a))

include hq hr in
theorem scores_eq {j : Fin 4} (hk : ∀ b d, k (ix2 b d) = Attention.key X h (keyRow j b) d) (he : ∀ b d, e (ix2 b d) = Attention.shared X (keyRow j b) d)
    (a b : Fin 512) : scores q r e k (ix2 a b) = Attention.score X h (keyRow i a) (keyRow j b) := by
  rw [scores_at]
  simp only [hq, hr, hk, he]
  rfl

include R hq hr hl in
theorem openProb_eq {j : Fin 4} (hj : j.val < i.val) (hk : ∀ b d, k (ix2 b d) = Attention.key X h (keyRow j b) d)
    (he : ∀ b d, e (ix2 b d) = Attention.shared X (keyRow j b) d) (a b : Fin 512) :
    openProb q r l e k (ix2 a b) = Attention.prob X h (keyRow i a) (keyRow j b) := by
  rw [openProb_at, scores_eq hq hr hk he, hl, ← Attention.exp_logTotal R]
  have c : (keyRow j b).val ≤ (keyRow i a).val := by
    show 512 * j.val + b.val ≤ 512 * i.val + a.val
    omega
  unfold Attention.masked
  rw [if_pos c]

include R hq hr hl in
theorem maskProb_eq {t : IVec S512x512 32} (ht : ∀ a b : Fin 512, Scalar.cmpi .sge (t (ix2 a b)) 0#32 = BitVec.ofBool (decide (b.val ≤ a.val)))
    (hk : ∀ b d, k (ix2 b d) = Attention.key X h (keyRow i b) d) (he : ∀ b d, e (ix2 b d) = Attention.shared X (keyRow i b) d) (a b : Fin 512) :
    maskProb t q r l e k (ix2 a b) = Attention.prob X h (keyRow i a) (keyRow i b) := by
  rw [maskProb_at, scores_eq hq hr hk he, hl, ← Attention.exp_logTotal R, ht]
  have c : (keyRow i b).val ≤ (keyRow i a).val ↔ b.val ≤ a.val := by
    show 512 * i.val + b.val ≤ 512 * i.val + a.val ↔ _
    omega
  unfold Attention.masked
  by_cases g : b.val ≤ a.val
  · rw [if_pos (c.mpr g), decide_eq_true g]; rfl
  · rw [if_neg (fun n => g (c.mp n)), decide_eq_false g]; rfl

theorem scoreGrad_eq {j : Fin 4} {p : FVec Ideal S512x512 .f32} (hp : ∀ a b, p (ix2 a b) = Attention.prob X h (keyRow i a) (keyRow j b))
    (ho : ∀ a d, o (ix2 a d) = Attention.grad X h (keyRow i a) d) (hw : ∀ a, w (ix2 a 0) = rowDot X h (keyRow i a))
    (hv : ∀ b d, v (ix2 b d) = Attention.value X h (keyRow j b) d) (a b : Fin 512) :
    scoreGrad p o v w (ix2 a b) = Attention.scoreGrad X h (keyRow i a) (keyRow j b) := by
  rw [scoreGrad_at]
  simp only [hp, ho, hw, hv]
  rfl

end Head

/-- With those operands the trips meet that target. -/
theorem meets {X : Attention.Arrays} (R : X.Real) {p i : Fin 4} {P : Rows Ideal} {K : Keys Ideal} (L : Loaded X p i P K) {t : IVec S512x512 32}
    (ht : ∀ a b : Fin 512, Scalar.cmpi .sge (t (ix2 a b)) 0#32 = BitVec.ofBool (decide (b.val ≤ a.val))) : Meets P K t i (target X p i) := by
  have kA : ∀ j b d, blkA K.k j (ix2 b d) = Attention.key X (headA p) (keyRow j b) d := fun j b d => (blkA_at _ _ _ _).trans (L.kA _ _)
  have kB : ∀ j b d, blkB K.k j (ix2 b d) = Attention.key X (headB p) (keyRow j b) d := fun j b d => (blkB_at _ _ _ _).trans (L.kB _ _)
  have vA : ∀ j b d, blkA K.v j (ix2 b d) = Attention.value X (headA p) (keyRow j b) d := fun j b d => (blkA_at _ _ _ _).trans (L.vA _ _)
  have vB : ∀ j b d, blkB K.v j (ix2 b d) = Attention.value X (headB p) (keyRow j b) d := fun j b d => (blkB_at _ _ _ _).trans (L.vB _ _)
  have e : ∀ j b d, blkE K.e j (ix2 b d) = Attention.shared X (keyRow j b) d := fun j b d => (blkE_at _ _ _ _).trans (L.e _ _)
  have after : ∀ j : Fin 4, i.val < j.val → ∀ a b : Fin 512, (keyRow i a).val < (keyRow j b).val := fun j hj a b => by
    show 512 * i.val + a.val < 512 * j.val + b.val
    omega
  have opA := fun (j : Fin 4) (hj : j.val < i.val) => openProb_eq R L.qA L.rA L.lA hj (kA j) (e j)
  have opB := fun (j : Fin 4) (hj : j.val < i.val) => openProb_eq R L.qB L.rB L.lB hj (kB j) (e j)
  have mpA := maskProb_eq R L.qA L.rA L.lA ht (kA i) (e i)
  have mpB := maskProb_eq R L.qB L.rB L.lB ht (kB i) (e i)
  exact
    { gA := fun j hj => scoreGrad_eq (opA j hj) L.oA L.wA (vA j)
      gB := fun j hj => scoreGrad_eq (opB j hj) L.oB L.wB (vB j)
      pA := opA
      pB := opB
      mgA := scoreGrad_eq mpA L.oA L.wA (vA i)
      mgB := scoreGrad_eq mpB L.oB L.wB (vB i)
      mpA := mpA
      mpB := mpB
      zgA := fun j hj a b => Attention.scoreGrad_zero R _ _ _ (after j hj a b)
      zgB := fun j hj a b => Attention.scoreGrad_zero R _ _ _ (after j hj a b)
      zpA := fun j hj a b => Attention.prob_zero R _ _ _ (after j hj a b)
      zpB := fun j hj a b => Attention.prob_zero R _ _ _ (after j hj a b) }

/-- The place of a score's key row against its query row, compared as the body compares them. -/
theorem level_at (i : grid0.Coords) (a b : Fin 512) :
    Scalar.cmpi .sge (level i (firstRow i) (ownBlock i) (ix2 a b)) 0#32 = BitVec.ofBool (decide (b.val ≤ a.val)) := by
  pointwise [level, k0_pay42]
  have e' : Scalar.muli (Scf.iv (ownBlock i) 1#32 0) 512#32 = firstRow i := by
    simp only [ownBlock, firstRow]
    have hk : (i 1).val < 4 := (i 1).isLt
    generalize (i 1).val = k at hk ⊢
    revert k
    decide
  rw [e']
  generalize firstRow i = f
  have s : IntOp.subi (IntOp.addi f (BitVec.ofNat 32 a.val)) (IntOp.addi f (BitVec.ofNat 32 b.val)) = BitVec.ofNat 32 a.val - BitVec.ofNat 32 b.val := by
    show f + BitVec.ofNat 32 a.val - (f + BitVec.ofNat 32 b.val) = _
    bv_omega
  rw [s]
  show BitVec.ofBool (BitVec.sle 0#32 (BitVec.ofNat 32 a.val - BitVec.ofNat 32 b.val)) = _
  refine congrArg BitVec.ofBool (Bool.eq_iff_iff.mpr ?_)
  have n : ∀ k < 512, (BitVec.ofNat 32 k).toInt = k := fun k hk => by
    rw [BitVec.toInt_eq_toNat_of_lt (by rw [BitVec.toNat_ofNat]; omega), BitVec.toNat_ofNat]
    omega
  rw [decide_eq_true_iff, BitVec.sle_iff_toInt_le, BitVec.toInt_sub, n _ a.isLt, n _ b.isLt, Int.bmod_eq_of_le (by omega) (by omega)]
  show (0 : ℤ) ≤ _ ↔ _
  omega

end Cert.KernelIdeal.Hand

end
-- ==== Proof.RefRead.lean ====
/-
  The reference's arrays, read entry by entry.
-/
module

public import proofs.«01_k».proof.Proof.Attention
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Idealize.ShloMosaic Cert.Attention

variable (x0 : FVec Ideal S2048x1536 .bf16) (x1 : FVec Ideal S2048x2048 .bf16) (x2 : FVec Ideal S2048x128 .bf16) (x3 : FVec Ideal S2048x1024 .f32)

/-- The argument arrays. -/
abbrev args : Arrays := ⟨x0, x1, x2, x3⟩

theorem bot_bits : Ideal.ofBits .f32 0xFF800000#32 = (⊥ : EReal) := by
  simp [Ideal.ofBits, Ideal.ieee]

theorem score_at (h : Fin 8) (a b : Fin 2048) : val_main_v18 (F := Ideal) x0 x1 x2 (ix3 h a b) = score (args x0 x1 x2 x3) h a b := by
  pointwise [val_main_v18, val_main_v16, val_main_v17, val_main_v15, val_main_v14, val_main_v13, val_main_v12, val_main_v11, val_main_v10, val_main_v9, val_main_v8, val_main_v7, val_main_v5, val_main_v4, val_main_v3, val_main_v2, val_main_v1, val_main_v0, val_main_cst]
  unfold score
  exact congrArg (fun t => ((∑ d, query (args x0 x1 x2 x3) h a d * key (args x0 x1 x2 x3) h b d) + t) * scale)
    (Finset.sum_congr rfl fun d _ => mul_comm _ _)

theorem head_of_col (h : Fin 8) (d : Fin 128) (p : (col h d).val / 128 < 8) : (⟨(col h d).val / 128, p⟩ : Fin 8) = h :=
  Fin.ext (by show (h.val * 128 + d.val) / 128 = h.val; omega)
theorem head_of_rotCol (h : Fin 8) (d : Fin 64) (p : (rotCol h d).val / 64 < 8) : (⟨(rotCol h d).val / 64, p⟩ : Fin 8) = h :=
  Fin.ext (by show (h.val * 64 + d.val) / 64 = h.val; omega)

theorem sge_rows (a b : Fin 2048) : IntOp.cmpi CmpIPredicate.sge (BitVec.ofNat 32 a.val) (BitVec.ofNat 32 b.val) = BitVec.ofBool (decide (b.val ≤ a.val)) := by
  show BitVec.ofBool ((BitVec.ofNat 32 b.val).sle (BitVec.ofNat 32 a.val)) = _
  congr 1
  have ha := a.isLt; have hb := b.isLt
  have na : (BitVec.ofNat 32 a.val).toNat = a.val := by rw [BitVec.toNat_ofNat]; exact Nat.mod_eq_of_lt (by omega)
  have nb : (BitVec.ofNat 32 b.val).toNat = b.val := by rw [BitVec.toNat_ofNat]; exact Nat.mod_eq_of_lt (by omega)
  rw [BitVec.sle_eq_decide, BitVec.toInt_eq_toNat_of_lt (by omega), BitVec.toInt_eq_toNat_of_lt (by omega), na, nb]
  exact decide_eq_decide.mpr Int.ofNat_le

theorem select_rows {α : Type} (a b : Fin 2048) (x y : α) :
    Scalar.select (IntOp.cmpi CmpIPredicate.sge (BitVec.ofNat 32 a.val) (BitVec.ofNat 32 b.val)) x y = if b.val ≤ a.val then x else y := by
  rw [sge_rows]
  by_cases h : b.val ≤ a.val <;> simp [Scalar.select, h]

theorem masked_at (h : Fin 8) (a b : Fin 2048) : val_main_v27_0 (F := Ideal) x0 x1 x2 (ix3 h a b) = masked (args x0 x1 x2 x3) h a b := by
  pointwise [val_main_v27_0, val_main_v27_1, val_main_v26, val_main_v25, val_main_v24, val_main_v23, val_main_v22, val_main_v21, val_main_v20, val_main_v19, val_main_call0_v2, val_main_call0_v0, val_main_cst_0]
  rw [score_at x0 x1 x2 x3, select_rows]
  exact congrArg (fun t => if b.val ≤ a.val then score (args x0 x1 x2 x3) h a b else t) bot_bits

theorem reduce_max_at (Y : FVec Ideal S8x2048x2048 .f32) (h : Fin 8) (a : Fin 2048) :
    Host.reduce FloatOps.maximumf Y (constant S_ .f32 0xFF800000#32) reducesTo_S8x2048x2048_S8x2048_d2 h_S_ (ix2 h a)
      = Finset.univ.fold max (⊥ : EReal) fun k => Y (ix3 h a k) := by
  pointwise
  rw [bot_bits]

theorem greatest_at (h : Fin 8) (a : Fin 2048) : val_main_v28 (F := Ideal) x0 x1 x2 (ix2 h a) = greatest (args x0 x1 x2 x3) h a := by
  refine (reduce_max_at (val_main_v27_0 (F := Ideal) x0 x1 x2) h a).trans ?_
  exact congrArg (Finset.univ.fold max (⊥ : EReal)) (funext fun b => masked_at x0 x1 x2 x3 h a b)

theorem weight_at (h : Fin 8) (a b : Fin 2048) : val_main_v48 (F := Ideal) x0 x1 x2 (ix3 h a b) = weight (args x0 x1 x2 x3) h a b := by
  have e : idx_main_v45 (idx_main_v46 (ix3 h a b)) = ix2 h a := funext (Fin.forall_fin_two.mpr ⟨rfl, rfl⟩)
  rw [val_main_v48_apply, val_main_v47_apply, val_main_v46_apply, val_main_v45_apply, val_main_v35_apply, val_main_v34_apply, val_main_cst_3_apply, e,
    masked_at x0 x1 x2 x3, greatest_at x0 x1 x2 x3]
  unfold weight
  generalize greatest (args x0 x1 x2 x3) h a = G
  generalize masked (args x0 x1 x2 x3) h a b = M
  show Ideal.exp (M - max (Ideal.ofBits .f32 0xFF800000#32) G) = _
  rw [bot_bits, max_eq_right bot_le]

theorem prob_at (h : Fin 8) (a b : Fin 2048) : val_main_v52 (F := Ideal) x0 x1 x2 (ix3 h a b) = prob (args x0 x1 x2 x3) h a b := by
  pointwise [val_main_v52, val_main_v51, val_main_v50, val_main_v49, val_main_cst_9]
  simp only [weight_at x0 x1 x2 x3]
  rfl

theorem probGrad_at (h : Fin 8) (a b : Fin 2048) : val_main_v62 (F := Ideal) x1 x3 (ix3 h a b) = probGrad (args x0 x1 x2 x3) h a b := by
  pointwise [val_main_v62, val_main_v61, val_main_v60, val_main_v56, val_main_v6, val_main_v2]
  rfl

theorem scoreGrad_at (R : (args x0 x1 x2 x3).Real) (h : Fin 8) (a b : Fin 2048) :
    val_main_v80 (F := Ideal) x0 x1 x2 x3 (ix3 h a b) = scoreGrad (args x0 x1 x2 x3) h a b := by
  pointwise [val_main_v80, val_main_v79, val_main_v78, val_main_v77, val_main_v76, val_main_v75, val_main_v74, val_main_v73, val_main_v72, val_main_v71, val_main_v70, val_main_v69, val_main_v68, val_main_v67, val_main_v66, val_main_v55, val_main_v54, val_main_v53, val_main_v50, val_main_v49, val_main_cst_9, val_main_cst_10, val_main_cst_11, val_main_cst_12, val_main_cst_13, val_main_call1_v0, val_main_call1_cst, val_main_v27_1, val_main_v26, val_main_v25, val_main_v24, val_main_v23, val_main_v22, val_main_v21, val_main_v20, val_main_v19]
  simp only [weight_at x0 x1 x2 x3, probGrad_at x0 x1 x2 x3]
  rw [select_rows]
  by_cases e : b.val ≤ a.val
  · rw [if_pos e, scoreGrad_eq R]
    simp only [Fin.sum_univ_one]
    rfl
  · rw [if_neg e, scoreGrad_zero R h a b (by omega)]

end Cert.ReferenceIdeal.Hand

end
-- ==== Proof.IdealHost.lean ====
/-
  The arrays the kernel's host code prepares: the attention's output and the logarithms of its rows' sums.
-/
module

public import proofs.«01_k».proof.Proof.RefRead
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Cert.Attention

/-! ## The host's operations on an array of masked scores -/

/-- Each row's greatest score, -/
def hostMax (S : FVec Ideal S8x2048x2048 .f32) : FVec Ideal S8x2048x1 .f32 :=
  broadcastInDim S8x2048x1 ![0, 1] bcast_S8x2048_S8x2048x1_0_1
    (Host.reduce FloatOps.maximumf S (constant S_ .f32 0xFF800000#32) reducesTo_S8x2048x2048_S8x2048_d2 h_S_)
/-- the exponentials, -/
def hostExp (S : FVec Ideal S8x2048x2048 .f32) : FVec Ideal S8x2048x2048 .f32 :=
  Host.exp (subf S (broadcastInDim S8x2048x2048 ![0, 1, 2] bcast_S8x2048x1_S8x2048x2048_0_1_2 (hostMax S)))
/-- their sums, -/
def hostTotal (W : FVec Ideal S8x2048x2048 .f32) : FVec Ideal S8x2048x1 .f32 :=
  broadcastInDim S8x2048x1 ![0, 1] bcast_S8x2048_S8x2048x1_0_1
    (Host.reduceAdd W (constant S_ .f32 0x00000000#32) reducesTo_S8x2048x2048_S8x2048_d2 h_S_)
/-- the quotients, -/
def hostProb (W : FVec Ideal S8x2048x2048 .f32) : FVec Ideal S8x2048x2048 .f32 :=
  Host.divf W (broadcastInDim S8x2048x2048 ![0, 1, 2] bcast_S8x2048x1_S8x2048x2048_0_1_2 (hostTotal W))
/-- the output -/
def hostOutput (kv : FVec Ideal S2048x2048 .bf16) (Y : FVec Ideal S8x2048x2048 .f32) : FVec Ideal S2048x1024 .f32 :=
  shapeCast S2048x1024 (transpose S2048x8x128 [2, 0, 1]
    (Host.dotGeneral dot_S2048x8x128_S8x2048x2048_S8x128x2048_0_2_2_1_1_0 none
      (shapeCast S2048x8x128 (extf .f32 (extractStridedSlice S2048x1024 ![0, 1024] kv slices_S2048x2048_S2048x1024_0_1024) bitsLt_bf16_f32)
        shapeCasts_S2048x1024_S2048x8x128) Y) transposes_S8x128x2048_S2048x8x128_2_0_1) shapeCasts_S2048x8x128_S2048x1024
/-- and the logarithms, two heads side by side. -/
def hostLog (G T : FVec Ideal S8x2048x1 .f32) : FVec Ideal S4x2048x128 .f32 :=
  pad S4x2048x128 ![0, 0, 0] ![0, 0, 126] ![0, 0, 0]
    (transpose S4x2048x2 [0, 2, 1] (shapeCast S4x2x2048 (addf G (Host.log T)) shapeCasts_S8x2048x1_S4x2x2048) transposes_S4x2x2048_S4x2048x2_0_2_1)
    (sitofp .f32 (constantI S_ 32 0#32)) pads_S4x2048x2_S4x2048x128_000_000_01260 h_S_

theorem bot_bits : Ideal.ofBits .f32 0xFF800000#32 = (⊥ : EReal) := by
  simp [Ideal.ofBits, Ideal.ieee]

theorem reduce_max (Y : FVec Ideal S8x2048x2048 .f32) (h : Fin 8) (a : Fin 2048) :
    Host.reduce FloatOps.maximumf Y (constant S_ .f32 0xFF800000#32) reducesTo_S8x2048x2048_S8x2048_d2 h_S_ (ix2 h a)
      = Finset.univ.fold max (⊥ : EReal) fun k => Y (ix3 h a k) := by
  pointwise
  rw [bot_bits]

theorem hostMax_at (S : FVec Ideal S8x2048x2048 .f32) (h : Fin 8) (a : Fin 2048) :
    hostMax S (ix3 h a 0) = Finset.univ.fold max (⊥ : EReal) fun k => S (ix3 h a k) := by
  refine Eq.trans ?_ (reduce_max S h a)
  unfold hostMax
  generalize Host.reduce FloatOps.maximumf S (constant S_ .f32 0xFF800000#32) reducesTo_S8x2048x2048_S8x2048_d2 h_S_ = G
  pointwise

theorem hostExp_at (S : FVec Ideal S8x2048x2048 .f32) (h : Fin 8) (a b : Fin 2048) :
    hostExp S (ix3 h a b) = Ideal.exp (S (ix3 h a b) - Finset.univ.fold max (⊥ : EReal) fun k => S (ix3 h a k)) := by
  rw [← hostMax_at]
  unfold hostExp
  generalize hostMax S = G
  pointwise

theorem hostTotal_at (W : FVec Ideal S8x2048x2048 .f32) (h : Fin 8) (a : Fin 2048) :
    hostTotal W (ix3 h a 0) = ∑ k, W (ix3 h a k) := by
  pointwise [hostTotal]

theorem hostProb_at (W : FVec Ideal S8x2048x2048 .f32) (h : Fin 8) (a b : Fin 2048) :
    hostProb W (ix3 h a b) = Ideal.div (W (ix3 h a b)) (∑ k, W (ix3 h a k)) := by
  rw [← hostTotal_at]
  unfold hostProb
  generalize hostTotal W = T
  pointwise

theorem hostOutput_at (kv : FVec Ideal S2048x2048 .bf16) (Y : FVec Ideal S8x2048x2048 .f32) (h : Fin 8) (a : Fin 2048) (d : Fin 128) :
    hostOutput kv Y (ix2 a (col h d)) = ∑ b, kv (ix2 b ⟨1024 + (h.val * 128 + d.val), by omega⟩) * Y (ix3 h a b) := by
  have e : ∀ p, (⟨(col h d).val / 128, p⟩ : Fin 8) = h := fun p => Fin.ext (by show (h.val * 128 + d.val) / 128 = h.val; omega)
  pointwise [hostOutput]
  exact Finset.sum_congr rfl fun b _ => by rw [e]; rfl

theorem hostLog_at (G T : FVec Ideal S8x2048x1 .f32) (p : Fin 4) (a : Fin 2048) (l : Fin 2) :
    hostLog G T (ix3 p a ⟨l.val, by omega⟩) = G (ix3 ⟨p.val * 2 + l.val, by omega⟩ a 0) + Ideal.log (T (ix3 ⟨p.val * 2 + l.val, by omega⟩ a 0)) := by
  pointwise [hostLog]

variable (m : (ℓ : Loc nD τ sig) → Buf (Elt Ideal) ℓ)

/-- The masked scores of a device's arrays. -/
abbrev scoresOf (c : Dev nD) : FVec Ideal S8x2048x2048 .f32 :=
  Cert.ReferenceIdeal.Read.val_main_v27_0 (F := Ideal) (m ((c : Thread nD τ).loc main_arg0)) (m ((c : Thread nD τ).loc main_arg1)) (m ((c : Thread nD τ).loc main_arg2))

/-- The contents once the scores are masked. -/
def masked (c : Dev nD) : (b : DevRef τ sig) → b.ty.Contents (Elt Ideal) := StableHlo.after (hostOps0 ++ hostOps0_1) fun b => m (c, b)

theorem V_split (c : Dev nD) (b : Ref sig .tc) : V m c b = StableHlo.after (hostOps0_2 ++ hostOps0_3) (masked m c) b := by
  unfold_abbrev_sides
  unfold masked
  rw [← StableHlo.after_append]
  simp only [List.flatten_cons, List.flatten_nil, List.append_nil, List.append_assoc]

theorem masked_v25 (c : Dev nD) : masked m c main_v25 = scoresOf m c := by
  unfold masked
  simp only [hostOps0, hostOps0_1, List.cons_append, List.nil_append]
  after_results
  rfl

theorem masked_arg1 (c : Dev nD) : masked m c main_arg1 = m ((c : Thread nD τ).loc main_arg1) := by
  unfold masked
  simp only [hostOps0, hostOps0_1, List.cons_append, List.nil_append]
  after_results
  try rfl

theorem V_main_v40 (c : Dev nD) : V m c main_v40 = hostOutput (m ((c : Thread nD τ).loc main_arg1)) (hostProb (hostExp (scoresOf m c))) := by
  rw [V_split, ← masked_v25 m c, ← masked_arg1 m c]
  generalize masked m c = σ
  simp only [hostOps0_2, hostOps0_3, List.cons_append, List.nil_append]
  after_results
  unfold hostOutput hostProb hostTotal hostExp hostMax
  rfl

theorem before_pad (σ : (b : DevRef τ sig) → b.ty.Contents (Elt Ideal)) : StableHlo.after hostOps0_2 σ main_v44
    = transpose S4x2048x2 [0, 2, 1] (shapeCast S4x2x2048 (addf (hostMax (σ main_v25)) (Host.log (hostTotal (hostExp (σ main_v25))))) shapeCasts_S8x2048x1_S4x2x2048)
      transposes_S4x2x2048_S4x2048x2_0_2_1 := by
  simp only [hostOps0_2]
  after_results
  unfold hostTotal hostExp hostMax
  rfl

theorem before_pad_c (σ : (b : DevRef τ sig) → b.ty.Contents (Elt Ideal)) : StableHlo.after hostOps0_2 σ main_c = constantI S_ 32 0#32 := by
  simp only [hostOps0_2]
  after_results
  try rfl

theorem pad_read (σ : (b : DevRef τ sig) → b.ty.Contents (Elt Ideal)) : StableHlo.after hostOps0_3 σ main_v45
    = pad S4x2048x128 ![0, 0, 0] ![0, 0, 126] ![0, 0, 0] (σ main_v44) (sitofp (F := Ideal) .f32 (σ main_c : IVec S_ 32)) pads_S4x2048x2_S4x2048x128_000_000_01260 h_S_ := by
  simp only [hostOps0_3]
  after_results
  rfl

theorem V_main_v45 (c : Dev nD) : V m c main_v45 = hostLog (hostMax (scoresOf m c)) (hostTotal (hostExp (scoresOf m c))) := by
  rw [V_split, ← masked_v25 m c, StableHlo.after_append, pad_read, before_pad, before_pad_c]
  unfold hostLog
  rfl

/-- The argument arrays. -/
abbrev argsOf (c : Dev nD) : Arrays :=
  ⟨m ((c : Thread nD τ).loc main_arg0), m ((c : Thread nD τ).loc main_arg1), m ((c : Thread nD τ).loc main_arg2), m ((c : Thread nD τ).loc main_arg3)⟩

theorem scoresOf_at (c : Dev nD) (h : Fin 8) (a b : Fin 2048) : scoresOf m c (ix3 h a b) = Attention.masked (argsOf m c) h a b :=
  Cert.ReferenceIdeal.Hand.masked_at _ _ _ _ h a b

theorem weight_at (c : Dev nD) (h : Fin 8) (a b : Fin 2048) : hostExp (scoresOf m c) (ix3 h a b) = weight (argsOf m c) h a b := by
  rw [hostExp_at]
  simp only [scoresOf_at]
  rfl

/-- The second operand `o`: the attention's output, -/
theorem output_at (c : Dev nD) (h : Fin 8) (a : Fin 2048) (d : Fin 128) :
    (V m c main_v40 : FVec Ideal S2048x1024 .f32) (ix2 a (col h d)) = output (argsOf m c) h a d := by
  rw [V_main_v40, hostOutput_at]
  simp only [hostProb_at, weight_at]
  rfl

/-- and `lse`: the logarithms of the sums, two heads in a block's first two lanes. -/
theorem logTotal_at (c : Dev nD) (p : Fin 4) (a : Fin 2048) (l : Fin 2) :
    (V m c main_v45 : FVec Ideal S4x2048x128 .f32) (ix3 p a ⟨l.val, by omega⟩) = logTotal (argsOf m c) ⟨p.val * 2 + l.val, by omega⟩ a := by
  rw [V_main_v45, hostLog_at, hostMax_at, hostTotal_at]
  simp only [weight_at, scoresOf_at]
  rfl

end Cert.KernelIdeal.Hand

end
-- ==== Proof.IdealBlocks.lean ====
/-
  The blocks of a grid point are those of the attention's arrays.
-/
module

public import proofs.«01_k».proof.Proof.IdealPoint
public import proofs.«01_k».proof.Proof.IdealHost
public import proofs.«01_k».proof.Proof.IdealGrads
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-! ## Where the windows lie -/

/-- A point's pair of heads -/
def pairOf (t : Fin cfg0.N) : Fin 4 := ⟨t.val / 4, by have := Nat.lt_of_lt_of_eq t.isLt N_0; omega⟩
/-- and its query block. -/
def rowBlock (t : Fin cfg0.N) : Fin 4 := ⟨t.val % 4, by omega⟩

theorem coords_1 : ∀ t : Fin cfg0.N, (grid0.coords t 1).val = (rowBlock t).val :=
  (by decide +kernel : ∀ t : Fin grid0.N, (grid0.coords t 1).val = t.val % 4)

theorem idx_0 : ∀ t : Fin cfg0.N, win0_0.index t = ![t.val % 4, t.val / 4] := (by decide +kernel : ∀ t : Fin grid0.N, _)
theorem idx_1 : ∀ t : Fin cfg0.N, win0_1.index t = ![0, t.val / 4] := (by decide +kernel : ∀ t : Fin grid0.N, _)
theorem idx_2 : ∀ t : Fin cfg0.N, win0_2.index t = ![0, 4 + t.val / 4] := (by decide +kernel : ∀ t : Fin grid0.N, _)
theorem idx_3 : ∀ t : Fin cfg0.N, win0_3.index t = ![t.val % 4, t.val / 4] := (by decide +kernel : ∀ t : Fin grid0.N, _)
theorem idx_4 : ∀ t : Fin cfg0.N, win0_4.index t = ![t.val % 4, t.val / 4] := (by decide +kernel : ∀ t : Fin grid0.N, _)
theorem idx_5 : ∀ t : Fin cfg0.N, win0_5.index t = ![t.val / 4, t.val % 4, 0] := (by decide +kernel : ∀ t : Fin grid0.N, _)
theorem idx_6 : ∀ t : Fin cfg0.N, win0_6.index t = ![t.val % 4, 8 + t.val / 4] := (by decide +kernel : ∀ t : Fin grid0.N, _)
theorem idx_7 : ∀ t : Fin cfg0.N, win0_7.index t = ![0, 0] := (by decide +kernel : ∀ t : Fin grid0.N, _)

/-! ## The blocks -/

theorem blk_0 (t : Fin cfg0.N) (a : Fin 512) (k : Fin 256) : (iblk m c 0 t : FVec Ideal S512x256 .bf16) (ix2 a k)
    = (V m c main_arg0 : FVec Ideal S2048x1536 .bf16) (ix2 (keyRow (rowBlock t) a) ⟨t.val / 4 * 256 + k.val, by have := Nat.lt_of_lt_of_eq t.isLt N_0; omega⟩) := by
  blk_ext [iblk, idx_0 t]
  show _ = 512 * (t.val % 4) + a.val
  omega
theorem blk_1 (t : Fin cfg0.N) (a : Fin 2048) (k : Fin 256) : (iblk m c 1 t : FVec Ideal S2048x256 .bf16) (ix2 a k)
    = (V m c main_arg1 : FVec Ideal S2048x2048 .bf16) (ix2 a ⟨t.val / 4 * 256 + k.val, by have := Nat.lt_of_lt_of_eq t.isLt N_0; omega⟩) := by
  blk_ext [iblk, idx_1 t]
theorem blk_2 (t : Fin cfg0.N) (a : Fin 2048) (k : Fin 256) : (iblk m c 2 t : FVec Ideal S2048x256 .bf16) (ix2 a k)
    = (V m c main_arg1 : FVec Ideal S2048x2048 .bf16) (ix2 a ⟨1024 + t.val / 4 * 256 + k.val, by have := Nat.lt_of_lt_of_eq t.isLt N_0; omega⟩) := by
  blk_ext [iblk, idx_2 t]
theorem blk_3 (t : Fin cfg0.N) (a : Fin 512) (k : Fin 256) : (iblk m c 3 t : FVec Ideal S512x256 .f32) (ix2 a k)
    = (V m c main_v40 : FVec Ideal S2048x1024 .f32) (ix2 (keyRow (rowBlock t) a) ⟨t.val / 4 * 256 + k.val, by have := Nat.lt_of_lt_of_eq t.isLt N_0; omega⟩) := by
  blk_ext [iblk, idx_3 t]
  show _ = 512 * (t.val % 4) + a.val
  omega
theorem blk_4 (t : Fin cfg0.N) (a : Fin 512) (k : Fin 256) : (iblk m c 4 t : FVec Ideal S512x256 .f32) (ix2 a k)
    = (V m c main_arg3 : FVec Ideal S2048x1024 .f32) (ix2 (keyRow (rowBlock t) a) ⟨t.val / 4 * 256 + k.val, by have := Nat.lt_of_lt_of_eq t.isLt N_0; omega⟩) := by
  blk_ext [iblk, idx_4 t]
  show _ = 512 * (t.val % 4) + a.val
  omega
theorem blk_5 (t : Fin cfg0.N) (a : Fin 512) (k : Fin 128) : (iblk m c 5 t : FVec Ideal S1x512x128 .f32) (ix3 0 a k)
    = (V m c main_v45 : FVec Ideal S4x2048x128 .f32) (ix3 (pairOf t) (keyRow (rowBlock t) a) k) := by
  blk_ext [iblk, idx_5 t]
  · rfl
  · show _ = 512 * (t.val % 4) + a.val
    omega
theorem blk_6 (t : Fin cfg0.N) (a : Fin 512) (k : Fin 128) : (iblk m c 6 t : FVec Ideal S512x128 .bf16) (ix2 a k)
    = (V m c main_arg0 : FVec Ideal S2048x1536 .bf16) (ix2 (keyRow (rowBlock t) a) ⟨1024 + t.val / 4 * 128 + k.val, by have := Nat.lt_of_lt_of_eq t.isLt N_0; omega⟩) := by
  blk_ext [iblk, idx_6 t]
  show _ = 512 * (t.val % 4) + a.val
  omega
theorem blk_7 (t : Fin cfg0.N) (a : Fin 2048) (k : Fin 128) : (iblk m c 7 t : FVec Ideal S2048x128 .bf16) (ix2 a k)
    = (V m c main_arg2 : FVec Ideal S2048x128 .bf16) (ix2 a k) := by
  blk_ext [iblk, idx_7 t]

/-! ## The columns of the heads -/

theorem colA_at {α : Type} (x : S512x256.Idx → α) (a : Fin 512) (d : Fin 128) : colA x (ix2 a d) = x (ix2 a (colOfA d)) := by
  unfold colA VecWindow.window
  exact congrArg x (funext (Fin.forall_fin_two.mpr ⟨Fin.ext (by show 0 + 1 * a.val = a.val; omega), Fin.ext (by show 0 + 1 * d.val = d.val; omega)⟩))
theorem colB_at {α : Type} (x : S512x256.Idx → α) (a : Fin 512) (d : Fin 128) : colB x (ix2 a d) = x (ix2 a (colOfB d)) := by
  unfold colB VecWindow.window
  exact congrArg x (funext (Fin.forall_fin_two.mpr ⟨Fin.ext (by show 0 + 1 * a.val = a.val; omega), Fin.ext (by show 128 + 1 * d.val = 128 + d.val; omega)⟩))
theorem rotA_at {α : Type} (x : S512x128.Idx → α) (a : Fin 512) (d : Fin 64) : rotA x (ix2 a d) = x (ix2 a ⟨d.val, by omega⟩) := by
  unfold rotA VecWindow.window
  exact congrArg x (funext (Fin.forall_fin_two.mpr ⟨Fin.ext (by show 0 + 1 * a.val = a.val; omega), Fin.ext (by show 0 + 1 * d.val = d.val; omega)⟩))
theorem rotB_at {α : Type} (x : S512x128.Idx → α) (a : Fin 512) (d : Fin 64) : rotB x (ix2 a d) = x (ix2 a ⟨64 + d.val, by omega⟩) := by
  unfold rotB VecWindow.window
  exact congrArg x (funext (Fin.forall_fin_two.mpr ⟨Fin.ext (by show 0 + 1 * a.val = a.val; omega), Fin.ext (by show 64 + 1 * d.val = 64 + d.val; omega)⟩))
theorem logA_at (x : FVec Ideal S1x512x128 .f32) (a : Fin 512) : k0_pay73 (F := Ideal) (logA x) (ix2 a 0) = x (ix3 0 a 0) := by
  pointwise [k0_pay73, logA]
  unfold VecWindow.window
  exact congrArg x (funext fun k => Fin.ext (by
    fin_cases k
    · rfl
    · show 0 + 1 * a.val = a.val
      omega
    · rfl))
theorem logB_at (x : FVec Ideal S1x512x128 .f32) (a : Fin 512) : k0_pay1 (F := Ideal) (logB x) (ix2 a 0) = x (ix3 0 a 1) := by
  pointwise [k0_pay1, logB]
  unfold VecWindow.window
  exact congrArg x (funext fun k => Fin.ext (by
    fin_cases k
    · rfl
    · show 0 + 1 * a.val = a.val
      omega
    · rfl))
theorem castA_at (x : FVec Ideal S512x128 .f32) (a : Fin 512) (d : Fin 128) : k0_pay69 (F := Ideal) x (ix2 a d) = x (ix2 a d) := by
  pointwise [k0_pay69]
theorem castB_at (x : FVec Ideal S512x128 .f32) (a : Fin 512) (d : Fin 128) : k0_pay70 (F := Ideal) x (ix2 a d) = x (ix2 a d) := by
  pointwise [k0_pay70]
theorem rowA_at (x y : FVec Ideal S512x128 .f32) (a : Fin 512) : k0_pay71 (F := Ideal) x y (ix2 a 0) = ∑ d, x (ix2 a d) * y (ix2 a d) := by
  pointwise [k0_pay71]
theorem rowB_at (x y : FVec Ideal S512x128 .f32) (a : Fin 512) : k0_pay72 (F := Ideal) x y (ix2 a 0) = ∑ d, x (ix2 a d) * y (ix2 a d) := by
  pointwise [k0_pay72]

/-- Operands taken from blocks of the arrays. -/
theorem loaded_of (X : Attention.Arrays) (p i : Fin 4) (x2 : FVec Ideal S512x256 .bf16) (x3 x4 : FVec Ideal S2048x256 .bf16) (x5 x6 : FVec Ideal S512x256 .f32)
    (x7 : FVec Ideal S1x512x128 .f32) (x8 : FVec Ideal S512x128 .bf16) (x9 : FVec Ideal S2048x128 .bf16)
    (h2 : ∀ a k, x2 (ix2 a k) = X.q (ix2 (keyRow i a) ⟨p.val * 256 + k.val, by omega⟩))
    (h3 : ∀ a k, x3 (ix2 a k) = X.kv (ix2 a ⟨p.val * 256 + k.val, by omega⟩))
    (h4 : ∀ a k, x4 (ix2 a k) = X.kv (ix2 a ⟨1024 + p.val * 256 + k.val, by omega⟩))
    (h5A : ∀ a d, x5 (ix2 a (colOfA d)) = Attention.output X (headA p) (keyRow i a) d)
    (h5B : ∀ a d, x5 (ix2 a (colOfB d)) = Attention.output X (headB p) (keyRow i a) d)
    (h6 : ∀ a k, x6 (ix2 a k) = X.g (ix2 (keyRow i a) ⟨p.val * 256 + k.val, by omega⟩))
    (h7A : ∀ a, x7 (ix3 0 a 0) = Attention.logTotal X (headA p) (keyRow i a))
    (h7B : ∀ a, x7 (ix3 0 a 1) = Attention.logTotal X (headB p) (keyRow i a))
    (h8 : ∀ a k, x8 (ix2 a k) = X.q (ix2 (keyRow i a) ⟨1024 + p.val * 128 + k.val, by omega⟩))
    (h9 : ∀ a k, x9 (ix2 a k) = X.e (ix2 a k)) : Loaded X p i (rowsOf (F := Ideal) x2 x5 x6 x7 x8) ⟨x3, x4, x9⟩ := by
  have cA : ∀ d : Fin 128, p.val * 256 + (colOfA d).val = p.val * 2 * 128 + d.val := fun d => by
    show p.val * 256 + d.val = _
    omega
  have cB : ∀ d : Fin 128, p.val * 256 + (colOfB d).val = (p.val * 2 + 1) * 128 + d.val := fun d => by
    show p.val * 256 + (128 + d.val) = _
    omega
  have o6A : ∀ a d, x6 (ix2 a (colOfA d)) = Attention.grad X (headA p) (keyRow i a) d := fun a d =>
    (h6 a _).trans (congrArg (fun k => X.g (ix2 _ k)) (Fin.ext (cA d)))
  have o6B : ∀ a d, x6 (ix2 a (colOfB d)) = Attention.grad X (headB p) (keyRow i a) d := fun a d =>
    (h6 a _).trans (congrArg (fun k => X.g (ix2 _ k)) (Fin.ext (cB d)))
  constructor
  · exact fun a d => (colA_at x2 a d).trans ((h2 a _).trans (congrArg (fun k => X.q (ix2 _ k)) (Fin.ext (cA d))))
  · exact fun a d => (colB_at x2 a d).trans ((h2 a _).trans (congrArg (fun k => X.q (ix2 _ k)) (Fin.ext (cB d))))
  · exact fun a d => (rotA_at x8 a d).trans ((h8 a _).trans (congrArg (fun k => X.q (ix2 _ k))
      (Fin.ext (by show 1024 + p.val * 128 + d.val = 1024 + (p.val * 2 * 64 + d.val); omega))))
  · exact fun a d => (rotB_at x8 a d).trans ((h8 a _).trans (congrArg (fun k => X.q (ix2 _ k))
      (Fin.ext (by show 1024 + p.val * 128 + (64 + d.val) = 1024 + ((p.val * 2 + 1) * 64 + d.val); omega))))
  · exact fun a d => (castA_at _ a d).trans ((colA_at x6 a d).trans (o6A a d))
  · exact fun a d => (castB_at _ a d).trans ((colB_at x6 a d).trans (o6B a d))
  · exact fun a => (rowA_at _ _ a).trans (Finset.sum_congr rfl fun d _ =>
      congrArg₂ (· * ·) ((colA_at x6 a d).trans (o6A a d)) ((colA_at x5 a d).trans (h5A a d)))
  · exact fun a => (rowB_at _ _ a).trans (Finset.sum_congr rfl fun d _ =>
      congrArg₂ (· * ·) ((colB_at x6 a d).trans (o6B a d)) ((colB_at x5 a d).trans (h5B a d)))
  · exact fun a => (logA_at x7 a).trans (h7A a)
  · exact fun a => (logB_at x7 a).trans (h7B a)
  · exact fun b d => (h3 b _).trans (congrArg (fun k => X.kv (ix2 _ k)) (Fin.ext (cA d)))
  · exact fun b d => (h3 b _).trans (congrArg (fun k => X.kv (ix2 _ k)) (Fin.ext (cB d)))
  · exact fun b d => (h4 b _).trans (congrArg (fun k => X.kv (ix2 _ k)) (Fin.ext (by
      have := cA d
      show 1024 + p.val * 256 + (colOfA d).val = 1024 + (p.val * 2 * 128 + d.val)
      omega)))
  · exact fun b d => (h4 b _).trans (congrArg (fun k => X.kv (ix2 _ k)) (Fin.ext (by
      have := cB d
      show 1024 + p.val * 256 + (colOfB d).val = 1024 + ((p.val * 2 + 1) * 128 + d.val)
      omega)))
  · exact fun b d => h9 b _

theorem output_col (t : Fin cfg0.N) (h : Fin 8) (a : Fin 2048) (d : Fin 128) (k : Fin 1024) (hk : k.val = h.val * 128 + d.val) :
    (V m c main_v40 : FVec Ideal S2048x1024 .f32) (ix2 a k) = Attention.output (argsOf m c) h a d := by
  obtain rfl : k = Attention.col h d := Fin.ext hk
  exact output_at m c h a d

/-- The operands of point `t` are those of its query block and its pair of heads. -/
theorem loaded (t : Fin cfg0.N) : Loaded (argsOf m c) (pairOf t) (rowBlock t)
    (rowsOf (F := Ideal) (iblk m c 0 t) (iblk m c 3 t) (iblk m c 4 t) (iblk m c 5 t) (iblk m c 6 t)) ⟨iblk m c 1 t, iblk m c 2 t, iblk m c 7 t⟩ := by
  apply loaded_of
  · exact fun a k => (blk_0 m c t a k).trans (congrFun (V_main_arg0 m c) _)
  · exact fun a k => (blk_1 m c t a k).trans (congrFun (V_main_arg1 m c) _)
  · exact fun a k => (blk_2 m c t a k).trans (congrFun (V_main_arg1 m c) _)
  · exact fun a d => (blk_3 m c t a _).trans (output_col m c t _ _ d _ (by show t.val / 4 * 256 + d.val = t.val / 4 * 2 * 128 + d.val; omega))
  · exact fun a d => (blk_3 m c t a _).trans (output_col m c t _ _ d _ (by show t.val / 4 * 256 + (128 + d.val) = (t.val / 4 * 2 + 1) * 128 + d.val; omega))
  · exact fun a k => (blk_4 m c t a k).trans (congrFun (V_main_arg3 m c) _)
  · exact fun a => (blk_5 m c t a 0).trans (logTotal_at m c (pairOf t) (keyRow (rowBlock t) a) 0)
  · exact fun a => (blk_5 m c t a 1).trans (logTotal_at m c (pairOf t) (keyRow (rowBlock t) a) 1)
  · exact fun a k => (blk_6 m c t a k).trans (congrFun (V_main_arg0 m c) _)
  · exact fun a k => (blk_7 m c t a k).trans (congrFun (V_main_arg2 m c) _)

/-- What point `t` adds to the gradients it finds. -/
theorem pointAt_added (R : (argsOf m c).Real) (t : Fin cfg0.N) (dk dv : Vec Ideal S2048x256 .f32) (de : Vec Ideal S2048x128 .f32) :
    Added (rowsOf (F := Ideal) (iblk m c 0 t) (iblk m c 3 t) (iblk m c 4 t) (iblk m c 5 t) (iblk m c 6 t)) ⟨iblk m c 1 t, iblk m c 2 t, iblk m c 7 t⟩
      (target (argsOf m c) (pairOf t) (rowBlock t)) (start dk dv de) 4 (pointAt m c t dk dv de) := by
  have e : grid0.coords t 1 = rowBlock t := Fin.ext (coords_1 t)
  unfold pointAt point
  rw [e]
  exact added_all (meets R (loaded m c t) (level_at (grid0.coords t))) _

end Cert.KernelIdeal.Hand

end
-- ==== Proof.IdealValue.lean ====
/-
  What the gradients hold after the grid's points, over the extended reals: the attention's gradients, summed over the rows met so far.
-/
module

public import proofs.«01_k».proof.Proof.IdealBlocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-! ## Sums by blocks and by pairs -/

theorem sum_rows (f : Fin 2048 → EReal) : ∑ j : Fin 4, ∑ b : Fin 512, f (keyRow j b) = ∑ b, f b := by
  rw [Fin.sum_univ_tiles 4 512 rfl f]
  refine Finset.sum_congr rfl fun j _ => Finset.sum_congr rfl fun b _ => congrArg f (Fin.ext ?_)
  show 512 * j.val + b.val = j.val * 512 + b.val
  omega

theorem sum_heads (f : Fin 8 → EReal) : ∑ p : Fin 4, (f (headA p) + f (headB p)) = ∑ h, f h := by
  rw [Fin.sum_univ_tiles 4 2 rfl f]
  refine Finset.sum_congr rfl fun p _ => ?_
  rw [Fin.sum_univ_two]
  rfl

theorem sum_points (f : Fin 4 → Fin 4 → EReal) : ∑ t : Fin cfg0.N, f (pairOf t) (rowBlock t) = ∑ p, ∑ i, f p i := by
  refine (Fin.sum_univ_tiles 4 4 N_0 fun t => f (pairOf t) (rowBlock t)).trans ?_
  refine Finset.sum_congr rfl fun p _ => Finset.sum_congr rfl fun i _ => congrArg₂ f (Fin.ext ?_) (Fin.ext ?_)
  · show (p.val * 4 + i.val) / 4 = p.val
    omega
  · show (p.val * 4 + i.val) % 4 = i.val
    omega

/-! ## The queries' gradients -/

theorem gradsOf_point (t : Fin cfg0.N) : ∃ dk dv de, gradsOf m c t = pointAt m c t dk dv de := by
  by_cases h0 : t.val = 0
  · exact ⟨_, _, _, gradsAt_all m c t h0⟩
  · by_cases h : t.val % 4 = 0
    · exact ⟨_, _, _, gradsAt_pair m c t h0 h⟩
    · exact ⟨_, _, _, gradsAt_later m c t h⟩

theorem zero_2 (a : Fin 512) (d : Fin 128) : (k0_pay2 : FVec Ideal S512x128 .f32) (ix2 a d) = 0 := by pointwise [k0_pay2]
theorem zero_3 (a : Fin 512) (d : Fin 64) : (k0_pay3 : FVec Ideal S512x64 .f32) (ix2 a d) = 0 := by pointwise [k0_pay3]
theorem zero_4 (a : Fin 512) (d : Fin 128) : (k0_pay4 : FVec Ideal S512x128 .f32) (ix2 a d) = 0 := by pointwise [k0_pay4]
theorem zero_5 (a : Fin 512) (d : Fin 64) : (k0_pay5 : FVec Ideal S512x64 .f32) (ix2 a d) = 0 := by pointwise [k0_pay5]
theorem zero_66 (a : Fin 2048) (k : Fin 256) : (k0_pay66 : FVec Ideal S2048x256 .f32) (ix2 a k) = 0 := by pointwise [k0_pay66]
theorem zero_67 (a : Fin 2048) (k : Fin 256) : (k0_pay67 : FVec Ideal S2048x256 .f32) (ix2 a k) = 0 := by pointwise [k0_pay67]
theorem zero_68 (a : Fin 2048) (k : Fin 128) : (k0_pay68 : FVec Ideal S2048x128 .f32) (ix2 a k) = 0 := by pointwise [k0_pay68]

/-- The gradient of a query of head `h`, -/
def queryGrad (X : Attention.Arrays) (h : Fin 8) (a : Fin 2048) (d : Fin 128) : EReal := ∑ b, Attention.scoreGrad X h a b * Attention.key X h b d
/-- of its rotary part, -/
def rotaryGrad (X : Attention.Arrays) (h : Fin 8) (a : Fin 2048) (d : Fin 64) : EReal := ∑ b, Attention.scoreGrad X h a b * Attention.shared X b d
/-- the part of query block `i` in the gradient of a key, -/
def keyPart (X : Attention.Arrays) (h : Fin 8) (b : Fin 2048) (d : Fin 128) (i : Fin 4) : EReal :=
  ∑ a, Attention.scoreGrad X h (keyRow i a) b * Attention.query X h (keyRow i a) d
/-- of a value, -/
def valuePart (X : Attention.Arrays) (h : Fin 8) (b : Fin 2048) (d : Fin 128) (i : Fin 4) : EReal :=
  ∑ a, Attention.prob X h (keyRow i a) b * Attention.grad X h (keyRow i a) d
/-- and, for one head, of a rotary key. -/
def sharedPart (X : Attention.Arrays) (h : Fin 8) (b : Fin 2048) (d : Fin 64) (i : Fin 4) : EReal :=
  ∑ a, Attention.scoreGrad X h (keyRow i a) b * Attention.rotary X h (keyRow i a) d

variable (R : (argsOf m c).Real)

include R in
theorem queryGrads (t : Fin cfg0.N) (a : Fin 512) (d : Fin 128) :
    (gradsOf m c t).acc.1 (ix2 a d) = queryGrad (argsOf m c) (headA (pairOf t)) (keyRow (rowBlock t) a) d
    ∧ (gradsOf m c t).acc.2.2.1 (ix2 a d) = queryGrad (argsOf m c) (headB (pairOf t)) (keyRow (rowBlock t) a) d := by
  obtain ⟨dk, dv, de, e⟩ := gradsOf_point m c t
  have A := pointAt_added m c R t dk dv de
  have L := loaded m c t
  rw [e]
  constructor
  · refine (A.qA a d).trans ?_
    refine (congrArg₂ (· + ·) (zero_2 a d) (upTo_all 4 _ fun j hj => absurd j.isLt (by omega))).trans ?_
    refine (zero_add _).trans ?_
    refine Eq.trans ?_ (sum_rows fun b => Attention.scoreGrad (argsOf m c) (headA (pairOf t)) (keyRow (rowBlock t) a) b * Attention.key (argsOf m c) (headA (pairOf t)) b d)
    exact Finset.sum_congr rfl fun j _ => Finset.sum_congr rfl fun b _ => congrArg₂ (· * ·) rfl (L.kA _ d)
  · refine (A.qB a d).trans ?_
    refine (congrArg₂ (· + ·) (zero_4 a d) (upTo_all 4 _ fun j hj => absurd j.isLt (by omega))).trans ?_
    refine (zero_add _).trans ?_
    refine Eq.trans ?_ (sum_rows fun b => Attention.scoreGrad (argsOf m c) (headB (pairOf t)) (keyRow (rowBlock t) a) b * Attention.key (argsOf m c) (headB (pairOf t)) b d)
    exact Finset.sum_congr rfl fun j _ => Finset.sum_congr rfl fun b _ => congrArg₂ (· * ·) rfl (L.kB _ d)

include R in
theorem rotaryGrads (t : Fin cfg0.N) (a : Fin 512) (d : Fin 64) :
    (gradsOf m c t).acc.2.1 (ix2 a d) = rotaryGrad (argsOf m c) (headA (pairOf t)) (keyRow (rowBlock t) a) d
    ∧ (gradsOf m c t).acc.2.2.2 (ix2 a d) = rotaryGrad (argsOf m c) (headB (pairOf t)) (keyRow (rowBlock t) a) d := by
  obtain ⟨dk, dv, de, e⟩ := gradsOf_point m c t
  have A := pointAt_added m c R t dk dv de
  have L := loaded m c t
  rw [e]
  constructor
  · refine (A.rA a d).trans ?_
    refine (congrArg₂ (· + ·) (zero_3 a d) (upTo_all 4 _ fun j hj => absurd j.isLt (by omega))).trans ?_
    refine (zero_add _).trans ?_
    refine Eq.trans ?_ (sum_rows fun b => Attention.scoreGrad (argsOf m c) (headA (pairOf t)) (keyRow (rowBlock t) a) b * Attention.shared (argsOf m c) b d)
    exact Finset.sum_congr rfl fun j _ => Finset.sum_congr rfl fun b _ => congrArg₂ (· * ·) rfl (L.e _ d)
  · refine (A.rB a d).trans ?_
    refine (congrArg₂ (· + ·) (zero_5 a d) (upTo_all 4 _ fun j hj => absurd j.isLt (by omega))).trans ?_
    refine (zero_add _).trans ?_
    refine Eq.trans ?_ (sum_rows fun b => Attention.scoreGrad (argsOf m c) (headB (pairOf t)) (keyRow (rowBlock t) a) b * Attention.shared (argsOf m c) b d)
    exact Finset.sum_congr rfl fun j _ => Finset.sum_congr rfl fun b _ => congrArg₂ (· * ·) rfl (L.e _ d)

/-! ## The keys' and the values' gradients -/

/-- What the keys' and the values' gradients hold after the query blocks up to a point's own. -/
structure PairGrads (t : Fin cfg0.N) : Prop where
  kA : ∀ j b d, (gradsOf m c t).dk (ix2 (keyRow j b) (colOfA d)) = upTo ((rowBlock t).val + 1) (keyPart (argsOf m c) (headA (pairOf t)) (keyRow j b) d)
  kB : ∀ j b d, (gradsOf m c t).dk (ix2 (keyRow j b) (colOfB d)) = upTo ((rowBlock t).val + 1) (keyPart (argsOf m c) (headB (pairOf t)) (keyRow j b) d)
  vA : ∀ j b d, (gradsOf m c t).dv (ix2 (keyRow j b) (colOfA d)) = upTo ((rowBlock t).val + 1) (valuePart (argsOf m c) (headA (pairOf t)) (keyRow j b) d)
  vB : ∀ j b d, (gradsOf m c t).dv (ix2 (keyRow j b) (colOfB d)) = upTo ((rowBlock t).val + 1) (valuePart (argsOf m c) (headB (pairOf t)) (keyRow j b) d)

include R in
/-- One point's step: it adds its query block's part. -/
theorem pair_step (t : Fin cfg0.N) (dk dv : Vec Ideal S2048x256 .f32) (de : Vec Ideal S2048x128 .f32) (e : gradsOf m c t = pointAt m c t dk dv de)
    (kA : ∀ j b d, dk (ix2 (keyRow j b) (colOfA d)) = upTo (rowBlock t).val (keyPart (argsOf m c) (headA (pairOf t)) (keyRow j b) d))
    (kB : ∀ j b d, dk (ix2 (keyRow j b) (colOfB d)) = upTo (rowBlock t).val (keyPart (argsOf m c) (headB (pairOf t)) (keyRow j b) d))
    (vA : ∀ j b d, dv (ix2 (keyRow j b) (colOfA d)) = upTo (rowBlock t).val (valuePart (argsOf m c) (headA (pairOf t)) (keyRow j b) d))
    (vB : ∀ j b d, dv (ix2 (keyRow j b) (colOfB d)) = upTo (rowBlock t).val (valuePart (argsOf m c) (headB (pairOf t)) (keyRow j b) d)) :
    PairGrads m c t := by
  have A := pointAt_added m c R t dk dv de
  have L := loaded m c t
  constructor
  · intro j b d
    rw [e, upTo_succ]
    refine (A.kA j b d).trans (congrArg₂ (· + ·) (kA j b d) ((if_pos j.isLt).trans ?_))
    exact Finset.sum_congr rfl fun a _ => congrArg₂ (· * ·) rfl (L.qA a d)
  · intro j b d
    rw [e, upTo_succ]
    refine (A.kB j b d).trans (congrArg₂ (· + ·) (kB j b d) ((if_pos j.isLt).trans ?_))
    exact Finset.sum_congr rfl fun a _ => congrArg₂ (· * ·) rfl (L.qB a d)
  · intro j b d
    rw [e, upTo_succ]
    refine (A.vA j b d).trans (congrArg₂ (· + ·) (vA j b d) ((if_pos j.isLt).trans ?_))
    exact Finset.sum_congr rfl fun a _ => congrArg₂ (· * ·) rfl (L.oA a d)
  · intro j b d
    rw [e, upTo_succ]
    refine (A.vB j b d).trans (congrArg₂ (· + ·) (vB j b d) ((if_pos j.isLt).trans ?_))
    exact Finset.sum_congr rfl fun a _ => congrArg₂ (· * ·) rfl (L.oB a d)

include R in
theorem pair_first (t : Fin cfg0.N) (h : t.val % 4 = 0) (de : Vec Ideal S2048x128 .f32) (e : gradsOf m c t = pointAt m c t (k0_pay66 (F := Ideal)) (k0_pay67 (F := Ideal)) de) :
    PairGrads m c t := by
  have z : (rowBlock t).val = 0 := h
  refine pair_step m c R t _ _ _ e ?_ ?_ ?_ ?_ <;> intro j b d <;> rw [z, upTo_zero]
  · exact zero_66 _ _
  · exact zero_66 _ _
  · exact zero_67 _ _
  · exact zero_67 _ _

include R in
theorem pairGrads_at : ∀ n (hn : n < cfg0.N), PairGrads m c ⟨n, hn⟩ := by
  intro n
  induction n with
  | zero => exact fun hn => pair_first m c R _ rfl _ (gradsAt_all m c ⟨0, hn⟩ rfl)
  | succ n ih =>
    intro hn
    by_cases h : (n + 1) % 4 = 0
    · exact pair_first m c R _ h _ (gradsAt_pair m c ⟨n + 1, hn⟩ (Nat.succ_ne_zero n) h)
    · have I := ih (Nat.lt_of_succ_lt hn)
      have p : pairOf ⟨n, Nat.lt_of_succ_lt hn⟩ = pairOf ⟨n + 1, hn⟩ := Fin.ext (by show n / 4 = (n + 1) / 4; omega)
      have r : (rowBlock ⟨n, Nat.lt_of_succ_lt hn⟩).val + 1 = (rowBlock ⟨n + 1, hn⟩).val := by show n % 4 + 1 = (n + 1) % 4; omega
      refine pair_step m c R _ _ _ _ (gradsAt_later m c ⟨n + 1, hn⟩ h) ?_ ?_ ?_ ?_ <;> intro j b d <;> rw [← r, ← p]
      · exact I.kA j b d
      · exact I.kB j b d
      · exact I.vA j b d
      · exact I.vB j b d

/-! ## The rotary keys' gradient -/

/-- A point's part of the rotary keys' gradient: both heads'. -/
def pointPart (b : Fin 2048) (d : Fin 64) (t : Fin cfg0.N) : EReal :=
  sharedPart (argsOf m c) (headA (pairOf t)) b d (rowBlock t) + sharedPart (argsOf m c) (headB (pairOf t)) b d (rowBlock t)

/-- What the rotary keys' gradient holds after a point. -/
structure SharedGrads (t : Fin cfg0.N) : Prop where
  e : ∀ j b d, (gradsOf m c t).de (ix2 (keyRow j b) (colOfE d)) = ∑ s : Fin cfg0.N, if s.val < t.val + 1 then pointPart m c (keyRow j b) d s else 0
  off : ∀ j b (k : Fin 128), 64 ≤ k.val → (gradsOf m c t).de (ix2 (keyRow j b) k) = 0

theorem sum_lt_succ (t : Fin cfg0.N) (f : Fin cfg0.N → EReal) :
    (∑ s : Fin cfg0.N, if s.val < t.val + 1 then f s else 0) = (∑ s : Fin cfg0.N, if s.val < t.val then f s else 0) + f t := by
  have e : f t = ∑ s : Fin cfg0.N, if s = t then f s else 0 := by
    rw [Finset.sum_ite_eq' Finset.univ t f, if_pos (Finset.mem_univ t)]
  conv_rhs => rw [e]
  rw [← Finset.sum_add_distrib]
  refine Finset.sum_congr rfl fun s _ => ?_
  by_cases h : s = t
  · subst h
    rw [if_pos (Nat.lt_succ_self _), if_neg (Nat.lt_irrefl _), if_pos rfl, zero_add]
  · have h' : s.val ≠ t.val := fun n => h (Fin.ext n)
    rw [if_neg h, add_zero]
    exact if_congr (by omega) rfl rfl

include R in
theorem shared_step (t : Fin cfg0.N) (dk dv : Vec Ideal S2048x256 .f32) (de : Vec Ideal S2048x128 .f32) (e : gradsOf m c t = pointAt m c t dk dv de)
    (he : ∀ j b d, de (ix2 (keyRow j b) (colOfE d)) = ∑ s : Fin cfg0.N, if s.val < t.val then pointPart m c (keyRow j b) d s else 0)
    (off : ∀ j b (k : Fin 128), 64 ≤ k.val → de (ix2 (keyRow j b) k) = 0) : SharedGrads m c t := by
  have A := pointAt_added m c R t dk dv de
  have L := loaded m c t
  constructor
  · intro j b d
    rw [e, sum_lt_succ]
    refine (A.e j b d).trans (congrArg₂ (· + ·) (he j b d) ((if_pos j.isLt).trans ?_))
    exact congrArg₂ (· + ·) (Finset.sum_congr rfl fun a _ => congrArg₂ (· * ·) rfl (L.rA a d))
      (Finset.sum_congr rfl fun a _ => congrArg₂ (· * ·) rfl (L.rB a d))
  · intro j b k hk
    rw [e]
    exact (A.off j b k hk).trans (off j b k hk)

include R in
theorem sharedGrads_at : ∀ n (hn : n < cfg0.N), SharedGrads m c ⟨n, hn⟩ := by
  intro n
  induction n with
  | zero =>
    refine fun hn => shared_step m c R _ _ _ _ (gradsAt_all m c ⟨0, hn⟩ rfl) (fun j b d => ?_) fun j b k _ => zero_68 _ _
    refine (zero_68 _ _).trans (Finset.sum_eq_zero fun s _ => if_neg (Nat.not_lt_zero _)).symm
  | succ n ih =>
    intro hn
    have I := ih (Nat.lt_of_succ_lt hn)
    by_cases h : (n + 1) % 4 = 0
    · exact shared_step m c R _ _ _ _ (gradsAt_pair m c ⟨n + 1, hn⟩ (Nat.succ_ne_zero n) h) I.e I.off
    · exact shared_step m c R _ _ _ _ (gradsAt_later m c ⟨n + 1, hn⟩ h) I.e I.off

end Cert.KernelIdeal.Hand

end
-- ==== Proof.RefGrads.lean ====
/-
  The reference's results, read entry by entry.
-/
module

public import proofs.«01_k».proof.Proof.RefRead

@[expose] public section

set_option maxRecDepth 16384

noncomputable section

namespace Cert.ReferenceIdeal.Hand

open Cert.ReferenceIdeal Cert.ReferenceIdeal.Gen Cert.ReferenceIdeal.Read
open Idealize.ShloMosaic Cert.Attention

variable (x0 : FVec Ideal S2048x1536 .bf16) (x1 : FVec Ideal S2048x2048 .bf16) (x2 : FVec Ideal S2048x128 .bf16) (x3 : FVec Ideal S2048x1024 .f32)

theorem queryGrad_at (R : (args x0 x1 x2 x3).Real) (a : Fin 2048) (h : Fin 8) (d : Fin 128) : val_main_v92 (F := Ideal) x0 x1 x2 x3 (ix2 a (col h d))
    = ∑ b, scoreGrad (args x0 x1 x2 x3) h a b * key (args x0 x1 x2 x3) h b d := by
  pointwise [val_main_v92, val_main_v91, val_main_v89, val_main_v88, val_main_v10, val_main_v5, val_main_v1]
  simp only [scoreGrad_at x0 x1 x2 x3 R]
  rw [head_of_col]
  rfl

theorem keyGrad_at (R : (args x0 x1 x2 x3).Real) (b : Fin 2048) (h : Fin 8) (d : Fin 128) : val_main_v90 (F := Ideal) x0 x1 x2 x3 (ix2 b (col h d))
    = ∑ a, scoreGrad (args x0 x1 x2 x3) h a b * query (args x0 x1 x2 x3) h a d := by
  pointwise [val_main_v90, val_main_v87, val_main_v86, val_main_v9, val_main_v4, val_main_v0]
  simp only [scoreGrad_at x0 x1 x2 x3 R]
  rw [head_of_col]
  rfl

theorem valueGrad_at (b : Fin 2048) (h : Fin 8) (d : Fin 128) : val_main_v65 (F := Ideal) x0 x1 x2 x3 (ix2 b (col h d))
    = ∑ a, grad (args x0 x1 x2 x3) h a d * prob (args x0 x1 x2 x3) h a b := by
  pointwise [val_main_v65, val_main_v64, val_main_v63, val_main_v61, val_main_v60]
  simp only [prob_at x0 x1 x2 x3]
  rw [head_of_col]
  rfl

theorem rotaryGrad_at (R : (args x0 x1 x2 x3).Real) (a : Fin 2048) (h : Fin 8) (d : Fin 64) : val_main_v85 (F := Ideal) x0 x1 x2 x3 (ix2 a (rotCol h d))
    = ∑ b, scoreGrad (args x0 x1 x2 x3) h a b * shared (args x0 x1 x2 x3) b d := by
  pointwise [val_main_v85, val_main_v82, val_main_v81, val_main_v13, val_main_v8]
  simp only [scoreGrad_at x0 x1 x2 x3 R]
  exact Finset.sum_congr rfl fun b _ => congrArg₂ (· * ·) (congrArg (fun h' => scoreGrad (args x0 x1 x2 x3) h' a b) (head_of_rotCol h d _))
    (congrArg (fun k => x2 (ix2 b k)) (Fin.ext (by show (h.val * 64 + d.val) % 64 = d.val; omega)))

theorem sharedGrad_at (R : (args x0 x1 x2 x3).Real) (b : Fin 2048) (d : Fin 64) : val_main_v84 (F := Ideal) x0 x1 x2 x3 (ix2 b (shCol d))
    = ∑ a, ∑ h, scoreGrad (args x0 x1 x2 x3) h a b * rotary (args x0 x1 x2 x3) h a d := by
  pointwise [val_main_v84, val_main_v83, val_main_v81, val_main_v12, val_main_v7, val_main_v3, val_main_cst_14]
  simp only [scoreGrad_at x0 x1 x2 x3 R]
  exact (dif_pos (show (shCol d).val < 64 from d.isLt)).trans rfl

theorem sharedGrad_off (b : Fin 2048) (c : Fin 128) (hc : 64 ≤ c.val) : val_main_v84 (F := Ideal) x0 x1 x2 x3 (ix2 b c) = 0 := by
  pointwise [val_main_v84, val_main_v83, val_main_v81, val_main_v12, val_main_v7, val_main_v3, val_main_cst_14]
  exact dif_neg (by omega)

end Cert.ReferenceIdeal.Hand

end
-- ==== Proof.IdealOutputs.lean ====
/-
  The arrays the region leaves, over the extended reals: the reference's gradients.
-/
module

public import proofs.«01_k».proof.Proof.IdealValue
public import proofs.«01_k».proof.Proof.RefGrads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (Dat)
open Cert.ReferenceIdeal.Read

variable (m : (ℓ : Loc nD τ sig) → Buf (Elt Ideal) ℓ) (c : Dev nD)

/-! ## Where the outputs' windows lie -/

theorem idx_8 : ∀ t : Fin cfg0.N, win0_8.index t = ![t.val % 4, t.val / 4] := (by decide +kernel : ∀ t : Fin grid0.N, _)
theorem idx_9 : ∀ t : Fin cfg0.N, win0_9.index t = ![0, t.val / 4] := (by decide +kernel : ∀ t : Fin grid0.N, _)
theorem idx_10 : ∀ t : Fin cfg0.N, win0_10.index t = ![0, t.val / 4] := (by decide +kernel : ∀ t : Fin grid0.N, _)
theorem idx_11 : ∀ t : Fin cfg0.N, win0_11.index t = ![t.val % 4, t.val / 4] := (by decide +kernel : ∀ t : Fin grid0.N, _)
theorem idx_12 : ∀ t : Fin cfg0.N, win0_12.index t = ![0, 0] := (by decide +kernel : ∀ t : Fin grid0.N, _)

theorem row_of (b : Fin 2048) : ∃ (j : Fin 4) (b' : Fin 512), b = keyRow j b' :=
  ⟨⟨b.val / 512, by omega⟩, ⟨b.val % 512, by omega⟩, Fin.ext (by show b.val = 512 * (b.val / 512) + b.val % 512; omega)⟩

/-! ## The stored blocks -/

/-- Column `d` of a pair's second head among the rotary parts. -/
def rotOfB (d : Fin 64) : Fin 128 := ⟨64 + d.val, by omega⟩

theorem pay14_A (x z : FVec Ideal S512x128 .f32) (a : Fin 512) (d : Fin 128) : k0_pay14 (F := Ideal) x z (ix2 a (colOfA d)) = x (ix2 a d) := by
  pointwise [k0_pay14]
  exact dif_pos d.isLt
theorem pay14_B (x z : FVec Ideal S512x128 .f32) (a : Fin 512) (d : Fin 128) : k0_pay14 (F := Ideal) x z (ix2 a (colOfB d)) = z (ix2 a d) := by
  pointwise [k0_pay14]
  have h : ¬ (colOfB d).val < 128 := by show ¬ 128 + d.val < 128; omega
  refine (dif_neg h).trans (congrArg (fun k => z (ix2 a k)) (Fin.ext ?_))
  show 128 + d.val - 128 = d.val
  omega
theorem pay15_A (x z : FVec Ideal S512x64 .f32) (a : Fin 512) (d : Fin 64) : k0_pay15 (F := Ideal) x z (ix2 a (colOfE d)) = x (ix2 a d) := by
  pointwise [k0_pay15]
  exact dif_pos d.isLt
theorem pay15_B (x z : FVec Ideal S512x64 .f32) (a : Fin 512) (d : Fin 64) : k0_pay15 (F := Ideal) x z (ix2 a (rotOfB d)) = z (ix2 a d) := by
  pointwise [k0_pay15]
  have h : ¬ (rotOfB d).val < 64 := by show ¬ 64 + d.val < 64; omega
  refine (dif_neg h).trans (congrArg (fun k => z (ix2 a k)) (Fin.ext ?_))
  show 64 + d.val - 64 = d.val
  omega

theorem pairCol (k : Fin 256) : (∃ d, k = colOfA d) ∨ ∃ d, k = colOfB d := by
  by_cases h : k.val < 128
  · exact .inl ⟨⟨k.val, h⟩, rfl⟩
  · exact .inr ⟨⟨k.val - 128, by omega⟩, Fin.ext (by show k.val = 128 + (k.val - 128); omega)⟩

variable (R : (argsOf m c).Real)

/-- The reference's gradient of the queries, of the kernel's arguments; -/
abbrev refQuery : FVec Ideal S2048x1024 .bf16 := val_main_v92 (F := Ideal) (argsOf m c).q (argsOf m c).kv (argsOf m c).e (argsOf m c).g
/-- of the keys, -/
abbrev refKey : FVec Ideal S2048x1024 .f32 := val_main_v90 (F := Ideal) (argsOf m c).q (argsOf m c).kv (argsOf m c).e (argsOf m c).g
/-- of the values, -/
abbrev refValue : FVec Ideal S2048x1024 .f32 := val_main_v65 (F := Ideal) (argsOf m c).q (argsOf m c).kv (argsOf m c).e (argsOf m c).g
/-- of the queries' rotary parts, -/
abbrev refRotary : FVec Ideal S2048x512 .f32 := val_main_v85 (F := Ideal) (argsOf m c).q (argsOf m c).kv (argsOf m c).e (argsOf m c).g
/-- and of the rotary keys. -/
abbrev refShared : FVec Ideal S2048x128 .f32 := val_main_v84 (F := Ideal) (argsOf m c).q (argsOf m c).kv (argsOf m c).e (argsOf m c).g

include R in
theorem query_point (t : Fin cfg0.N) (a : Fin 512) (k : Fin 256) (i : Fin 2048) (j : Fin 1024) (hi : i.val = t.val % 4 * 512 + a.val)
    (hj : j.val = t.val / 4 * 256 + k.val) :
    k0_pay14 (F := Ideal) (gradsOf m c t).acc.1 (gradsOf m c t).acc.2.2.1 (ix2 a k) = refQuery m c (ix2 i j) := by
  obtain rfl : i = keyRow (rowBlock t) a := Fin.ext (by show i.val = 512 * (t.val % 4) + a.val; omega)
  rcases pairCol k with ⟨d, rfl⟩ | ⟨d, rfl⟩
  · obtain rfl : j = Attention.col (headA (pairOf t)) d := Fin.ext (hj.trans (by show t.val / 4 * 256 + d.val = t.val / 4 * 2 * 128 + d.val; omega))
    exact (pay14_A _ _ a d).trans ((queryGrads m c R t a d).1.trans (Cert.ReferenceIdeal.Hand.queryGrad_at _ _ _ _ R _ _ d).symm)
  · obtain rfl : j = Attention.col (headB (pairOf t)) d :=
      Fin.ext (hj.trans (by show t.val / 4 * 256 + (128 + d.val) = (t.val / 4 * 2 + 1) * 128 + d.val; omega))
    exact (pay14_B _ _ a d).trans ((queryGrads m c R t a d).2.trans (Cert.ReferenceIdeal.Hand.queryGrad_at _ _ _ _ R _ _ d).symm)

include R in
theorem rotary_point (t : Fin cfg0.N) (a : Fin 512) (k : Fin 128) (i : Fin 2048) (j : Fin 512) (hi : i.val = t.val % 4 * 512 + a.val)
    (hj : j.val = t.val / 4 * 128 + k.val) :
    k0_pay15 (F := Ideal) (gradsOf m c t).acc.2.1 (gradsOf m c t).acc.2.2.2 (ix2 a k) = refRotary m c (ix2 i j) := by
  obtain rfl : i = keyRow (rowBlock t) a := Fin.ext (by show i.val = 512 * (t.val % 4) + a.val; omega)
  by_cases h : k.val < 64
  · obtain ⟨d, rfl⟩ : ∃ d : Fin 64, k = colOfE d := ⟨⟨k.val, h⟩, rfl⟩
    obtain rfl : j = Attention.rotCol (headA (pairOf t)) d := Fin.ext (hj.trans (by show t.val / 4 * 128 + d.val = t.val / 4 * 2 * 64 + d.val; omega))
    exact (pay15_A _ _ a d).trans ((rotaryGrads m c R t a d).1.trans (Cert.ReferenceIdeal.Hand.rotaryGrad_at _ _ _ _ R _ _ d).symm)
  · obtain ⟨d, rfl⟩ : ∃ d : Fin 64, k = rotOfB d := ⟨⟨k.val - 64, by omega⟩, Fin.ext (by show k.val = 64 + (k.val - 64); omega)⟩
    obtain rfl : j = Attention.rotCol (headB (pairOf t)) d :=
      Fin.ext (hj.trans (by show t.val / 4 * 128 + (64 + d.val) = (t.val / 4 * 2 + 1) * 64 + d.val; omega))
    exact (pay15_B _ _ a d).trans ((rotaryGrads m c R t a d).2.trans (Cert.ReferenceIdeal.Hand.rotaryGrad_at _ _ _ _ R _ _ d).symm)

theorem keyParts (X : Attention.Arrays) (h : Fin 8) (b : Fin 2048) (d : Fin 128) :
    upTo 4 (keyPart X h b d) = ∑ a, Attention.scoreGrad X h a b * Attention.query X h a d :=
  (upTo_all 4 _ fun j hj => absurd j.isLt (by omega)).trans (sum_rows fun a => Attention.scoreGrad X h a b * Attention.query X h a d)

theorem valueParts (X : Attention.Arrays) (h : Fin 8) (b : Fin 2048) (d : Fin 128) :
    upTo 4 (valuePart X h b d) = ∑ a, Attention.grad X h a d * Attention.prob X h a b := by
  refine (upTo_all 4 _ fun j hj => absurd j.isLt (by omega)).trans ((sum_rows fun a => Attention.prob X h a b * Attention.grad X h a d).trans ?_)
  exact Finset.sum_congr rfl fun a _ => mul_comm _ _

include R in
theorem key_point (t : Fin cfg0.N) (ht : t.val % 4 = 3) (b : Fin 2048) (k : Fin 256) (j : Fin 1024) (hj : j.val = t.val / 4 * 256 + k.val) :
    (gradsOf m c t).dk (ix2 b k) = refKey m c (ix2 b j) := by
  have G := pairGrads_at m c R t.val t.isLt
  have r : (rowBlock t).val + 1 = 4 := congrArg (· + 1) ht
  obtain ⟨j', b', rfl⟩ := row_of b
  rcases pairCol k with ⟨d, rfl⟩ | ⟨d, rfl⟩
  · obtain rfl : j = Attention.col (headA (pairOf t)) d := Fin.ext (hj.trans (by show t.val / 4 * 256 + d.val = t.val / 4 * 2 * 128 + d.val; omega))
    refine (G.kA j' b' d).trans (Eq.trans ?_ (Cert.ReferenceIdeal.Hand.keyGrad_at _ _ _ _ R _ _ d).symm)
    exact (congrArg (fun n => upTo n _) r).trans (keyParts _ _ _ d)
  · obtain rfl : j = Attention.col (headB (pairOf t)) d :=
      Fin.ext (hj.trans (by show t.val / 4 * 256 + (128 + d.val) = (t.val / 4 * 2 + 1) * 128 + d.val; omega))
    refine (G.kB j' b' d).trans (Eq.trans ?_ (Cert.ReferenceIdeal.Hand.keyGrad_at _ _ _ _ R _ _ d).symm)
    exact (congrArg (fun n => upTo n _) r).trans (keyParts _ _ _ d)

include R in
theorem value_point (t : Fin cfg0.N) (ht : t.val % 4 = 3) (b : Fin 2048) (k : Fin 256) (j : Fin 1024) (hj : j.val = t.val / 4 * 256 + k.val) :
    (gradsOf m c t).dv (ix2 b k) = refValue m c (ix2 b j) := by
  have G := pairGrads_at m c R t.val t.isLt
  have r : (rowBlock t).val + 1 = 4 := congrArg (· + 1) ht
  obtain ⟨j', b', rfl⟩ := row_of b
  rcases pairCol k with ⟨d, rfl⟩ | ⟨d, rfl⟩
  · obtain rfl : j = Attention.col (headA (pairOf t)) d := Fin.ext (hj.trans (by show t.val / 4 * 256 + d.val = t.val / 4 * 2 * 128 + d.val; omega))
    refine (G.vA j' b' d).trans (Eq.trans ?_ (Cert.ReferenceIdeal.Hand.valueGrad_at _ _ _ _ _ _ d).symm)
    exact (congrArg (fun n => upTo n _) r).trans (valueParts _ _ _ d)
  · obtain rfl : j = Attention.col (headB (pairOf t)) d :=
      Fin.ext (hj.trans (by show t.val / 4 * 256 + (128 + d.val) = (t.val / 4 * 2 + 1) * 128 + d.val; omega))
    refine (G.vB j' b' d).trans (Eq.trans ?_ (Cert.ReferenceIdeal.Hand.valueGrad_at _ _ _ _ _ _ d).symm)
    exact (congrArg (fun n => upTo n _) r).trans (valueParts _ _ _ d)

/-- The parts of all points: the rotary keys' gradient. -/
theorem sharedParts (b : Fin 2048) (d : Fin 64) : ∑ s : Fin cfg0.N, pointPart m c b d s
    = ∑ a, ∑ h, Attention.scoreGrad (argsOf m c) h a b * Attention.rotary (argsOf m c) h a d := by
  refine (sum_points fun p i => sharedPart (argsOf m c) (headA p) b d i + sharedPart (argsOf m c) (headB p) b d i).trans ?_
  have e : ∀ p, ∑ i, (sharedPart (argsOf m c) (headA p) b d i + sharedPart (argsOf m c) (headB p) b d i)
      = (∑ a, Attention.scoreGrad (argsOf m c) (headA p) a b * Attention.rotary (argsOf m c) (headA p) a d)
        + ∑ a, Attention.scoreGrad (argsOf m c) (headB p) a b * Attention.rotary (argsOf m c) (headB p) a d := fun p => by
    rw [Finset.sum_add_distrib]
    exact congrArg₂ (· + ·) (sum_rows fun a => Attention.scoreGrad (argsOf m c) (headA p) a b * Attention.rotary (argsOf m c) (headA p) a d)
      (sum_rows fun a => Attention.scoreGrad (argsOf m c) (headB p) a b * Attention.rotary (argsOf m c) (headB p) a d)
  refine (Finset.sum_congr rfl fun p _ => e p).trans ?_
  refine (sum_heads fun h => ∑ a, Attention.scoreGrad (argsOf m c) h a b * Attention.rotary (argsOf m c) h a d).trans ?_
  exact Finset.sum_comm

include R in
theorem shared_point (t : Fin cfg0.N) (ht : t.val + 1 = 16) (b : Fin 2048) (k : Fin 128) :
    (gradsOf m c t).de (ix2 b k) = refShared m c (ix2 b k) := by
  have G := sharedGrads_at m c R t.val t.isLt
  obtain ⟨j', b', rfl⟩ := row_of b
  by_cases h : k.val < 64
  · obtain ⟨d, rfl⟩ : ∃ d : Fin 64, k = colOfE d := ⟨⟨k.val, h⟩, rfl⟩
    refine (G.e j' b' d).trans (Eq.trans ?_ (Cert.ReferenceIdeal.Hand.sharedGrad_at _ _ _ _ R _ d).symm)
    refine Eq.trans (Finset.sum_congr rfl fun s _ => if_pos ?_) (sharedParts m c _ d)
    show s.val < t.val + 1
    rw [ht]
    exact Nat.lt_of_lt_of_eq s.isLt N_0
  · exact (G.off j' b' k (by omega)).trans (Cert.ReferenceIdeal.Hand.sharedGrad_off _ _ _ _ _ k (by omega)).symm

/-! ## The arrays -/

variable (D : Dat τ (Elt Ideal) Unit ℕ (UR sig nD τ) ℕ cfg0 c)

theorem lt_points (t : Fin cfg0.N) : t.val < 16 := Nat.lt_of_lt_of_eq t.isLt N_0

include R in
theorem query_out (h : ∀ t, D.after 8 t = k0_pay14 (gradsOf m c t).acc.1 (gradsOf m c t).acc.2.2.1) : D.arrAt 8 cfg0.N = refQuery m c := by
  refine D.arrAt_eq_of_covers 8 _ (by decide +kernel) fun t hf y => ?_
  blk_simp
  rw [h]
  idx_vars y
  have ht := lt_points t
  refine (query_point m c R t y0 y1 ⟨t.val % 4 * 512 + y0.val, by omega⟩ ⟨t.val / 4 * 256 + y1.val, by omega⟩ rfl rfl).trans (congrArg (refQuery m c) ?_)
  blk_ext [idx_8 t]

include R in
theorem rotary_out (h : ∀ t, D.after 11 t = k0_pay15 (gradsOf m c t).acc.2.1 (gradsOf m c t).acc.2.2.2) : D.arrAt 11 cfg0.N = refRotary m c := by
  refine D.arrAt_eq_of_covers 11 _ (by decide +kernel) fun t hf y => ?_
  blk_simp
  rw [h]
  idx_vars y
  have ht := lt_points t
  refine (rotary_point m c R t y0 y1 ⟨t.val % 4 * 512 + y0.val, by omega⟩ ⟨t.val / 4 * 128 + y1.val, by omega⟩ rfl rfl).trans (congrArg (refRotary m c) ?_)
  blk_ext [idx_11 t]

include R in
theorem key_out (h : ∀ t, D.after 9 t = (gradsOf m c t).dk) : D.arrAt 9 cfg0.N = refKey m c := by
  refine D.arrAt_eq_of_covers 9 _ (by decide +kernel) fun t hf y => ?_
  have h3 : t.val % 4 = 3 := (by decide +kernel : ∀ t : Fin grid0.N, (win0 9).flush t = true → t.val % 4 = 3) t hf
  blk_simp
  rw [h]
  idx_vars y
  have ht := lt_points t
  refine (key_point m c R t h3 y0 y1 ⟨t.val / 4 * 256 + y1.val, by omega⟩ rfl).trans (congrArg (refKey m c) ?_)
  blk_ext [idx_9 t]

include R in
theorem value_out (h : ∀ t, D.after 10 t = (gradsOf m c t).dv) : D.arrAt 10 cfg0.N = refValue m c := by
  refine D.arrAt_eq_of_covers 10 _ (by decide +kernel) fun t hf y => ?_
  have h3 : t.val % 4 = 3 := (by decide +kernel : ∀ t : Fin grid0.N, (win0 10).flush t = true → t.val % 4 = 3) t hf
  blk_simp
  rw [h]
  idx_vars y
  have ht := lt_points t
  refine (value_point m c R t h3 y0 y1 ⟨t.val / 4 * 256 + y1.val, by omega⟩ rfl).trans (congrArg (refValue m c) ?_)
  blk_ext [idx_10 t]

include R in
theorem shared_out (h : ∀ t, D.after 12 t = (gradsOf m c t).de) : D.arrAt 12 cfg0.N = refShared m c := by
  refine D.arrAt_eq_of_covers 12 _ (by decide +kernel) fun t hf y => ?_
  have h3 : t.val + 1 = 16 := (by decide +kernel : ∀ t : Fin grid0.N, (win0 12).flush t = true → t.val + 1 = 16) t hf
  blk_simp
  rw [h]
  idx_vars y
  refine (shared_point m c R t h3 y0 y1).trans (congrArg (refShared m c) ?_)
  blk_ext [idx_12 t]

end Cert.KernelIdeal.Hand

end
-- ==== Proof.IdealEqual.lean ====
/-
  Every execution leaves the region's arrays at the reference's gradients.
-/
module

public import proofs.«01_k».proof.Proof.IdealFrame
public import proofs.«01_k».proof.Proof.IdealOutputs

@[expose] public section

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem value_run (R : ∀ c, (argsOf m c).Real) : θ_run defs (onTc (τ := τ) (main (F := Ideal))) ⟨m, fun _ => 0, ρ⟩ (fun r => ∀ c : Dev nD,
      r.2.mem ((c.tc : Thread nD τ).loc main_v46_0) = refQuery m c
      ∧ r.2.mem ((c.tc : Thread nD τ).loc main_v46_1) = refKey m c
      ∧ r.2.mem ((c.tc : Thread nD τ).loc main_v46_2) = refValue m c
      ∧ r.2.mem ((c.tc : Thread nD τ).loc main_v46_3) = refRotary m c
      ∧ r.2.mem ((c.tc : Thread nD τ).loc main_v46_4) = refShared m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨((h.1.1 c).1 8).trans (query_out m c (R c) (dats m 0 c) (after_8 m c)), ((h.1.1 c).1 9).trans (key_out m c (R c) (dats m 0 c) (after_9 m c)),
      ((h.1.1 c).1 10).trans (value_out m c (R c) (dats m 0 c) (after_10 m c)), ((h.1.1 c).1 11).trans (rotary_out m c (R c) (dats m 0 c) (after_11 m c)),
      ((h.1.1 c).1 12).trans (shared_out m c (R c) (dats m 0 c) (after_12 m c)), h.2.1 c⟩)
    (θ_run_and (run_main m ρ) (frame_run m ρ))

end Cert.KernelIdeal.Hand

end
-- ==== Proof.Finite.lean ====
/-
  What the precondition says: every entry of the argument arrays is a real number.
-/
module

public import proofs.«01_k».proof.Proof.Attention
public import proofs.«01_k».proof.Pre_finite
public import Idealize.ShloMosaic.Lib.ReduceAll
public import Idealize.ShloMosaic.Lib.Claim

@[expose] public section

set_option maxRecDepth 16384

noncomputable section

namespace Cert.Pre_finite.Hand

open Cert.Pre_finite Idealize.ShloMosaic Idealize.ShloMosaic.TcCoe

variable [Facts]

/-- Below the infinity in absolute value: a real number. -/
theorem real_of_abs (x : EReal) (h : FloatOps.cmpf (F := Ideal) (φ := .f32) .olt (FloatOps.absf (F := Ideal) (φ := .f32) x) (Ideal.ofBits .f32 0x7F800000#32) = 1#1) :
    ∃ r : ℝ, x = r := by
  have top : Ideal.ofBits .f32 0x7F800000#32 = (⊤ : EReal) := by simp [Ideal.ofBits, Ideal.ieee]
  rw [top] at h
  have no : ∀ y : EReal, y = ⊤ → FloatOps.cmpf (F := Ideal) (φ := .f32) .olt (show Ideal .f32 from y) (show Ideal .f32 from (⊤ : EReal)) ≠ 1#1 := by
    rintro _ rfl
    show BitVec.ofBool (decide ((⊤ : EReal) < ⊤)) ≠ 1#1
    rw [decide_eq_false (lt_irrefl _)]
    decide
  induction x with
  | coe r => exact ⟨r, rfl⟩
  | top => exact absurd h (no _ (show max (⊤ : EReal) (-⊤) = ⊤ from max_eq_left le_top))
  | bot => exact absurd h (no _ (show max (⊥ : EReal) (-⊥) = ⊤ by rw [EReal.neg_bot]; exact max_eq_right le_top))

theorem and_left {x y : BitVec 1} (h : x &&& y = 1#1) : x = 1#1 := by
  revert x y; decide
theorem and_right {x y : BitVec 1} (h : x &&& y = 1#1) : y = 1#1 := by
  revert x y; decide

instance : Subsingleton S_.Idx := ⟨fun a b => funext fun i => i.elim0⟩

theorem real (x0 : FVec Ideal S2048x1536 .bf16) (x1 : FVec Ideal S2048x2048 .bf16) (x2 : FVec Ideal S2048x128 .bf16) (x3 : FVec Ideal S2048x1024 .f32)
    (h : fn (F := Ideal) x0 x1 x2 x3 = fun _ => 1#1) : (⟨x0, x1, x2, x3⟩ : Attention.Arrays).Real := by
  have e : fn (F := Ideal) x0 x1 x2 x3 (fun i => i.elim0) = 1#1 := congrFun h _
  unfold fn fn_part1 at e
  have e3 := and_right e
  have e012 := and_left e
  have e2 := and_right e012
  have e01 := and_left e012
  have e1 := and_right e01
  have e0 := and_left e01
  refine ⟨fun i => ?_, fun i => ?_, fun i => ?_, fun i => ?_⟩
  · exact real_of_abs _ (Host.reduce_andi_all _ _ _ _ _ e0 i)
  · exact real_of_abs _ (Host.reduce_andi_all _ _ _ _ _ e1 i)
  · exact real_of_abs _ (Host.reduce_andi_all _ _ _ _ _ e2 i)
  · exact real_of_abs _ (Host.reduce_andi_all _ _ _ _ _ e3 i)

end Cert.Pre_finite.Hand

end
-- ==== Proof.Gate.lean ====
/-
  The gate's product: the array the kernel leaves is the reference's.
-/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.Pipeline (Dat)
open Cert.Reference2Ideal.Read

variable (m : (ℓ : Loc nD τ sig) → Buf (Elt Ideal) ℓ) (c : Dev nD)

/-- The blocks that the grid points read and write. -/
theorem idx_0 : ∀ t : Fin cfg0.N, win0_0.index t = ![t.val / 4, 0] := (by decide +kernel : ∀ t : Fin grid0.N, _)
theorem idx_1 : ∀ t : Fin cfg0.N, win0_1.index t = ![t.val % 4, 0, 0] := (by decide +kernel : ∀ t : Fin grid0.N, _)
theorem idx_2 : ∀ t : Fin cfg0.N, win0_2.index t = ![t.val / 4, t.val % 4] := (by decide +kernel : ∀ t : Fin grid0.N, _)

/-- The weight as the kernel reads it: its halves of rows joined. -/
theorem V_weight : V m c main_v0 = shapeCast S4x2048x1408 (m ((c : Thread nD τ).loc main_arg1)) shapeCasts_S4x2x1024x1408_S4x2048x1408 := by
  show StableHlo.after hostOps0 (fun b => m (c, b)) main_v0 = _
  unfold hostOps0
  after_results_simp
  rfl

/-- A block of the weight. -/
theorem block_1 (t : Fin cfg0.N) (k : Fin 2048) (f : Fin 1408) : iblk m c 1 t (ix3 0 k f)
    = m ((c : Thread nD τ).loc main_arg1) (ix4 ⟨t.val % 4, by omega⟩ ⟨k.val / 1024, by omega⟩ ⟨k.val % 1024, by omega⟩ f) := by
  show V m c main_v0 _ = _
  rw [V_weight]
  refine shapeCast_apply _ _ _ _ (?_ : (S4x2x1024x1408.rowMajor _).val = (S4x2048x1408.rowMajor _).val)
  rw [Shape.rowMajor_val_four, Shape.rowMajor_val_three]
  blk_simp [idx_1 t]
  show ((t.val % 4 * 2 + k.val / 1024) * 1024 + k.val % 1024) * 1408 + f.val = ((t.val % 4 + 0) * 2048 + k.val) * 1408 + f.val
  omega

/-- The array that the kernel leaves is the reference's. -/
theorem out : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1]
  rw [val_main_v5_apply, val_main_v4_apply]
  refine Fin.sum_fin_congr fun k => ?_
  refine congrArg₂ (fun x y : EReal => x * y) ?_ ?_
  · blk_ext [iblk, idx_0 t, idx_2 t]
  · refine (block_1 m c t k y1).trans ?_
    rw [val_main_v3_apply, val_main_v2_apply, val_main_v1_apply]
    refine congrArg (m ((c : Thread nD τ).loc main_arg1)) ?_
    blk_ext [idx_2 t]

end Cert.Kernel2Ideal.Hand

end
-- ==== Proof.GateGrad.lean ====
/-
  The gradient of the gate's weight: the array the kernel leaves is the reference's.
-/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.ShloMosaic.Pipeline (Dat)
open Cert.Reference3Ideal.Read

variable (m : (ℓ : Loc nD τ sig) → Buf (Elt Ideal) ℓ) (c : Dev nD)

/-- The blocks that the grid points read and write. -/
theorem idx_0 : ∀ t : Fin cfg0.N, win0_0.index t = ![0, t.val / 4] := (by decide +kernel : ∀ t : Fin grid0.N, _)
theorem idx_1 : ∀ t : Fin cfg0.N, win0_1.index t = ![0, t.val % 4] := (by decide +kernel : ∀ t : Fin grid0.N, _)
theorem idx_2 : ∀ t : Fin cfg0.N, win0_2.index t = ![t.val / 4, t.val % 4, 0, 0] := (by decide +kernel : ∀ t : Fin grid0.N, _)

/-- The array that the kernel leaves is the reference's. -/
theorem out : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1]
  rw [val_main_v5_apply, val_main_v4_apply, val_main_v3_apply, val_main_v2_apply]
  refine Fin.sum_fin_congr fun k => ?_
  congr 1
  · blk_ext [iblk, idx_0 t, idx_2 t]
  · blk_ext [iblk, idx_1 t, idx_2 t]

end Cert.Kernel3Ideal.Hand

end
-- ==== Proof.DownGrad.lean ====
/-
  The gradient of the down projection's weight: the array the kernel leaves is the reference's.
-/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.ShloMosaic.Pipeline (Dat)
open Cert.Reference4Ideal.Read

variable (m : (ℓ : Loc nD τ sig) → Buf (Elt Ideal) ℓ) (c : Dev nD)

/-- The blocks that the grid points read and write. -/
theorem idx_0 : ∀ t : Fin cfg0.N, win0_0.index t = ![0, t.val / 2] := (by decide +kernel : ∀ t : Fin grid0.N, _)
theorem idx_1 : ∀ t : Fin cfg0.N, win0_1.index t = ![0, t.val % 2] := (by decide +kernel : ∀ t : Fin grid0.N, _)
theorem idx_2 : ∀ t : Fin cfg0.N, win0_2.index t = ![t.val % 2, t.val / 2, 0, 0] := (by decide +kernel : ∀ t : Fin grid0.N, _)

/-- The array that the kernel leaves is the reference's. -/
theorem out : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1]
  rw [val_main_v4_apply, val_main_v3_apply, val_main_v2_apply, val_main_v1_apply]
  refine Fin.sum_fin_congr fun k => ?_
  congr 1
  · blk_ext [iblk, idx_0 t, idx_2 t]
  · blk_ext [iblk, idx_1 t, idx_2 t]

end Cert.Kernel4Ideal.Hand

end
-- ==== Proof.InProj.lean ====
/-
  The input projection: the array the kernel leaves is the reference's product.
-/
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.ShloMosaic.Pipeline (Dat)
open Cert.Reference5Ideal.Read

variable (m : (ℓ : Loc nD τ sig) → Buf (Elt Ideal) ℓ) (c : Dev nD)

/-- The blocks that the grid points read and write. -/
theorem idx_0 : ∀ t : Fin cfg0.N, win0_0.index t = ![t.val / 2, 0] := (by decide +kernel : ∀ t : Fin grid0.N, _)
theorem idx_1 : ∀ t : Fin cfg0.N, win0_1.index t = ![0, t.val % 2] := (by decide +kernel : ∀ t : Fin grid0.N, _)
theorem idx_2 : ∀ t : Fin cfg0.N, win0_2.index t = ![t.val / 2, t.val % 2] := (by decide +kernel : ∀ t : Fin grid0.N, _)

/-- The array that the kernel leaves is the reference's. -/
theorem out : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1]
  rw [val_main_v2_apply]
  refine Fin.sum_fin_congr fun k => ?_
  congr 1
  · blk_ext [iblk, idx_0 t, idx_2 t]
  · blk_ext [iblk, idx_1 t, idx_2 t]

end Cert.Kernel5Ideal.Hand

end
-- ==== Proof.InProjGrad.lean ====
/-
  The gradient of the input projection's weight: the array the kernel leaves is the reference's.
-/
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.ShloMosaic.Pipeline (Dat)
open Cert.Reference6Ideal.Read

variable (m : (ℓ : Loc nD τ sig) → Buf (Elt Ideal) ℓ) (c : Dev nD)

/-- The blocks that the grid points read and write. -/
theorem idx_0 : ∀ t : Fin cfg0.N, win0_0.index t = ![0, t.val / 2] := (by decide +kernel : ∀ t : Fin grid0.N, _)
theorem idx_1 : ∀ t : Fin cfg0.N, win0_1.index t = ![0, t.val % 2] := (by decide +kernel : ∀ t : Fin grid0.N, _)
theorem idx_2 : ∀ t : Fin cfg0.N, win0_2.index t = ![t.val / 2, t.val % 2] := (by decide +kernel : ∀ t : Fin grid0.N, _)

/-- The array that the kernel leaves is the reference's. -/
theorem out : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1]
  rw [val_main_v3_apply, val_main_v2_apply]
  refine Fin.sum_fin_congr fun k => ?_
  congr 1
  · blk_ext [iblk, idx_0 t, idx_2 t]
  · blk_ext [iblk, idx_1 t, idx_2 t]

end Cert.Kernel6Ideal.Hand

end
-- ==== Proof.OutProjGrad.lean ====
/-
  The gradient of the output projection's weight: the array the kernel leaves is the reference's.
-/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.ShloMosaic.Pipeline (Dat)
open Cert.Reference7Ideal.Read

variable (m : (ℓ : Loc nD τ sig) → Buf (Elt Ideal) ℓ) (c : Dev nD)

/-- The blocks that the grid points read and write. -/
theorem idx_0 : ∀ t : Fin cfg0.N, win0_0.index t = ![0, t.val / 2] := (by decide +kernel : ∀ t : Fin grid0.N, _)
theorem idx_1 : ∀ t : Fin cfg0.N, win0_1.index t = ![0, t.val % 2] := (by decide +kernel : ∀ t : Fin grid0.N, _)
theorem idx_2 : ∀ t : Fin cfg0.N, win0_2.index t = ![t.val % 2, t.val / 2, 0, 0] := (by decide +kernel : ∀ t : Fin grid0.N, _)

/-- The array that the kernel leaves is the reference's. -/
theorem out : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1]
  rw [val_main_v4_apply, val_main_v3_apply, val_main_v2_apply, val_main_v1_apply]
  refine Fin.sum_fin_congr fun k => ?_
  congr 1
  · blk_ext [iblk, idx_0 t, idx_2 t]
  · blk_ext [iblk, idx_1 t, idx_2 t]

end Cert.Kernel7Ideal.Hand

end
-- ==== Proof.Ranges.lean ====
/-
  A sum over two or four ranges of equal length.
-/
module

public import Idealize.ShloMosaic.Lib.Pointwise
public import Idealize.ShloMosaic.Lib.Pipeline.ValueKit

@[expose] public section

noncomputable section

namespace Cert.Hand

open Idealize.ShloMosaic

/-- A sum over two ranges. -/
theorem ranges_two {n L : ℕ} (h : 2 * n = L) (f : Fin L → EReal) :
    ∑ k, f k = (∑ k : Fin n, f ⟨0 * n + k.val, by omega⟩) + ∑ k : Fin n, f ⟨1 * n + k.val, by omega⟩ := by
  subst h
  exact (Fin.sum_mul_add_fin (S := 2) (n := n) f).symm.trans (Fin.sum_univ_two _)

/-- A sum over four ranges. -/
theorem ranges_four {n L : ℕ} (h : 4 * n = L) (f : Fin L → EReal) :
    ∑ k, f k = (∑ k : Fin n, f ⟨0 * n + k.val, by omega⟩) + (∑ k : Fin n, f ⟨1 * n + k.val, by omega⟩)
      + (∑ k : Fin n, f ⟨2 * n + k.val, by omega⟩) + ∑ k : Fin n, f ⟨3 * n + k.val, by omega⟩ := by
  subst h
  exact (Fin.sum_mul_add_fin (S := 4) (n := n) f).symm.trans (Fin.sum_univ_four _)

end Cert.Hand

end
-- ==== Proof.Down.lean ====
/-
  The network's product with the third weight, and the residual: the array the kernel leaves is the reference's.
-/
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Pipeline.ReadBack
public import proofs.«01_k».proof.Proof.Ranges

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.ShloMosaic.Pipeline (Dat)
open Cert.Reference8Ideal.Read

variable (m : (ℓ : Loc nD τ sig) → Buf (Elt Ideal) ℓ) (c : Dev nD)

/-- The blocks that the grid points read and write. -/
theorem idx_0 : ∀ t : Fin cfg0.N, win0_0.index t = ![t.val / 8, t.val % 4] := (by decide +kernel : ∀ t : Fin grid0.N, _)
theorem idx_1 : ∀ t : Fin cfg0.N, win0_1.index t = ![t.val % 4, t.val / 4 % 2, 0, 0] := (by decide +kernel : ∀ t : Fin grid0.N, _)
theorem idx_2 : ∀ t : Fin cfg0.N, win0_2.index t = ![t.val / 8, t.val / 4 % 2] := (by decide +kernel : ∀ t : Fin grid0.N, _)
theorem idx_3 : ∀ t : Fin cfg0.N, win0_3.index t = ![t.val / 8, t.val / 4 % 2] := (by decide +kernel : ∀ t : Fin grid0.N, _)

/-- The summand of the reference's product. -/
def summand (i : S2048x2048.Idx) (k : Fin 5632) : EReal :=
  (fun x y : EReal => x * y) (val_main_v0 (F := Ideal) (m ((c : Thread nD τ).loc main_arg0)) (lidx_main_v4 i k)) (val_main_v3 (F := Ideal) (m ((c : Thread nD τ).loc main_arg1)) (ridx_main_v4 i k))

/-- A point's product: a range of the reference's sum. -/
theorem part_at (t : Fin cfg0.N) (i : S2048x2048.Idx) (a : Fin 1024) (b : Fin 1024) (s : Fin 4) (hs : t.val % 4 = s.val)
    (h0 : (i 0).val = t.val / 8 * 1024 + a.val) (h1 : (i 1).val = t.val / 4 % 2 * 1024 + b.val) :
    k0_pay1 (F := Ideal) (iblk m c 0 t) (iblk m c 1 t) (ix2 a b) = ∑ k : Fin 1408, summand m c i ⟨s.val * 1408 + k.val, by omega⟩ := by
  pointwise [k0_pay1]
  refine Fin.sum_fin_congr fun k => ?_
  unfold summand
  refine congrArg₂ (fun x y : EReal => x * y) ?_ ?_
  · refine congrArg (m ((c : Thread nD τ).loc main_arg0)) ?_
    blk_ext [idx_0 t]
  · rw [val_main_v3_apply, val_main_v2_apply, val_main_v1_apply]
    refine congrArg (m ((c : Thread nD τ).loc main_arg1)) ?_
    blk_ext [idx_1 t]

/-- What the first point of a sum leaves in the scratch array. -/
theorem point_first (t : Fin cfg0.N) (h : t.val % 4 = 0) : (outsAt0 m c t.val t.isLt).2 = k0_pay2 (iblk m c 0 t) (iblk m c 1 t) := by
  rw [outsAt0_A m c t (by omega) (by omega) (by omega)]
  frame_out
/-- What a point between leaves there. -/
theorem point_next (t p : Fin cfg0.N) (h : 1 ≤ t.val % 4 ∧ t.val % 4 ≤ 2) (hp : p.val = t.val - 1) :
    (outsAt0 m c t.val t.isLt).2 = k0_pay3 (iblk m c 0 t) (iblk m c 1 t) (outsAt0 m c p.val p.isLt).2 := by
  obtain rfl : p = ⟨t.val - 1, Nat.lt_of_le_of_lt (Nat.sub_le _ _) t.isLt⟩ := Fin.ext hp
  rw [outsAt0_B m c t (by omega) (by omega) (by omega)]
  frame_out
  rw [read_unread_whole]
/-- What the last point writes. -/
theorem point_last (t p : Fin cfg0.N) (h : t.val % 4 = 3) (hp : p.val = t.val - 1) :
    (outsAt0 m c t.val t.isLt).1 = k0_pay4 (iblk m c 0 t) (iblk m c 1 t) (outsAt0 m c p.val p.isLt).2 (iblk m c 2 t) := by
  obtain rfl : p = ⟨t.val - 1, Nat.lt_of_le_of_lt (Nat.sub_le _ _) t.isLt⟩ := Fin.ext hp
  rw [outsAt0_C m c t (by omega) (by omega) (by omega)]
  frame_out
  rw [read_unread_whole]

/-- The first product, entry by entry. -/
theorem pay2_at (x : Vec Ideal S1024x1408 .bf16) (w : Vec Ideal S1x1x1408x1024 .bf16) (i : S1024x1024.Idx) : k0_pay2 (F := Ideal) x w i = k0_pay1 (F := Ideal) x w i := by
  unfold k0_pay2
  exact shapeCast_apply _ _ _ _ rfl
/-- A product added to the scratch array, entry by entry. -/
theorem pay3_at (x : Vec Ideal S1024x1408 .bf16) (w : Vec Ideal S1x1x1408x1024 .bf16) (y : Vec Ideal S1024x1024 .f32) (i : S1024x1024.Idx) : k0_pay3 (F := Ideal) x w y i = y i + k0_pay1 (F := Ideal) x w i := by
  unfold k0_pay3
  exact shapeCast_apply _ _ _ _ rfl
/-- The sum that is written, entry by entry. -/
theorem pay4_at (x : Vec Ideal S1024x1408 .bf16) (w : Vec Ideal S1x1x1408x1024 .bf16) (y z : Vec Ideal S1024x1024 .f32) (i : S1024x1024.Idx) :
    k0_pay4 (F := Ideal) x w y z i = y i + k0_pay1 (F := Ideal) x w i + z i := rfl

/-- The array that the kernel leaves is the reference's. -/
theorem out : (dats m 0 c).arrAt 3 cfg0.N = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 4 = 3 := (flush0_3 t).mp hf
  have hN : t.val < 16 := Nat.lt_of_lt_of_eq t.isLt N_0
  blk_simp
  rw [after0_3]
  idx_vars y
  have e : (((View.whole main_v0).slice (win0_3.rect t)).emb (ix2 y0 y1)) = ix2 ⟨t.val / 8 * 1024 + y0.val, by omega⟩ ⟨t.val / 4 % 2 * 1024 + y1.val, by omega⟩ := by
    blk_ext [idx_3 t]
  rw [e, val_main_v5_apply, val_main_v4_apply]
  have hlt : ∀ d, t.val - d < cfg0.N := fun d => Nat.lt_of_le_of_lt (Nat.sub_le _ _) t.isLt
  rw [point_last m c t ⟨t.val - 1, hlt 1⟩ hm rfl, point_next m c ⟨t.val - 1, hlt 1⟩ ⟨t.val - 2, hlt 2⟩ (by dsimp only; omega) (by dsimp only; omega), point_next m c ⟨t.val - 2, hlt 2⟩ ⟨t.val - 3, hlt 3⟩ (by dsimp only; omega) (by dsimp only; omega),
    point_first m c ⟨t.val - 3, hlt 3⟩ (by dsimp only; omega), pay4_at, pay3_at, pay3_at, pay2_at]
  rw [part_at m c ⟨t.val - 3, hlt 3⟩ (ix2 ⟨t.val / 8 * 1024 + y0.val, by omega⟩ ⟨t.val / 4 % 2 * 1024 + y1.val, by omega⟩) y0 y1 0 (by show (t.val - 3) % 4 = 0; omega) (by show t.val / 8 * 1024 + y0.val = (t.val - 3) / 8 * 1024 + y0.val; omega) (by show t.val / 4 % 2 * 1024 + y1.val = (t.val - 3) / 4 % 2 * 1024 + y1.val; omega),
    part_at m c ⟨t.val - 2, hlt 2⟩ (ix2 ⟨t.val / 8 * 1024 + y0.val, by omega⟩ ⟨t.val / 4 % 2 * 1024 + y1.val, by omega⟩) y0 y1 1 (by show (t.val - 2) % 4 = 1; omega) (by show t.val / 8 * 1024 + y0.val = (t.val - 2) / 8 * 1024 + y0.val; omega) (by show t.val / 4 % 2 * 1024 + y1.val = (t.val - 2) / 4 % 2 * 1024 + y1.val; omega),
    part_at m c ⟨t.val - 1, hlt 1⟩ (ix2 ⟨t.val / 8 * 1024 + y0.val, by omega⟩ ⟨t.val / 4 % 2 * 1024 + y1.val, by omega⟩) y0 y1 2 (by show (t.val - 1) % 4 = 2; omega) (by show t.val / 8 * 1024 + y0.val = (t.val - 1) / 8 * 1024 + y0.val; omega) (by show t.val / 4 % 2 * 1024 + y1.val = (t.val - 1) / 4 % 2 * 1024 + y1.val; omega),
    part_at m c t (ix2 ⟨t.val / 8 * 1024 + y0.val, by omega⟩ ⟨t.val / 4 % 2 * 1024 + y1.val, by omega⟩) y0 y1 3 (by show t.val % 4 = 3; omega) (by show t.val / 8 * 1024 + y0.val = t.val / 8 * 1024 + y0.val; omega) (by show t.val / 4 % 2 * 1024 + y1.val = t.val / 4 % 2 * 1024 + y1.val; omega)]
  refine congrArg₂ (fun x y : EReal => x + y) (Cert.Hand.ranges_four (by norm_num) (summand m c (ix2 ⟨t.val / 8 * 1024 + y0.val, by omega⟩ ⟨t.val / 4 % 2 * 1024 + y1.val, by omega⟩))).symm ?_
  refine congrArg (m ((c : Thread nD τ).loc main_arg2)) ?_
  blk_ext [idx_2 t]

end Cert.Kernel8Ideal.Hand

end
-- ==== Proof.DownBack.lean ====
/-
  The gradient of the third weight's argument: the array the kernel leaves is the reference's.
-/
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Pipeline.ReadBack
public import proofs.«01_k».proof.Proof.Ranges

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic
open Idealize.ShloMosaic.Pipeline (Dat)
open Cert.Reference9Ideal.Read

variable (m : (ℓ : Loc nD τ sig) → Buf (Elt Ideal) ℓ) (c : Dev nD)

/-- The blocks that the grid points read and write. -/
theorem idx_0 : ∀ t : Fin cfg0.N, win0_0.index t = ![t.val / 8, t.val % 2] := (by decide +kernel : ∀ t : Fin grid0.N, _)
theorem idx_1 : ∀ t : Fin cfg0.N, win0_1.index t = ![t.val / 2 % 4, t.val % 2, 0, 0] := (by decide +kernel : ∀ t : Fin grid0.N, _)
theorem idx_2 : ∀ t : Fin cfg0.N, win0_2.index t = ![t.val / 8, t.val / 2 % 4] := (by decide +kernel : ∀ t : Fin grid0.N, _)

/-- The summand of the reference's product. -/
def summand (i : S2048x5632.Idx) (k : Fin 2048) : EReal :=
  (fun x y : EReal => x * y) ((m ((c : Thread nD τ).loc main_arg0)) (lidx_main_v3 i k)) (val_main_v2 (F := Ideal) (m ((c : Thread nD τ).loc main_arg1)) (ridx_main_v3 i k))

/-- A point's product: a range of the reference's sum. -/
theorem part_at (t : Fin cfg0.N) (i : S2048x5632.Idx) (a : Fin 1024) (b : Fin 1408) (s : Fin 2) (hs : t.val % 2 = s.val)
    (h0 : (i 0).val = t.val / 8 * 1024 + a.val) (h1 : (i 1).val = t.val / 2 % 4 * 1408 + b.val) :
    k0_pay1 (F := Ideal) (iblk m c 0 t) (iblk m c 1 t) (ix2 a b) = ∑ k : Fin 1024, summand m c i ⟨s.val * 1024 + k.val, by omega⟩ := by
  pointwise [k0_pay1]
  refine Fin.sum_fin_congr fun k => ?_
  unfold summand
  refine congrArg₂ (fun x y : EReal => x * y) ?_ ?_
  · refine congrArg (m ((c : Thread nD τ).loc main_arg0)) ?_
    blk_ext [idx_0 t]
  · rw [val_main_v2_apply, val_main_v1_apply, val_main_v0_apply]
    refine congrArg (m ((c : Thread nD τ).loc main_arg1)) ?_
    blk_ext [idx_1 t]

/-- What the first point of a sum leaves in the scratch array. -/
theorem point_first (t : Fin cfg0.N) (h : t.val % 2 = 0) : (outsAt0 m c t.val t.isLt).2 = k0_pay2 (iblk m c 0 t) (iblk m c 1 t) := by
  rw [outsAt0_A m c t (by omega) (by omega)]
  frame_out
/-- What the last point writes. -/
theorem point_last (t p : Fin cfg0.N) (h : t.val % 2 = 1) (hp : p.val = t.val - 1) :
    (outsAt0 m c t.val t.isLt).1 = k0_pay4 (iblk m c 0 t) (iblk m c 1 t) (outsAt0 m c p.val p.isLt).2 := by
  obtain rfl : p = ⟨t.val - 1, Nat.lt_of_le_of_lt (Nat.sub_le _ _) t.isLt⟩ := Fin.ext hp
  rw [outsAt0_B m c t (by omega) (by omega)]
  frame_out
  rw [read_unread_whole]

/-- The first product, entry by entry. -/
theorem pay2_at (x : Vec Ideal S1024x1024 .f32) (w : Vec Ideal S1x1x1408x1024 .bf16) (i : S1024x1408.Idx) : k0_pay2 (F := Ideal) x w i = k0_pay1 (F := Ideal) x w i := by
  unfold k0_pay2
  exact shapeCast_apply _ _ _ _ rfl
/-- The sum that is written, entry by entry. -/
theorem pay4_at (x : Vec Ideal S1024x1024 .f32) (w : Vec Ideal S1x1x1408x1024 .bf16) (y : Vec Ideal S1024x1408 .f32) (i : S1024x1408.Idx) :
    k0_pay4 (F := Ideal) x w y i = y i + k0_pay1 (F := Ideal) x w i := rfl

/-- The array that the kernel leaves is the reference's. -/
theorem out : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  have hN : t.val < 16 := Nat.lt_of_lt_of_eq t.isLt N_0
  blk_simp
  rw [after0_2]
  idx_vars y
  have e : (((View.whole main_v0).slice (win0_2.rect t)).emb (ix2 y0 y1)) = ix2 ⟨t.val / 8 * 1024 + y0.val, by omega⟩ ⟨t.val / 2 % 4 * 1408 + y1.val, by omega⟩ := by
    blk_ext [idx_2 t]
  rw [e, val_main_v4_apply, val_main_v3_apply]
  have hlt : ∀ d, t.val - d < cfg0.N := fun d => Nat.lt_of_le_of_lt (Nat.sub_le _ _) t.isLt
  rw [point_last m c t ⟨t.val - 1, hlt 1⟩ hm rfl, point_first m c ⟨t.val - 1, hlt 1⟩ (by dsimp only; omega), pay4_at, pay2_at]
  rw [part_at m c ⟨t.val - 1, hlt 1⟩ (ix2 ⟨t.val / 8 * 1024 + y0.val, by omega⟩ ⟨t.val / 2 % 4 * 1408 + y1.val, by omega⟩) y0 y1 0 (by show (t.val - 1) % 2 = 0; omega) (by show t.val / 8 * 1024 + y0.val = (t.val - 1) / 8 * 1024 + y0.val; omega) (by show t.val / 2 % 4 * 1408 + y1.val = (t.val - 1) / 2 % 4 * 1408 + y1.val; omega),
    part_at m c t (ix2 ⟨t.val / 8 * 1024 + y0.val, by omega⟩ ⟨t.val / 2 % 4 * 1408 + y1.val, by omega⟩) y0 y1 1 (by show t.val % 2 = 1; omega) (by show t.val / 8 * 1024 + y0.val = t.val / 8 * 1024 + y0.val; omega) (by show t.val / 2 % 4 * 1408 + y1.val = t.val / 2 % 4 * 1408 + y1.val; omega)]
  exact (Cert.Hand.ranges_two (by norm_num) (summand m c (ix2 ⟨t.val / 8 * 1024 + y0.val, by omega⟩ ⟨t.val / 2 % 4 * 1408 + y1.val, by omega⟩))).symm

end Cert.Kernel9Ideal.Hand

end
-- ==== Proof.GateBack.lean ====
/-
  The gradient of the first weight's argument: the array the kernel leaves is the reference's.
-/
module

public import proofs.«01_k».proof.Proof.Gen.Kernel10Ideal.Value
public import proofs.«01_k».proof.Proof.Gen.Reference10Ideal.Read
public import Idealize.ShloMosaic.Lib.Pointwise
public import Idealize.ShloMosaic.Lib.Pipeline.ValueKit
public import Idealize.ShloMosaic.Lib.Pipeline.ReadBack
public import proofs.«01_k».proof.Proof.Ranges

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic
open Idealize.ShloMosaic.Pipeline (Dat)
open Cert.Reference10Ideal.Read

variable (m : (ℓ : Loc nD τ sig) → Buf (Elt Ideal) ℓ) (c : Dev nD)

/-- The blocks that the grid points read and write. -/
theorem idx_0 : ∀ t : Fin cfg0.N, win0_0.index t = ![t.val / 8, t.val % 4] := (by decide +kernel : ∀ t : Fin grid0.N, _)
theorem idx_1 : ∀ t : Fin cfg0.N, win0_1.index t = ![t.val % 4, t.val / 4 % 2, 0] := (by decide +kernel : ∀ t : Fin grid0.N, _)
theorem idx_2 : ∀ t : Fin cfg0.N, win0_2.index t = ![t.val / 8, t.val / 4 % 2] := (by decide +kernel : ∀ t : Fin grid0.N, _)

/-- The weight as the kernel reads it: its halves of rows joined. -/
theorem V_weight : V m c main_v0 = shapeCast S4x2048x1408 (m ((c : Thread nD τ).loc main_arg1)) shapeCasts_S4x2x1024x1408_S4x2048x1408 := by
  show StableHlo.after hostOps0 (fun b => m (c, b)) main_v0 = _
  unfold hostOps0
  after_results_simp
  rfl

/-- A block of the weight. -/
theorem block_1 (t : Fin cfg0.N) (r : Fin 1024) (f : Fin 1408) : iblk m c 1 t (ix3 0 r f)
    = m ((c : Thread nD τ).loc main_arg1) (ix4 ⟨t.val % 4, by omega⟩ ⟨t.val / 4 % 2, by omega⟩ r f) := by
  show V m c main_v0 _ = _
  rw [V_weight]
  refine shapeCast_apply _ _ _ _ (?_ : (S4x2x1024x1408.rowMajor _).val = (S4x2048x1408.rowMajor _).val)
  rw [Shape.rowMajor_val_four, Shape.rowMajor_val_three]
  blk_simp [idx_1 t]
  show ((t.val % 4 * 2 + t.val / 4 % 2) * 1024 + r.val) * 1408 + f.val = ((t.val % 4 + 0) * 2048 + (t.val / 4 % 2 * 1024 + r.val)) * 1408 + f.val
  omega

/-- The summand of the reference's product. -/
def summand (i : S2048x2048.Idx) (k : Fin 5632) : EReal :=
  (fun x y : EReal => x * y) (val_main_v0 (F := Ideal) (m ((c : Thread nD τ).loc main_arg0)) (lidx_main_v4 i k)) (val_main_v3 (F := Ideal) (m ((c : Thread nD τ).loc main_arg1)) (ridx_main_v4 i k))

/-- A point's product: a range of the reference's sum. -/
theorem part_at (t : Fin cfg0.N) (i : S2048x2048.Idx) (a : Fin 1024) (b : Fin 1024) (s : Fin 4) (hs : t.val % 4 = s.val)
    (h0 : (i 0).val = t.val / 8 * 1024 + a.val) (h1 : (i 1).val = t.val / 4 % 2 * 1024 + b.val) :
    k0_pay1 (F := Ideal) (iblk m c 0 t) (iblk m c 1 t) (ix2 a b) = ∑ k : Fin 1408, summand m c i ⟨s.val * 1408 + k.val, by omega⟩ := by
  pointwise [k0_pay1]
  refine Fin.sum_fin_congr fun k => ?_
  unfold summand
  refine congrArg₂ (fun x y : EReal => x * y) ?_ ?_
  · refine congrArg (m ((c : Thread nD τ).loc main_arg0)) ?_
    blk_ext [idx_0 t]
  · rw [val_main_v3_apply, val_main_v2_apply, val_main_v1_apply]
    refine (block_1 m c t b k).trans (congrArg (m ((c : Thread nD τ).loc main_arg1)) ?_)
    blk_ext []

/-- What the first point of a sum leaves in the scratch array. -/
theorem point_first (t : Fin cfg0.N) (h : t.val % 4 = 0) : (outsAt0 m c t.val t.isLt).2 = k0_pay2 (iblk m c 0 t) (iblk m c 1 t) := by
  rw [outsAt0_A m c t (by omega) (by omega) (by omega)]
  frame_out
/-- What a point between leaves there. -/
theorem point_next (t p : Fin cfg0.N) (h : 1 ≤ t.val % 4 ∧ t.val % 4 ≤ 2) (hp : p.val = t.val - 1) :
    (outsAt0 m c t.val t.isLt).2 = k0_pay3 (iblk m c 0 t) (iblk m c 1 t) (outsAt0 m c p.val p.isLt).2 := by
  obtain rfl : p = ⟨t.val - 1, Nat.lt_of_le_of_lt (Nat.sub_le _ _) t.isLt⟩ := Fin.ext hp
  rw [outsAt0_B m c t (by omega) (by omega) (by omega)]
  frame_out
  rw [read_unread_whole]
/-- What the last point writes. -/
theorem point_last (t p : Fin cfg0.N) (h : t.val % 4 = 3) (hp : p.val = t.val - 1) :
    (outsAt0 m c t.val t.isLt).1 = k0_pay4 (iblk m c 0 t) (iblk m c 1 t) (outsAt0 m c p.val p.isLt).2 := by
  obtain rfl : p = ⟨t.val - 1, Nat.lt_of_le_of_lt (Nat.sub_le _ _) t.isLt⟩ := Fin.ext hp
  rw [outsAt0_C m c t (by omega) (by omega) (by omega)]
  frame_out
  rw [read_unread_whole]

/-- The first product, entry by entry. -/
theorem pay2_at (x : Vec Ideal S1024x1408 .bf16) (w : Vec Ideal S1x1024x1408 .bf16) (i : S1024x1024.Idx) : k0_pay2 (F := Ideal) x w i = k0_pay1 (F := Ideal) x w i := by
  unfold k0_pay2
  exact shapeCast_apply _ _ _ _ rfl
/-- A product added to the scratch array, entry by entry. -/
theorem pay3_at (x : Vec Ideal S1024x1408 .bf16) (w : Vec Ideal S1x1024x1408 .bf16) (y : Vec Ideal S1024x1024 .f32) (i : S1024x1024.Idx) : k0_pay3 (F := Ideal) x w y i = y i + k0_pay1 (F := Ideal) x w i := by
  unfold k0_pay3
  exact shapeCast_apply _ _ _ _ rfl
/-- The sum that is written, entry by entry. -/
theorem pay4_at (x : Vec Ideal S1024x1408 .bf16) (w : Vec Ideal S1x1024x1408 .bf16) (y : Vec Ideal S1024x1024 .f32) (i : S1024x1024.Idx) :
    k0_pay4 (F := Ideal) x w y i = y i + k0_pay1 (F := Ideal) x w i := rfl

/-- The array that the kernel leaves is the reference's. -/
theorem out : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  have hN : t.val < 16 := Nat.lt_of_lt_of_eq t.isLt N_0
  blk_simp
  rw [after0_2]
  idx_vars y
  have e : (((View.whole main_v1).slice (win0_2.rect t)).emb (ix2 y0 y1)) = ix2 ⟨t.val / 8 * 1024 + y0.val, by omega⟩ ⟨t.val / 4 % 2 * 1024 + y1.val, by omega⟩ := by
    blk_ext [idx_2 t]
  rw [e, val_main_v4_apply]
  have hlt : ∀ d, t.val - d < cfg0.N := fun d => Nat.lt_of_le_of_lt (Nat.sub_le _ _) t.isLt
  rw [point_last m c t ⟨t.val - 1, hlt 1⟩ hm rfl, point_next m c ⟨t.val - 1, hlt 1⟩ ⟨t.val - 2, hlt 2⟩ (by dsimp only; omega) (by dsimp only; omega), point_next m c ⟨t.val - 2, hlt 2⟩ ⟨t.val - 3, hlt 3⟩ (by dsimp only; omega) (by dsimp only; omega),
    point_first m c ⟨t.val - 3, hlt 3⟩ (by dsimp only; omega), pay4_at, pay3_at, pay3_at, pay2_at]
  rw [part_at m c ⟨t.val - 3, hlt 3⟩ (ix2 ⟨t.val / 8 * 1024 + y0.val, by omega⟩ ⟨t.val / 4 % 2 * 1024 + y1.val, by omega⟩) y0 y1 0 (by show (t.val - 3) % 4 = 0; omega) (by show t.val / 8 * 1024 + y0.val = (t.val - 3) / 8 * 1024 + y0.val; omega) (by show t.val / 4 % 2 * 1024 + y1.val = (t.val - 3) / 4 % 2 * 1024 + y1.val; omega),
    part_at m c ⟨t.val - 2, hlt 2⟩ (ix2 ⟨t.val / 8 * 1024 + y0.val, by omega⟩ ⟨t.val / 4 % 2 * 1024 + y1.val, by omega⟩) y0 y1 1 (by show (t.val - 2) % 4 = 1; omega) (by show t.val / 8 * 1024 + y0.val = (t.val - 2) / 8 * 1024 + y0.val; omega) (by show t.val / 4 % 2 * 1024 + y1.val = (t.val - 2) / 4 % 2 * 1024 + y1.val; omega),
    part_at m c ⟨t.val - 1, hlt 1⟩ (ix2 ⟨t.val / 8 * 1024 + y0.val, by omega⟩ ⟨t.val / 4 % 2 * 1024 + y1.val, by omega⟩) y0 y1 2 (by show (t.val - 1) % 4 = 2; omega) (by show t.val / 8 * 1024 + y0.val = (t.val - 1) / 8 * 1024 + y0.val; omega) (by show t.val / 4 % 2 * 1024 + y1.val = (t.val - 1) / 4 % 2 * 1024 + y1.val; omega),
    part_at m c t (ix2 ⟨t.val / 8 * 1024 + y0.val, by omega⟩ ⟨t.val / 4 % 2 * 1024 + y1.val, by omega⟩) y0 y1 3 (by show t.val % 4 = 3; omega) (by show t.val / 8 * 1024 + y0.val = t.val / 8 * 1024 + y0.val; omega) (by show t.val / 4 % 2 * 1024 + y1.val = t.val / 4 % 2 * 1024 + y1.val; omega)]
  exact (Cert.Hand.ranges_four (by norm_num) (summand m c (ix2 ⟨t.val / 8 * 1024 + y0.val, by omega⟩ ⟨t.val / 4 % 2 * 1024 + y1.val, by omega⟩))).symm

end Cert.Kernel10Ideal.Hand

end
-- ==== Proof.UpBack.lean ====
/-
  The gradient of the second weight's argument, added to the first's: the array the kernel leaves is the reference's.
-/
module

public import proofs.«01_k».proof.Proof.Gen.Kernel11Ideal.Value
public import proofs.«01_k».proof.Proof.Gen.Reference11Ideal.Read
public import Idealize.ShloMosaic.Lib.Pointwise
public import Idealize.ShloMosaic.Lib.Pipeline.ValueKit
public import Idealize.ShloMosaic.Lib.Pipeline.ReadBack
public import proofs.«01_k».proof.Proof.Ranges

@[expose] public section

set_option maxRecDepth 16384

noncomputable section

namespace Cert.Kernel11Ideal.Hand

open Cert.Kernel11Ideal Cert.Kernel11Ideal.Gen
open Idealize.ShloMosaic Idealize.ShloMosaic.TcCoe Idealize.ShloMosaic.Tactic
open Idealize.ShloMosaic.Pipeline (Dat)
open Cert.Reference11Ideal.Read

variable (m : (ℓ : Loc nD τ sig) → Buf (Elt Ideal) ℓ) (c : Dev nD)

/-- The blocks that the grid points read and write. -/
theorem idx_0 : ∀ t : Fin cfg0.N, win0_0.index t = ![t.val / 8, t.val % 4] := (by decide +kernel : ∀ t : Fin grid0.N, _)
theorem idx_1 : ∀ t : Fin cfg0.N, win0_1.index t = ![t.val % 4, t.val / 4 % 2, 0] := (by decide +kernel : ∀ t : Fin grid0.N, _)
theorem idx_2 : ∀ t : Fin cfg0.N, win0_2.index t = ![t.val / 8, t.val / 4 % 2] := (by decide +kernel : ∀ t : Fin grid0.N, _)
theorem idx_3 : ∀ t : Fin cfg0.N, win0_3.index t = ![t.val / 8, t.val / 4 % 2] := (by decide +kernel : ∀ t : Fin grid0.N, _)

/-- The weight as the kernel reads it: its halves of rows joined. -/
theorem V_weight : V m c main_v0 = shapeCast S4x2048x1408 (m ((c : Thread nD τ).loc main_arg1)) shapeCasts_S4x2x1024x1408_S4x2048x1408 := by
  show StableHlo.after hostOps0 (fun b => m (c, b)) main_v0 = _
  unfold hostOps0
  after_results_simp
  rfl

/-- A block of the weight. -/
theorem block_1 (t : Fin cfg0.N) (r : Fin 1024) (f : Fin 1408) : iblk m c 1 t (ix3 0 r f)
    = m ((c : Thread nD τ).loc main_arg1) (ix4 ⟨t.val % 4, by omega⟩ ⟨t.val / 4 % 2, by omega⟩ r f) := by
  show V m c main_v0 _ = _
  rw [V_weight]
  refine shapeCast_apply _ _ _ _ (?_ : (S4x2x1024x1408.rowMajor _).val = (S4x2048x1408.rowMajor _).val)
  rw [Shape.rowMajor_val_four, Shape.rowMajor_val_three]
  blk_simp [idx_1 t]
  show ((t.val % 4 * 2 + t.val / 4 % 2) * 1024 + r.val) * 1408 + f.val = ((t.val % 4 + 0) * 2048 + (t.val / 4 % 2 * 1024 + r.val)) * 1408 + f.val
  omega

/-- The summand of the reference's product. -/
def summand (i : S2048x2048.Idx) (k : Fin 5632) : EReal :=
  (fun x y : EReal => x * y) (val_main_v0 (F := Ideal) (m ((c : Thread nD τ).loc main_arg0)) (lidx_main_v4 i k)) (val_main_v3 (F := Ideal) (m ((c : Thread nD τ).loc main_arg1)) (ridx_main_v4 i k))

/-- A point's product: a range of the reference's sum. -/
theorem part_at (t : Fin cfg0.N) (i : S2048x2048.Idx) (a : Fin 1024) (b : Fin 1024) (s : Fin 4) (hs : t.val % 4 = s.val)
    (h0 : (i 0).val = t.val / 8 * 1024 + a.val) (h1 : (i 1).val = t.val / 4 % 2 * 1024 + b.val) :
    k0_pay1 (F := Ideal) (iblk m c 0 t) (iblk m c 1 t) (ix2 a b) = ∑ k : Fin 1408, summand m c i ⟨s.val * 1408 + k.val, by omega⟩ := by
  pointwise [k0_pay1]
  refine Fin.sum_fin_congr fun k => ?_
  unfold summand
  refine congrArg₂ (fun x y : EReal => x * y) ?_ ?_
  · refine congrArg (m ((c : Thread nD τ).loc main_arg0)) ?_
    blk_ext [idx_0 t]
  · rw [val_main_v3_apply, val_main_v2_apply, val_main_v1_apply]
    refine (block_1 m c t b k).trans (congrArg (m ((c : Thread nD τ).loc main_arg1)) ?_)
    blk_ext []

/-- What the first point of a sum leaves in the scratch array. -/
theorem point_first (t : Fin cfg0.N) (h : t.val % 4 = 0) : (outsAt0 m c t.val t.isLt).2 = k0_pay2 (iblk m c 0 t) (iblk m c 1 t) := by
  rw [outsAt0_A m c t (by omega) (by omega) (by omega)]
  frame_out
/-- What a point between leaves there. -/
theorem point_next (t p : Fin cfg0.N) (h : 1 ≤ t.val % 4 ∧ t.val % 4 ≤ 2) (hp : p.val = t.val - 1) :
    (outsAt0 m c t.val t.isLt).2 = k0_pay3 (iblk m c 0 t) (iblk m c 1 t) (outsAt0 m c p.val p.isLt).2 := by
  obtain rfl : p = ⟨t.val - 1, Nat.lt_of_le_of_lt (Nat.sub_le _ _) t.isLt⟩ := Fin.ext hp
  rw [outsAt0_B m c t (by omega) (by omega) (by omega)]
  frame_out
  rw [read_unread_whole]
/-- What the last point writes. -/
theorem point_last (t p : Fin cfg0.N) (h : t.val % 4 = 3) (hp : p.val = t.val - 1) :
    (outsAt0 m c t.val t.isLt).1 = k0_pay4 (iblk m c 0 t) (iblk m c 1 t) (outsAt0 m c p.val p.isLt).2 (iblk m c 2 t) := by
  obtain rfl : p = ⟨t.val - 1, Nat.lt_of_le_of_lt (Nat.sub_le _ _) t.isLt⟩ := Fin.ext hp
  rw [outsAt0_C m c t (by omega) (by omega) (by omega)]
  frame_out
  rw [read_unread_whole]

/-- The first product, entry by entry. -/
theorem pay2_at (x : Vec Ideal S1024x1408 .bf16) (w : Vec Ideal S1x1024x1408 .bf16) (i : S1024x1024.Idx) : k0_pay2 (F := Ideal) x w i = k0_pay1 (F := Ideal) x w i := by
  unfold k0_pay2
  exact shapeCast_apply _ _ _ _ rfl
/-- A product added to the scratch array, entry by entry. -/
theorem pay3_at (x : Vec Ideal S1024x1408 .bf16) (w : Vec Ideal S1x1024x1408 .bf16) (y : Vec Ideal S1024x1024 .f32) (i : S1024x1024.Idx) : k0_pay3 (F := Ideal) x w y i = y i + k0_pay1 (F := Ideal) x w i := by
  unfold k0_pay3
  exact shapeCast_apply _ _ _ _ rfl
/-- The sum that is written, entry by entry. -/
theorem pay4_at (x : Vec Ideal S1024x1408 .bf16) (w : Vec Ideal S1x1024x1408 .bf16) (y z : Vec Ideal S1024x1024 .f32) (i : S1024x1024.Idx) :
    k0_pay4 (F := Ideal) x w y z i = y i + k0_pay1 (F := Ideal) x w i + z i := rfl

/-- The array that the kernel leaves is the reference's. -/
theorem out : (dats m 0 c).arrAt 3 cfg0.N = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 4 = 3 := (flush0_3 t).mp hf
  have hN : t.val < 16 := Nat.lt_of_lt_of_eq t.isLt N_0
  blk_simp
  rw [after0_3]
  idx_vars y
  have e : (((View.whole main_v1).slice (win0_3.rect t)).emb (ix2 y0 y1)) = ix2 ⟨t.val / 8 * 1024 + y0.val, by omega⟩ ⟨t.val / 4 % 2 * 1024 + y1.val, by omega⟩ := by
    blk_ext [idx_3 t]
  rw [e, val_main_v5_apply, val_main_v4_apply]
  have hlt : ∀ d, t.val - d < cfg0.N := fun d => Nat.lt_of_le_of_lt (Nat.sub_le _ _) t.isLt
  rw [point_last m c t ⟨t.val - 1, hlt 1⟩ hm rfl, point_next m c ⟨t.val - 1, hlt 1⟩ ⟨t.val - 2, hlt 2⟩ (by dsimp only; omega) (by dsimp only; omega), point_next m c ⟨t.val - 2, hlt 2⟩ ⟨t.val - 3, hlt 3⟩ (by dsimp only; omega) (by dsimp only; omega),
    point_first m c ⟨t.val - 3, hlt 3⟩ (by dsimp only; omega), pay4_at, pay3_at, pay3_at, pay2_at]
  rw [part_at m c ⟨t.val - 3, hlt 3⟩ (ix2 ⟨t.val / 8 * 1024 + y0.val, by omega⟩ ⟨t.val / 4 % 2 * 1024 + y1.val, by omega⟩) y0 y1 0 (by show (t.val - 3) % 4 = 0; omega) (by show t.val / 8 * 1024 + y0.val = (t.val - 3) / 8 * 1024 + y0.val; omega) (by show t.val / 4 % 2 * 1024 + y1.val = (t.val - 3) / 4 % 2 * 1024 + y1.val; omega),
    part_at m c ⟨t.val - 2, hlt 2⟩ (ix2 ⟨t.val / 8 * 1024 + y0.val, by omega⟩ ⟨t.val / 4 % 2 * 1024 + y1.val, by omega⟩) y0 y1 1 (by show (t.val - 2) % 4 = 1; omega) (by show t.val / 8 * 1024 + y0.val = (t.val - 2) / 8 * 1024 + y0.val; omega) (by show t.val / 4 % 2 * 1024 + y1.val = (t.val - 2) / 4 % 2 * 1024 + y1.val; omega),
    part_at m c ⟨t.val - 1, hlt 1⟩ (ix2 ⟨t.val / 8 * 1024 + y0.val, by omega⟩ ⟨t.val / 4 % 2 * 1024 + y1.val, by omega⟩) y0 y1 2 (by show (t.val - 1) % 4 = 2; omega) (by show t.val / 8 * 1024 + y0.val = (t.val - 1) / 8 * 1024 + y0.val; omega) (by show t.val / 4 % 2 * 1024 + y1.val = (t.val - 1) / 4 % 2 * 1024 + y1.val; omega),
    part_at m c t (ix2 ⟨t.val / 8 * 1024 + y0.val, by omega⟩ ⟨t.val / 4 % 2 * 1024 + y1.val, by omega⟩) y0 y1 3 (by show t.val % 4 = 3; omega) (by show t.val / 8 * 1024 + y0.val = t.val / 8 * 1024 + y0.val; omega) (by show t.val / 4 % 2 * 1024 + y1.val = t.val / 4 % 2 * 1024 + y1.val; omega)]
  refine congrArg₂ (fun x y : EReal => x + y) (Cert.Hand.ranges_four (by norm_num) (summand m c (ix2 ⟨t.val / 8 * 1024 + y0.val, by omega⟩ ⟨t.val / 4 % 2 * 1024 + y1.val, by omega⟩))).symm ?_
  refine congrArg (m ((c : Thread nD τ).loc main_arg2)) ?_
  blk_ext [idx_2 t]

end Cert.Kernel11Ideal.Hand

end
-- ==== Proof.InProjBack.lean ====
/-
  The gradient of the input projection's argument: the array the kernel leaves is the reference's.
-/
module

public import proofs.«01_k».proof.Proof.Gen.Kernel12Ideal.Value
public import proofs.«01_k».proof.Proof.Gen.Reference12Ideal.Read
public import Idealize.ShloMosaic.Lib.Pointwise
public import Idealize.ShloMosaic.Lib.Pipeline.ValueKit

@[expose] public section

set_option maxRecDepth 16384

noncomputable section

namespace Cert.Kernel12Ideal.Hand

open Cert.Kernel12Ideal Cert.Kernel12Ideal.Gen
open Idealize.ShloMosaic Idealize.ShloMosaic.TcCoe Idealize.ShloMosaic.Tactic
open Idealize.ShloMosaic.Pipeline (Dat)
open Cert.Reference12Ideal.Read

variable (m : (ℓ : Loc nD τ sig) → Buf (Elt Ideal) ℓ) (c : Dev nD)

/-- The blocks that the grid points read and write. -/
theorem idx_0 : ∀ t : Fin cfg0.N, win0_0.index t = ![t.val / 2, 0] := (by decide +kernel : ∀ t : Fin grid0.N, _)
theorem idx_1 : ∀ t : Fin cfg0.N, win0_1.index t = ![t.val % 2, 0] := (by decide +kernel : ∀ t : Fin grid0.N, _)
theorem idx_2 : ∀ t : Fin cfg0.N, win0_2.index t = ![t.val / 2, t.val % 2] := (by decide +kernel : ∀ t : Fin grid0.N, _)

/-- The array that the kernel leaves is the reference's. -/
theorem out : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise [k0_pay1]
  rw [val_main_v2_apply]
  refine Fin.sum_fin_congr fun k => ?_
  congr 1
  · blk_ext [iblk, idx_0 t, idx_2 t]
  · blk_ext [iblk, idx_1 t, idx_2 t]

end Cert.Kernel12Ideal.Hand

end
-- ==== Proof.OutProj.lean ====
/-
  The output projection and the residual: the array the kernel leaves is the reference's.
-/
module

public import proofs.«01_k».proof.Proof.Gen.Kernel13Ideal.Value
public import proofs.«01_k».proof.Proof.Gen.Reference13Ideal.Read
public import Idealize.ShloMosaic.Lib.Pointwise
public import Idealize.ShloMosaic.Lib.Pipeline.ValueKit
public import Idealize.ShloMosaic.Lib.Pipeline.ReadBack
public import proofs.«01_k».proof.Proof.Ranges

@[expose] public section

set_option maxRecDepth 16384

noncomputable section

namespace Cert.Kernel13Ideal.Hand

open Cert.Kernel13Ideal Cert.Kernel13Ideal.Gen
open Idealize.ShloMosaic Idealize.ShloMosaic.TcCoe Idealize.ShloMosaic.Tactic
open Idealize.ShloMosaic.Pipeline (Dat)
open Cert.Reference13Ideal.Read

variable (m : (ℓ : Loc nD τ sig) → Buf (Elt Ideal) ℓ) (c : Dev nD)

/-- The blocks that the grid points read and write. -/
theorem idx_0 : ∀ t : Fin cfg0.N, win0_0.index t = ![t.val / 8, t.val % 4] := (by decide +kernel : ∀ t : Fin grid0.N, _)
theorem idx_1 : ∀ t : Fin cfg0.N, win0_1.index t = ![t.val % 4, t.val / 4 % 2, 0, 0] := (by decide +kernel : ∀ t : Fin grid0.N, _)
theorem idx_2 : ∀ t : Fin cfg0.N, win0_2.index t = ![t.val / 8, t.val / 4 % 2] := (by decide +kernel : ∀ t : Fin grid0.N, _)
theorem idx_3 : ∀ t : Fin cfg0.N, win0_3.index t = ![t.val / 8, t.val / 4 % 2] := (by decide +kernel : ∀ t : Fin grid0.N, _)

/-- The summand of the reference's product. -/
def summand (i : S2048x2048.Idx) (k : Fin 2048) : EReal :=
  (fun x y : EReal => x * y) (val_main_v0 (F := Ideal) (m ((c : Thread nD τ).loc main_arg0)) (lidx_main_v4 i k)) (val_main_v3 (F := Ideal) (m ((c : Thread nD τ).loc main_arg1)) (ridx_main_v4 i k))

/-- A point's product: a range of the reference's sum. -/
theorem part_at (t : Fin cfg0.N) (i : S2048x2048.Idx) (a : Fin 1024) (b : Fin 1024) (s : Fin 4) (hs : t.val % 4 = s.val)
    (h0 : (i 0).val = t.val / 8 * 1024 + a.val) (h1 : (i 1).val = t.val / 4 % 2 * 1024 + b.val) :
    k0_pay1 (F := Ideal) (iblk m c 0 t) (iblk m c 1 t) (ix2 a b) = ∑ k : Fin 512, summand m c i ⟨s.val * 512 + k.val, by omega⟩ := by
  pointwise [k0_pay1]
  refine Fin.sum_fin_congr fun k => ?_
  unfold summand
  refine congrArg₂ (fun x y : EReal => x * y) ?_ ?_
  · refine congrArg (m ((c : Thread nD τ).loc main_arg0)) ?_
    blk_ext [idx_0 t]
  · rw [val_main_v3_apply, val_main_v2_apply, val_main_v1_apply]
    refine congrArg (m ((c : Thread nD τ).loc main_arg1)) ?_
    blk_ext [idx_1 t]

/-- What the first point of a sum leaves in the scratch array. -/
theorem point_first (t : Fin cfg0.N) (h : t.val % 4 = 0) : (outsAt0 m c t.val t.isLt).2 = k0_pay2 (iblk m c 0 t) (iblk m c 1 t) := by
  rw [outsAt0_A m c t (by omega) (by omega) (by omega)]
  frame_out
/-- What a point between leaves there. -/
theorem point_next (t p : Fin cfg0.N) (h : 1 ≤ t.val % 4 ∧ t.val % 4 ≤ 2) (hp : p.val = t.val - 1) :
    (outsAt0 m c t.val t.isLt).2 = k0_pay3 (iblk m c 0 t) (iblk m c 1 t) (outsAt0 m c p.val p.isLt).2 := by
  obtain rfl : p = ⟨t.val - 1, Nat.lt_of_le_of_lt (Nat.sub_le _ _) t.isLt⟩ := Fin.ext hp
  rw [outsAt0_B m c t (by omega) (by omega) (by omega)]
  frame_out
  rw [read_unread_whole]
/-- What the last point writes. -/
theorem point_last (t p : Fin cfg0.N) (h : t.val % 4 = 3) (hp : p.val = t.val - 1) :
    (outsAt0 m c t.val t.isLt).1 = k0_pay4 (iblk m c 0 t) (iblk m c 1 t) (outsAt0 m c p.val p.isLt).2 (iblk m c 2 t) := by
  obtain rfl : p = ⟨t.val - 1, Nat.lt_of_le_of_lt (Nat.sub_le _ _) t.isLt⟩ := Fin.ext hp
  rw [outsAt0_C m c t (by omega) (by omega) (by omega)]
  frame_out
  rw [read_unread_whole]

/-- The first product, entry by entry. -/
theorem pay2_at (x : Vec Ideal S1024x512 .bf16) (w : Vec Ideal S1x1x512x1024 .bf16) (i : S1024x1024.Idx) : k0_pay2 (F := Ideal) x w i = k0_pay1 (F := Ideal) x w i := by
  unfold k0_pay2
  exact shapeCast_apply _ _ _ _ rfl
/-- A product added to the scratch array, entry by entry. -/
theorem pay3_at (x : Vec Ideal S1024x512 .bf16) (w : Vec Ideal S1x1x512x1024 .bf16) (y : Vec Ideal S1024x1024 .f32) (i : S1024x1024.Idx) : k0_pay3 (F := Ideal) x w y i = y i + k0_pay1 (F := Ideal) x w i := by
  unfold k0_pay3
  exact shapeCast_apply _ _ _ _ rfl
/-- The sum that is written, entry by entry. -/
theorem pay4_at (x : Vec Ideal S1024x512 .bf16) (w : Vec Ideal S1x1x512x1024 .bf16) (y z : Vec Ideal S1024x1024 .f32) (i : S1024x1024.Idx) :
    k0_pay4 (F := Ideal) x w y z i = y i + k0_pay1 (F := Ideal) x w i + z i := rfl

/-- The array that the kernel leaves is the reference's. -/
theorem out : (dats m 0 c).arrAt 3 cfg0.N = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 4 = 3 := (flush0_3 t).mp hf
  have hN : t.val < 16 := Nat.lt_of_lt_of_eq t.isLt N_0
  blk_simp
  rw [after0_3]
  idx_vars y
  have e : (((View.whole main_v0).slice (win0_3.rect t)).emb (ix2 y0 y1)) = ix2 ⟨t.val / 8 * 1024 + y0.val, by omega⟩ ⟨t.val / 4 % 2 * 1024 + y1.val, by omega⟩ := by
    blk_ext [idx_3 t]
  rw [e, val_main_v5_apply, val_main_v4_apply]
  have hlt : ∀ d, t.val - d < cfg0.N := fun d => Nat.lt_of_le_of_lt (Nat.sub_le _ _) t.isLt
  rw [point_last m c t ⟨t.val - 1, hlt 1⟩ hm rfl, point_next m c ⟨t.val - 1, hlt 1⟩ ⟨t.val - 2, hlt 2⟩ (by dsimp only; omega) (by dsimp only; omega), point_next m c ⟨t.val - 2, hlt 2⟩ ⟨t.val - 3, hlt 3⟩ (by dsimp only; omega) (by dsimp only; omega),
    point_first m c ⟨t.val - 3, hlt 3⟩ (by dsimp only; omega), pay4_at, pay3_at, pay3_at, pay2_at]
  rw [part_at m c ⟨t.val - 3, hlt 3⟩ (ix2 ⟨t.val / 8 * 1024 + y0.val, by omega⟩ ⟨t.val / 4 % 2 * 1024 + y1.val, by omega⟩) y0 y1 0 (by show (t.val - 3) % 4 = 0; omega) (by show t.val / 8 * 1024 + y0.val = (t.val - 3) / 8 * 1024 + y0.val; omega) (by show t.val / 4 % 2 * 1024 + y1.val = (t.val - 3) / 4 % 2 * 1024 + y1.val; omega),
    part_at m c ⟨t.val - 2, hlt 2⟩ (ix2 ⟨t.val / 8 * 1024 + y0.val, by omega⟩ ⟨t.val / 4 % 2 * 1024 + y1.val, by omega⟩) y0 y1 1 (by show (t.val - 2) % 4 = 1; omega) (by show t.val / 8 * 1024 + y0.val = (t.val - 2) / 8 * 1024 + y0.val; omega) (by show t.val / 4 % 2 * 1024 + y1.val = (t.val - 2) / 4 % 2 * 1024 + y1.val; omega),
    part_at m c ⟨t.val - 1, hlt 1⟩ (ix2 ⟨t.val / 8 * 1024 + y0.val, by omega⟩ ⟨t.val / 4 % 2 * 1024 + y1.val, by omega⟩) y0 y1 2 (by show (t.val - 1) % 4 = 2; omega) (by show t.val / 8 * 1024 + y0.val = (t.val - 1) / 8 * 1024 + y0.val; omega) (by show t.val / 4 % 2 * 1024 + y1.val = (t.val - 1) / 4 % 2 * 1024 + y1.val; omega),
    part_at m c t (ix2 ⟨t.val / 8 * 1024 + y0.val, by omega⟩ ⟨t.val / 4 % 2 * 1024 + y1.val, by omega⟩) y0 y1 3 (by show t.val % 4 = 3; omega) (by show t.val / 8 * 1024 + y0.val = t.val / 8 * 1024 + y0.val; omega) (by show t.val / 4 % 2 * 1024 + y1.val = t.val / 4 % 2 * 1024 + y1.val; omega)]
  refine congrArg₂ (fun x y : EReal => x + y) (Cert.Hand.ranges_four (by norm_num) (summand m c (ix2 ⟨t.val / 8 * 1024 + y0.val, by omega⟩ ⟨t.val / 4 % 2 * 1024 + y1.val, by omega⟩))).symm ?_
  refine congrArg (m ((c : Thread nD τ).loc main_arg2)) ?_
  blk_ext [idx_2 t]

end Cert.Kernel13Ideal.Hand

end
-- ==== Proof.OutProjBack.lean ====
/-
  The gradient of the output projection's argument: the array the kernel leaves is the reference's.
-/
module

public import proofs.«01_k».proof.Proof.Gen.Kernel14Ideal.Value
public import proofs.«01_k».proof.Proof.Gen.Reference14Ideal.Read
public import Idealize.ShloMosaic.Lib.Pointwise
public import Idealize.ShloMosaic.Lib.Pipeline.ValueKit
public import Idealize.ShloMosaic.Lib.Pipeline.ReadBack
public import proofs.«01_k».proof.Proof.Ranges

@[expose] public section

set_option maxRecDepth 16384

noncomputable section

namespace Cert.Kernel14Ideal.Hand

open Cert.Kernel14Ideal Cert.Kernel14Ideal.Gen
open Idealize.ShloMosaic Idealize.ShloMosaic.TcCoe Idealize.ShloMosaic.Tactic
open Idealize.ShloMosaic.Pipeline (Dat)
open Cert.Reference14Ideal.Read

variable (m : (ℓ : Loc nD τ sig) → Buf (Elt Ideal) ℓ) (c : Dev nD)

/-- The blocks that the grid points read and write. -/
theorem idx_0 : ∀ t : Fin cfg0.N, win0_0.index t = ![t.val / 8, t.val % 2] := (by decide +kernel : ∀ t : Fin grid0.N, _)
theorem idx_1 : ∀ t : Fin cfg0.N, win0_1.index t = ![t.val / 2 % 4, t.val % 2, 0, 0] := (by decide +kernel : ∀ t : Fin grid0.N, _)
theorem idx_2 : ∀ t : Fin cfg0.N, win0_2.index t = ![t.val / 8, t.val / 2 % 4] := (by decide +kernel : ∀ t : Fin grid0.N, _)

/-- The summand of the reference's product. -/
def summand (i : S2048x2048.Idx) (k : Fin 2048) : EReal :=
  (fun x y : EReal => x * y) ((m ((c : Thread nD τ).loc main_arg0)) (lidx_main_v3 i k)) (val_main_v2 (F := Ideal) (m ((c : Thread nD τ).loc main_arg1)) (ridx_main_v3 i k))

/-- A point's product: a range of the reference's sum. -/
theorem part_at (t : Fin cfg0.N) (i : S2048x2048.Idx) (a : Fin 1024) (b : Fin 512) (s : Fin 2) (hs : t.val % 2 = s.val)
    (h0 : (i 0).val = t.val / 8 * 1024 + a.val) (h1 : (i 1).val = t.val / 2 % 4 * 512 + b.val) :
    k0_pay1 (F := Ideal) (iblk m c 0 t) (iblk m c 1 t) (ix2 a b) = ∑ k : Fin 1024, summand m c i ⟨s.val * 1024 + k.val, by omega⟩ := by
  pointwise [k0_pay1]
  refine Fin.sum_fin_congr fun k => ?_
  unfold summand
  refine congrArg₂ (fun x y : EReal => x * y) ?_ ?_
  · refine congrArg (m ((c : Thread nD τ).loc main_arg0)) ?_
    blk_ext [idx_0 t]
  · rw [val_main_v2_apply, val_main_v1_apply, val_main_v0_apply]
    refine congrArg (m ((c : Thread nD τ).loc main_arg1)) ?_
    blk_ext [idx_1 t]

/-- What the first point of a sum leaves in the scratch array. -/
theorem point_first (t : Fin cfg0.N) (h : t.val % 2 = 0) : (outsAt0 m c t.val t.isLt).2 = k0_pay2 (iblk m c 0 t) (iblk m c 1 t) := by
  rw [outsAt0_A m c t (by omega) (by omega)]
  frame_out
/-- What the last point writes. -/
theorem point_last (t p : Fin cfg0.N) (h : t.val % 2 = 1) (hp : p.val = t.val - 1) :
    (outsAt0 m c t.val t.isLt).1 = k0_pay4 (iblk m c 0 t) (iblk m c 1 t) (outsAt0 m c p.val p.isLt).2 := by
  obtain rfl : p = ⟨t.val - 1, Nat.lt_of_le_of_lt (Nat.sub_le _ _) t.isLt⟩ := Fin.ext hp
  rw [outsAt0_B m c t (by omega) (by omega)]
  frame_out
  rw [read_unread_whole]

/-- The first product, entry by entry. -/
theorem pay2_at (x : Vec Ideal S1024x1024 .f32) (w : Vec Ideal S1x1x512x1024 .bf16) (i : S1024x512.Idx) : k0_pay2 (F := Ideal) x w i = k0_pay1 (F := Ideal) x w i := by
  unfold k0_pay2
  exact shapeCast_apply _ _ _ _ rfl
/-- The sum that is written, entry by entry. -/
theorem pay4_at (x : Vec Ideal S1024x1024 .f32) (w : Vec Ideal S1x1x512x1024 .bf16) (y : Vec Ideal S1024x512 .f32) (i : S1024x512.Idx) :
    k0_pay4 (F := Ideal) x w y i = y i + k0_pay1 (F := Ideal) x w i := rfl

/-- The array that the kernel leaves is the reference's. -/
theorem out : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  have hN : t.val < 16 := Nat.lt_of_lt_of_eq t.isLt N_0
  blk_simp
  rw [after0_2]
  idx_vars y
  have e : (((View.whole main_v0).slice (win0_2.rect t)).emb (ix2 y0 y1)) = ix2 ⟨t.val / 8 * 1024 + y0.val, by omega⟩ ⟨t.val / 2 % 4 * 512 + y1.val, by omega⟩ := by
    blk_ext [idx_2 t]
  rw [e, val_main_v3_apply]
  have hlt : ∀ d, t.val - d < cfg0.N := fun d => Nat.lt_of_le_of_lt (Nat.sub_le _ _) t.isLt
  rw [point_last m c t ⟨t.val - 1, hlt 1⟩ hm rfl, point_first m c ⟨t.val - 1, hlt 1⟩ (by dsimp only; omega), pay4_at, pay2_at]
  rw [part_at m c ⟨t.val - 1, hlt 1⟩ (ix2 ⟨t.val / 8 * 1024 + y0.val, by omega⟩ ⟨t.val / 2 % 4 * 512 + y1.val, by omega⟩) y0 y1 0 (by show (t.val - 1) % 2 = 0; omega) (by show t.val / 8 * 1024 + y0.val = (t.val - 1) / 8 * 1024 + y0.val; omega) (by show t.val / 2 % 4 * 512 + y1.val = (t.val - 1) / 2 % 4 * 512 + y1.val; omega),
    part_at m c t (ix2 ⟨t.val / 8 * 1024 + y0.val, by omega⟩ ⟨t.val / 2 % 4 * 512 + y1.val, by omega⟩) y0 y1 1 (by show t.val % 2 = 1; omega) (by show t.val / 8 * 1024 + y0.val = t.val / 8 * 1024 + y0.val; omega) (by show t.val / 2 % 4 * 512 + y1.val = t.val / 2 % 4 * 512 + y1.val; omega)]
  exact (Cert.Hand.ranges_two (by norm_num) (summand m c (ix2 ⟨t.val / 8 * 1024 + y0.val, by omega⟩ ⟨t.val / 2 % 4 * 512 + y1.val, by omega⟩))).symm

end Cert.Kernel14Ideal.Hand

end
-- ==== Proof.Products.lean ====
/-
  The claims of the matrix products: each program's array is its reference's, and each reference leaves its arguments.
-/
module

public import proofs.«01_k».proof.Defs
public import proofs.«01_k».proof.Proof.Gen.Kernel2.Frame
public import proofs.«01_k».proof.Proof.Gen.Reference2Ideal.Run
public import proofs.«01_k».proof.Proof.Gate
public import proofs.«01_k».proof.Proof.Gen.Kernel3.Frame
public import proofs.«01_k».proof.Proof.Gen.Reference3Ideal.Run
public import proofs.«01_k».proof.Proof.GateGrad
public import proofs.«01_k».proof.Proof.Gen.Kernel4.Frame
public import proofs.«01_k».proof.Proof.Gen.Reference4Ideal.Run
public import proofs.«01_k».proof.Proof.DownGrad
public import proofs.«01_k».proof.Proof.Gen.Kernel5.Frame
public import proofs.«01_k».proof.Proof.Gen.Reference5Ideal.Run
public import proofs.«01_k».proof.Proof.InProj
public import proofs.«01_k».proof.Proof.Gen.Kernel6.Frame
public import proofs.«01_k».proof.Proof.Gen.Reference6Ideal.Run
public import proofs.«01_k».proof.Proof.InProjGrad
public import proofs.«01_k».proof.Proof.Gen.Kernel7.Frame
public import proofs.«01_k».proof.Proof.Gen.Reference7Ideal.Run
public import proofs.«01_k».proof.Proof.OutProjGrad
public import proofs.«01_k».proof.Proof.Gen.Kernel8.Frame
public import proofs.«01_k».proof.Proof.Gen.Reference8Ideal.Run
public import proofs.«01_k».proof.Proof.Down
public import proofs.«01_k».proof.Proof.Gen.Kernel9.Frame
public import proofs.«01_k».proof.Proof.Gen.Reference9Ideal.Run
public import proofs.«01_k».proof.Proof.DownBack
public import proofs.«01_k».proof.Proof.Gen.Kernel10.Frame
public import proofs.«01_k».proof.Proof.Gen.Reference10Ideal.Run
public import proofs.«01_k».proof.Proof.GateBack
public import proofs.«01_k».proof.Proof.Gen.Kernel11.Frame
public import proofs.«01_k».proof.Proof.Gen.Reference11Ideal.Run
public import proofs.«01_k».proof.Proof.UpBack
public import proofs.«01_k».proof.Proof.Gen.Kernel12.Frame
public import proofs.«01_k».proof.Proof.Gen.Reference12Ideal.Run
public import proofs.«01_k».proof.Proof.InProjBack
public import proofs.«01_k».proof.Proof.Gen.Kernel13.Frame
public import proofs.«01_k».proof.Proof.Gen.Reference13Ideal.Run
public import proofs.«01_k».proof.Proof.OutProj
public import proofs.«01_k».proof.Proof.Gen.Kernel14.Frame
public import proofs.«01_k».proof.Proof.Gen.Reference14Ideal.Run
public import proofs.«01_k».proof.Proof.OutProjBack
public import Idealize.ShloMosaic.Lib.Quiescent

@[expose] public section

noncomputable section

namespace Cert.Proof

open Idealize.ShloMosaic Idealize.ShloMosaic.TcCoe Idealize.SL.Sem

/-- The reference leaves its arguments. -/
theorem reference2_frame : Cert.quiescent_Reference2Ideal := fun m ρ _ =>
  (θ_run _ _ _).mono (fun r h => ⟨fun c => (h c).2, sem_eq_zero_of_no_sems rfl r.2⟩) (Cert.Reference2Ideal.Value.run m ρ)

/-- Kernel and reference compute the same product. -/
theorem equal2 : Cert.algebraic_Kernel2Ideal_Reference2Ideal := by
  intro m g m' g' _ E
  refine ⟨fun c => Cert.Reference2Ideal.Read.val_main_v5 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run _ _ _).mono (fun r h c => ⟨(h c).1.trans (Cert.Kernel2Ideal.Hand.out m c), (h c).2⟩) (Cert.Kernel2Ideal.Value.run_blocks m g),
    (θ_run _ _ _).mono (fun r h c => ?_) (Cert.Reference2Ideal.Value.run m' g')⟩
  obtain ⟨e0, e1⟩ := E c
  refine ⟨(h c).1.trans ((Cert.Reference2Ideal.Read.val_main_v5_eq _ _).trans ?_), (h c).2⟩
  rw [e0, e1]

/-- The reference leaves its arguments. -/
theorem reference3_frame : Cert.quiescent_Reference3Ideal := fun m ρ _ =>
  (θ_run _ _ _).mono (fun r h => ⟨fun c => (h c).2, sem_eq_zero_of_no_sems rfl r.2⟩) (Cert.Reference3Ideal.Value.run m ρ)

/-- Kernel and reference compute the same product. -/
theorem equal3 : Cert.algebraic_Kernel3Ideal_Reference3Ideal := by
  intro m g m' g' _ E
  refine ⟨fun c => Cert.Reference3Ideal.Read.val_main_v5 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run _ _ _).mono (fun r h c => ⟨(h c).1.trans (Cert.Kernel3Ideal.Hand.out m c), (h c).2⟩) (Cert.Kernel3Ideal.Value.run_blocks m g),
    (θ_run _ _ _).mono (fun r h c => ?_) (Cert.Reference3Ideal.Value.run m' g')⟩
  obtain ⟨e0, e1⟩ := E c
  refine ⟨(h c).1.trans ((Cert.Reference3Ideal.Read.val_main_v5_eq _ _).trans ?_), (h c).2⟩
  rw [e0, e1]

/-- The reference leaves its arguments. -/
theorem reference4_frame : Cert.quiescent_Reference4Ideal := fun m ρ _ =>
  (θ_run _ _ _).mono (fun r h => ⟨fun c => (h c).2, sem_eq_zero_of_no_sems rfl r.2⟩) (Cert.Reference4Ideal.Value.run m ρ)

/-- Kernel and reference compute the same product. -/
theorem equal4 : Cert.algebraic_Kernel4Ideal_Reference4Ideal := by
  intro m g m' g' _ E
  refine ⟨fun c => Cert.Reference4Ideal.Read.val_main_v4 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run _ _ _).mono (fun r h c => ⟨(h c).1.trans (Cert.Kernel4Ideal.Hand.out m c), (h c).2⟩) (Cert.Kernel4Ideal.Value.run_blocks m g),
    (θ_run _ _ _).mono (fun r h c => ?_) (Cert.Reference4Ideal.Value.run m' g')⟩
  obtain ⟨e0, e1⟩ := E c
  refine ⟨(h c).1.trans ((Cert.Reference4Ideal.Read.val_main_v4_eq _ _).trans ?_), (h c).2⟩
  rw [e0, e1]

/-- The reference leaves its arguments. -/
theorem reference5_frame : Cert.quiescent_Reference5Ideal := fun m ρ _ =>
  (θ_run _ _ _).mono (fun r h => ⟨fun c => (h c).2, sem_eq_zero_of_no_sems rfl r.2⟩) (Cert.Reference5Ideal.Value.run m ρ)

/-- Kernel and reference compute the same product. -/
theorem equal5 : Cert.algebraic_Kernel5Ideal_Reference5Ideal := by
  intro m g m' g' _ E
  refine ⟨fun c => Cert.Reference5Ideal.Read.val_main_v2 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run _ _ _).mono (fun r h c => ⟨(h c).1.trans (Cert.Kernel5Ideal.Hand.out m c), (h c).2⟩) (Cert.Kernel5Ideal.Value.run_blocks m g),
    (θ_run _ _ _).mono (fun r h c => ?_) (Cert.Reference5Ideal.Value.run m' g')⟩
  obtain ⟨e0, e1⟩ := E c
  refine ⟨(h c).1.trans ((Cert.Reference5Ideal.Read.val_main_v2_eq _ _).trans ?_), (h c).2⟩
  rw [e0, e1]

/-- The reference leaves its arguments. -/
theorem reference6_frame : Cert.quiescent_Reference6Ideal := fun m ρ _ =>
  (θ_run _ _ _).mono (fun r h => ⟨fun c => (h c).2, sem_eq_zero_of_no_sems rfl r.2⟩) (Cert.Reference6Ideal.Value.run m ρ)

/-- Kernel and reference compute the same product. -/
theorem equal6 : Cert.algebraic_Kernel6Ideal_Reference6Ideal := by
  intro m g m' g' _ E
  refine ⟨fun c => Cert.Reference6Ideal.Read.val_main_v3 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run _ _ _).mono (fun r h c => ⟨(h c).1.trans (Cert.Kernel6Ideal.Hand.out m c), (h c).2⟩) (Cert.Kernel6Ideal.Value.run_blocks m g),
    (θ_run _ _ _).mono (fun r h c => ?_) (Cert.Reference6Ideal.Value.run m' g')⟩
  obtain ⟨e0, e1⟩ := E c
  refine ⟨(h c).1.trans ((Cert.Reference6Ideal.Read.val_main_v3_eq _ _).trans ?_), (h c).2⟩
  rw [e0, e1]

/-- The reference leaves its arguments. -/
theorem reference7_frame : Cert.quiescent_Reference7Ideal := fun m ρ _ =>
  (θ_run _ _ _).mono (fun r h => ⟨fun c => (h c).2, sem_eq_zero_of_no_sems rfl r.2⟩) (Cert.Reference7Ideal.Value.run m ρ)

/-- Kernel and reference compute the same product. -/
theorem equal7 : Cert.algebraic_Kernel7Ideal_Reference7Ideal := by
  intro m g m' g' _ E
  refine ⟨fun c => Cert.Reference7Ideal.Read.val_main_v4 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run _ _ _).mono (fun r h c => ⟨(h c).1.trans (Cert.Kernel7Ideal.Hand.out m c), (h c).2⟩) (Cert.Kernel7Ideal.Value.run_blocks m g),
    (θ_run _ _ _).mono (fun r h c => ?_) (Cert.Reference7Ideal.Value.run m' g')⟩
  obtain ⟨e0, e1⟩ := E c
  refine ⟨(h c).1.trans ((Cert.Reference7Ideal.Read.val_main_v4_eq _ _).trans ?_), (h c).2⟩
  rw [e0, e1]

/-- The reference leaves its arguments. -/
theorem reference8_frame : Cert.quiescent_Reference8Ideal := fun m ρ _ =>
  (θ_run _ _ _).mono (fun r h => ⟨fun c => (h c).2, sem_eq_zero_of_no_sems rfl r.2⟩) (Cert.Reference8Ideal.Value.run m ρ)

/-- Kernel and reference compute the same product. -/
theorem equal8 : Cert.algebraic_Kernel8Ideal_Reference8Ideal := by
  intro m g m' g' _ E
  refine ⟨fun c => Cert.Reference8Ideal.Read.val_main_v5 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    (θ_run _ _ _).mono (fun r h c => ⟨(h c).1.trans (Cert.Kernel8Ideal.Hand.out m c), (h c).2⟩) (Cert.Kernel8Ideal.Value.run_blocks m g),
    (θ_run _ _ _).mono (fun r h c => ?_) (Cert.Reference8Ideal.Value.run m' g')⟩
  obtain ⟨e0, e1, e2⟩ := E c
  refine ⟨(h c).1.trans ((Cert.Reference8Ideal.Read.val_main_v5_eq _ _ _).trans ?_), (h c).2⟩
  rw [e0, e1, e2]

/-- The reference leaves its arguments. -/
theorem reference9_frame : Cert.quiescent_Reference9Ideal := fun m ρ _ =>
  (θ_run _ _ _).mono (fun r h => ⟨fun c => (h c).2, sem_eq_zero_of_no_sems rfl r.2⟩) (Cert.Reference9Ideal.Value.run m ρ)

/-- Kernel and reference compute the same product. -/
theorem equal9 : Cert.algebraic_Kernel9Ideal_Reference9Ideal := by
  intro m g m' g' _ E
  refine ⟨fun c => Cert.Reference9Ideal.Read.val_main_v4 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run _ _ _).mono (fun r h c => ⟨(h c).1.trans (Cert.Kernel9Ideal.Hand.out m c), (h c).2⟩) (Cert.Kernel9Ideal.Value.run_blocks m g),
    (θ_run _ _ _).mono (fun r h c => ?_) (Cert.Reference9Ideal.Value.run m' g')⟩
  obtain ⟨e0, e1⟩ := E c
  refine ⟨(h c).1.trans ((Cert.Reference9Ideal.Read.val_main_v4_eq _ _).trans ?_), (h c).2⟩
  rw [e0, e1]

/-- The reference leaves its arguments. -/
theorem reference10_frame : Cert.quiescent_Reference10Ideal := fun m ρ _ =>
  (θ_run _ _ _).mono (fun r h => ⟨fun c => (h c).2, sem_eq_zero_of_no_sems rfl r.2⟩) (Cert.Reference10Ideal.Value.run m ρ)

/-- Kernel and reference compute the same product. -/
theorem equal10 : Cert.algebraic_Kernel10Ideal_Reference10Ideal := by
  intro m g m' g' _ E
  refine ⟨fun c => Cert.Reference10Ideal.Read.val_main_v4 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run _ _ _).mono (fun r h c => ⟨(h c).1.trans (Cert.Kernel10Ideal.Hand.out m c), (h c).2⟩) (Cert.Kernel10Ideal.Value.run_blocks m g),
    (θ_run _ _ _).mono (fun r h c => ?_) (Cert.Reference10Ideal.Value.run m' g')⟩
  obtain ⟨e0, e1⟩ := E c
  refine ⟨(h c).1.trans ((Cert.Reference10Ideal.Read.val_main_v4_eq _ _).trans ?_), (h c).2⟩
  rw [e0, e1]

/-- The reference leaves its arguments. -/
theorem reference11_frame : Cert.quiescent_Reference11Ideal := fun m ρ _ =>
  (θ_run _ _ _).mono (fun r h => ⟨fun c => (h c).2, sem_eq_zero_of_no_sems rfl r.2⟩) (Cert.Reference11Ideal.Value.run m ρ)

/-- Kernel and reference compute the same product. -/
theorem equal11 : Cert.algebraic_Kernel11Ideal_Reference11Ideal := by
  intro m g m' g' _ E
  refine ⟨fun c => Cert.Reference11Ideal.Read.val_main_v5 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)),
    (θ_run _ _ _).mono (fun r h c => ⟨(h c).1.trans (Cert.Kernel11Ideal.Hand.out m c), (h c).2⟩) (Cert.Kernel11Ideal.Value.run_blocks m g),
    (θ_run _ _ _).mono (fun r h c => ?_) (Cert.Reference11Ideal.Value.run m' g')⟩
  obtain ⟨e0, e1, e2⟩ := E c
  refine ⟨(h c).1.trans ((Cert.Reference11Ideal.Read.val_main_v5_eq _ _ _).trans ?_), (h c).2⟩
  rw [e0, e1, e2]

/-- The reference leaves its arguments. -/
theorem reference12_frame : Cert.quiescent_Reference12Ideal := fun m ρ _ =>
  (θ_run _ _ _).mono (fun r h => ⟨fun c => (h c).2, sem_eq_zero_of_no_sems rfl r.2⟩) (Cert.Reference12Ideal.Value.run m ρ)

/-- Kernel and reference compute the same product. -/
theorem equal12 : Cert.algebraic_Kernel12Ideal_Reference12Ideal := by
  intro m g m' g' _ E
  refine ⟨fun c => Cert.Reference12Ideal.Read.val_main_v2 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run _ _ _).mono (fun r h c => ⟨(h c).1.trans (Cert.Kernel12Ideal.Hand.out m c), (h c).2⟩) (Cert.Kernel12Ideal.Value.run_blocks m g),
    (θ_run _ _ _).mono (fun r h c => ?_) (Cert.Reference12Ideal.Value.run m' g')⟩
  obtain ⟨e0, e1⟩ := E c
  refine ⟨(h c).1.trans ((Cert.Reference12Ideal.Read.val_main_v2_eq _ _).trans ?_), (h c).2⟩
  rw [e0, e1]

/-- The reference leaves its arguments. -/
theorem reference13_frame : Cert.quiescent_Reference13Ideal := fun m ρ _ =>
  (θ_run _ _ _).mono (fun r h => ⟨fun c => (h c).2, sem_eq_zero_of_no_sems rfl r.2⟩) (Cert.Reference13Ideal.Value.run m ρ)

/-- Kernel and reference compute the same product. -/
theorem equal13 : Cert.algebraic_Kernel13Ideal_Reference13Ideal := by
  intro m g m' g' _ E
  refine ⟨fun c => Cert.Reference13Ideal.Read.val_main_v5 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    (θ_run _ _ _).mono (fun r h c => ⟨(h c).1.trans (Cert.Kernel13Ideal.Hand.out m c), (h c).2⟩) (Cert.Kernel13Ideal.Value.run_blocks m g),
    (θ_run _ _ _).mono (fun r h c => ?_) (Cert.Reference13Ideal.Value.run m' g')⟩
  obtain ⟨e0, e1, e2⟩ := E c
  refine ⟨(h c).1.trans ((Cert.Reference13Ideal.Read.val_main_v5_eq _ _ _).trans ?_), (h c).2⟩
  rw [e0, e1, e2]

/-- The reference leaves its arguments. -/
theorem reference14_frame : Cert.quiescent_Reference14Ideal := fun m ρ _ =>
  (θ_run _ _ _).mono (fun r h => ⟨fun c => (h c).2, sem_eq_zero_of_no_sems rfl r.2⟩) (Cert.Reference14Ideal.Value.run m ρ)

/-- Kernel and reference compute the same product. -/
theorem equal14 : Cert.algebraic_Kernel14Ideal_Reference14Ideal := by
  intro m g m' g' _ E
  refine ⟨fun c => Cert.Reference14Ideal.Read.val_main_v3 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run _ _ _).mono (fun r h c => ⟨(h c).1.trans (Cert.Kernel14Ideal.Hand.out m c), (h c).2⟩) (Cert.Kernel14Ideal.Value.run_blocks m g),
    (θ_run _ _ _).mono (fun r h c => ?_) (Cert.Reference14Ideal.Value.run m' g')⟩
  obtain ⟨e0, e1⟩ := E c
  refine ⟨(h c).1.trans ((Cert.Reference14Ideal.Read.val_main_v3_eq _ _).trans ?_), (h c).2⟩
  rw [e0, e1]

end Cert.Proof

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.IdealEqual
public import proofs.«01_k».proof.Proof.BitsFrame
public import proofs.«01_k».proof.Proof.Finite
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Products
public import Idealize.ShloMosaic.Lib.Quiescent

@[expose] public section

noncomputable section

namespace Cert.Proof

open Idealize.ShloMosaic Idealize.ShloMosaic.TcCoe Idealize.SL.Sem

/-- The reference leaves its arguments, and it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2.2.2.2.2, sem_eq_zero_of_no_sems rfl r.2⟩) (Cert.ReferenceIdeal.Value.run m ρ)

/-- Kernel and reference compute the same gradients. -/
theorem equal : Cert.algebraic_KernelIdeal_ReferenceIdeal_pre_finite := by
  intro m g m' g' P E
  have R : ∀ c, (Cert.KernelIdeal.Hand.argsOf m c).Real := fun c => Cert.Pre_finite.Hand.real _ _ _ _ (P c)
  refine ⟨Cert.KernelIdeal.Hand.refQuery m, Cert.KernelIdeal.Hand.refKey m, Cert.KernelIdeal.Hand.refValue m, Cert.KernelIdeal.Hand.refRotary m,
    Cert.KernelIdeal.Hand.refShared m, Cert.KernelIdeal.Hand.value_run m g R, ?_⟩
  refine (θ_run _ _ _).mono (fun r h c => ?_) (Cert.ReferenceIdeal.Value.run m' g')
  obtain ⟨h0, h1, h2, h3, h4, hargs⟩ := h c
  obtain ⟨e0, e1, e2, e3⟩ := E c
  refine ⟨h0.trans ((Cert.ReferenceIdeal.Read.val_main_v92_eq m' c).trans ?_), h1.trans ((Cert.ReferenceIdeal.Read.val_main_v90_eq m' c).trans ?_),
    h2.trans ((Cert.ReferenceIdeal.Read.val_main_v65_eq m' c).trans ?_), h3.trans ((Cert.ReferenceIdeal.Read.val_main_v85_eq m' c).trans ?_),
    h4.trans ((Cert.ReferenceIdeal.Read.val_main_v84_eq m' c).trans ?_), hargs⟩ <;> rw [e0, e1, e2, e3]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts,
    fun m ρ _ => Cert.Kernel.Hand.frame_run m ρ,
    fun m ρ _ => Cert.KernelIdeal.Hand.frame_run m ρ,
    fun m ρ _ => Cert.KernelIdeal.Hand.frame_run m ρ,
    fun m ρ _ => reference_frame m ρ,
    fun m ρ _ => reference_frame m ρ,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, reference12_frame,
    fun m ρ _ => Cert.Kernel13.Gen.frame m ρ, fun m ρ _ => Cert.Kernel13Ideal.Gen.frame m ρ, reference13_frame,
    fun m ρ _ => Cert.Kernel14.Gen.frame m ρ, fun m ρ _ => Cert.Kernel14Ideal.Gen.frame m ρ, reference14_frame,
    IdealRules.named_const.statement Cert.KernelIdeal.κ "mask" .f32 0xF149F2CA#32 ⊥ rfl,
    equal, equal2, equal3, equal4, equal5, equal6, equal7, equal8, equal9, equal10, equal11, equal12, equal13, equal14⟩

end Cert.Proof

end
